-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x2x48x48x48 : Shape := ⟨5, ![4, 2, 48, 48, 48]⟩
abbrev S32x2x3x3 : Shape := ⟨4, ![32, 2, 3, 3]⟩
abbrev S32 : Shape := ⟨1, ![32]⟩
abbrev S_ : Shape := ⟨0, ![]⟩

class Facts : Prop where
  bcast_S_S32x2x3x3 : S_.BroadcastsInDim S32x2x3x3 (![] : Fin 0 → Fin S32x2x3x3.rank)
  reducesTo_S32x2x3x3_S_d0_1_2_3 : S32x2x3x3.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S4x2x48x48x48 .f32) (main_arg1 : FVec F S32x2x3x3 .f32) (main_arg2 : FVec F S32 .f32) : IVec S_ 1 :=
  let main_cst : FVec F S_ .f32 := constant S_ .f32 0x3F800000#32
  let main_v0 : FVec F S32x2x3x3 .f32 := broadcastInDim S32x2x3x3 ![] bcast_S_S32x2x3x3 main_cst
  let main_v1 : IVec S32x2x3x3 1 := cmpf .ole main_arg1 main_v0
  let main_c : IVec S_ 1 := constantI S_ 1 1#1
  let main_v2 : IVec S_ 1 := (fun x v => Host.reduce IntOp.andi x v reducesTo_S32x2x3x3_S_d0_1_2_3 h_S_) main_v1 main_c
  let main_cst_0 : FVec F S_ .f32 := constant S_ .f32 0x40ACCCCD#32
  let main_v3 : FVec F S32 .f32 := broadcastInDim S32 ![] bcast_S_S32 main_cst_0
  let main_v4 : IVec S32 1 := cmpf .ole main_arg2 main_v3
  let main_c_1 : IVec S_ 1 := constantI S_ 1 1#1
  let main_v5 : IVec S_ 1 := (fun x v => Host.reduce IntOp.andi x v reducesTo_S32_S_d0 h_S_) main_v4 main_c_1
  let main_v6 : IVec S_ 1 := andi main_v2 main_v5
  main_v6
-- ==== Kernel.lean ====
abbrev S4x2x48x48x48 : Shape := ⟨5, ![4, 2, 48, 48, 48]⟩
abbrev S32x2x3x3 : Shape := ⟨4, ![32, 2, 3, 3]⟩
abbrev S32 : Shape := ⟨1, ![32]⟩
abbrev S4x2x24x2x24x2x48 : Shape := ⟨7, ![4, 2, 24, 2, 24, 2, 48]⟩
abbrev S4x2x2x24x24x2x48 : Shape := ⟨7, ![4, 2, 2, 24, 24, 2, 48]⟩
abbrev S4x2x2x24x24x96 : Shape := ⟨6, ![4, 2, 2, 24, 24, 96]⟩
abbrev S32x18 : Shape := ⟨2, ![32, 18]⟩
abbrev S32x18x48 : Shape := ⟨3, ![32, 18, 48]⟩
abbrev S32x864 : Shape := ⟨2, ![32, 864]⟩
abbrev S32x1 : Shape := ⟨2, ![32, 1]⟩
abbrev S864 : Shape := ⟨1, ![864]⟩
abbrev S_ : Shape := ⟨0, ![]⟩
abbrev S1x864 : Shape := ⟨2, ![1, 864]⟩
abbrev S4x32x23x23x97 : Shape := ⟨5, ![4, 32, 23, 23, 97]⟩
abbrev S4x24x24x864 : Shape := ⟨4, ![4, 24, 24, 864]⟩
abbrev S97x2304 : Shape := ⟨2, ![97, 2304]⟩
abbrev S4x1x1x23x23x48 : Shape := ⟨6, ![4, 1, 1, 23, 23, 48]⟩
abbrev S4x23x23x48 : Shape := ⟨4, ![4, 23, 23, 48]⟩
abbrev S32x2304 : Shape := ⟨2, ![32, 2304]⟩
abbrev S1x2304 : Shape := ⟨2, ![1, 2304]⟩
abbrev S8x32x1 : Shape := ⟨3, ![8, 32, 1]⟩
abbrev S256x1 : Shape := ⟨2, ![256, 1]⟩
abbrev S256x864 : Shape := ⟨2, ![256, 864]⟩
abbrev S1x32x864 : Shape := ⟨3, ![1, 32, 864]⟩
abbrev S8x32x864 : Shape := ⟨3, ![8, 32, 864]⟩
abbrev S2304x864 : Shape := ⟨2, ![2304, 864]⟩
abbrev S256x2304 : Shape := ⟨2, ![256, 2304]⟩
abbrev S1x576 : Shape := ⟨2, ![1, 576]⟩
abbrev S1x1x576 : Shape := ⟨3, ![1, 1, 576]⟩
abbrev S1 : Shape := ⟨1, ![1]⟩
abbrev S1x1x1 : Shape := ⟨3, ![1, 1, 1]⟩
abbrev S1x1 : Shape := ⟨2, ![1, 1]⟩
abbrev S2304 : Shape := ⟨1, ![2304]⟩
abbrev S1x32x1 : Shape := ⟨3, ![1, 32, 1]⟩
abbrev S2304x97 : Shape := ⟨2, ![2304, 97]⟩
abbrev S4x24x24x97 : Shape := ⟨4, ![4, 24, 24, 97]⟩
abbrev S4x23x23x97 : Shape := ⟨4, ![4, 23, 23, 97]⟩
abbrev S4x1x23x23x97 : Shape := ⟨5, ![4, 1, 23, 23, 97]⟩

abbrev nBuf : Space → Nat
  | .hbm => 31
  | .vmem => 7
  | .smem => 0
  | _ => 0

abbrev bufTy : (tb : Table) → Fin (tcTables nBuf tb) → BufTy
  | .hbm, ⟨0, _⟩ => ⟨S4x2x48x48x48, .f32⟩
  | .hbm, ⟨1, _⟩ => ⟨S32x2x3x3, .f32⟩
  | .hbm, ⟨2, _⟩ => ⟨S32, .f32⟩
  | .hbm, ⟨3, _⟩ => ⟨S4x2x24x2x24x2x48, .f32⟩
  | .hbm, ⟨4, _⟩ => ⟨S4x2x2x24x24x2x48, .f32⟩
  | .hbm, ⟨5, _⟩ => ⟨S4x2x2x24x24x96, .f32⟩
  | .hbm, ⟨6, _⟩ => ⟨S32x18, .f32⟩
  | .hbm, ⟨7, _⟩ => ⟨S32x18x48, .f32⟩
  | .hbm, ⟨8, _⟩ => ⟨S32x864, .f32⟩
  | .hbm, ⟨9, _⟩ => ⟨S32x1, .f32⟩
  | .hbm, ⟨10, _⟩ => ⟨S864, .f32⟩
  | .hbm, ⟨11, _⟩ => ⟨S_, .i32⟩
  | .hbm, ⟨12, _⟩ => ⟨S_, .f32⟩
  | .hbm, ⟨13, _⟩ => ⟨S864, .f32⟩
  | .hbm, ⟨14, _⟩ => ⟨S864, .f32⟩
  | .hbm, ⟨15, _⟩ => ⟨S_, .f32⟩
  | .hbm, ⟨16, _⟩ => ⟨S864, .f32⟩
  | .hbm, ⟨17, _⟩ => ⟨S864, .i1⟩
  | .hbm, ⟨18, _⟩ => ⟨S_, .f32⟩
  | .hbm, ⟨19, _⟩ => ⟨S864, .f32⟩
  | .hbm, ⟨20, _⟩ => ⟨S864, .i1⟩
  | .hbm, ⟨21, _⟩ => ⟨S_, .f32⟩
  | .hbm, ⟨22, _⟩ => ⟨S_, .i1⟩
  | .hbm, ⟨23, _⟩ => ⟨S864, .i1⟩
  | .hbm, ⟨24, _⟩ => ⟨S864, .i1⟩
  | .hbm, ⟨25, _⟩ => ⟨S864, .i1⟩
  | .hbm, ⟨26, _⟩ => ⟨S864, .f32⟩
  | .hbm, ⟨27, _⟩ => ⟨S864, .f32⟩
  | .hbm, ⟨28, _⟩ => ⟨S864, .f32⟩
  | .hbm, ⟨29, _⟩ => ⟨S1x864, .f32⟩
  | .hbm, ⟨30, _⟩ => ⟨S4x32x23x23x97, .f32⟩
  | .local _ .vmem, ⟨0, _⟩ => ⟨S4x2x2x24x24x96, .f32⟩
  | .local _ .vmem, ⟨1, _⟩ => ⟨S32x864, .f32⟩
  | .local _ .vmem, ⟨2, _⟩ => ⟨S32x1, .f32⟩
  | .local _ .vmem, ⟨3, _⟩ => ⟨S1x864, .f32⟩
  | .local _ .vmem, ⟨4, _⟩ => ⟨S4x32x23x23x97, .f32⟩
  | .local _ .vmem, ⟨5, _⟩ => ⟨S4x24x24x864, .f32⟩
  | .local _ .vmem, ⟨6, _⟩ => ⟨S97x2304, .i32⟩
  | _, _ => ⟨S4x2x48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x2x2x24x24x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x864 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32x23x23x97 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x2x48x48x48 : Shape := ⟨5, ![4, 2, 48, 48, 48]⟩
abbrev S32x2x3x3 : Shape := ⟨4, ![32, 2, 3, 3]⟩
abbrev S32 : Shape := ⟨1, ![32]⟩
abbrev S48 : Shape := ⟨1, ![48]⟩
abbrev S32x2x3x3x48 : Shape := ⟨5, ![32, 2, 3, 3, 48]⟩
abbrev S_ : Shape := ⟨0, ![]⟩
abbrev S32x2x3x3x1 : Shape := ⟨5, ![32, 2, 3, 3, 1]⟩
abbrev S4x2x48x48x144 : Shape := ⟨5, ![4, 2, 48, 48, 144]⟩
abbrev S23 : Shape := ⟨1, ![23]⟩
abbrev S23x1 : Shape := ⟨2, ![23, 1]⟩
abbrev S3 : Shape := ⟨1, ![3]⟩
abbrev S1x3 : Shape := ⟨2, ![1, 3]⟩
abbrev S23x3 : Shape := ⟨2, ![23, 3]⟩
abbrev S97 : Shape := ⟨1, ![97]⟩
abbrev S97x1 : Shape := ⟨2, ![97, 1]⟩
abbrev S1x48 : Shape := ⟨2, ![1, 48]⟩
abbrev S97x48 : Shape := ⟨2, ![97, 48]⟩
abbrev S23x3x1 : Shape := ⟨3, ![23, 3, 1]⟩
abbrev S4x2x23x3x48x144 : Shape := ⟨6, ![4, 2, 23, 3, 48, 144]⟩
abbrev S4x2x23x3x23x3x144 : Shape := ⟨7, ![4, 2, 23, 3, 23, 3, 144]⟩
abbrev S97x48x1 : Shape := ⟨3, ![97, 48, 1]⟩
abbrev S4x2x23x3x23x3x97x48 : Shape := ⟨8, ![4, 2, 23, 3, 23, 3, 97, 48]⟩
abbrev S4x23x23x97x32 : Shape := ⟨5, ![4, 23, 23, 97, 32]⟩
abbrev S4x32x23x23x97 : Shape := ⟨5, ![4, 32, 23, 23, 97]⟩
abbrev S1x32x1x1x1 : Shape := ⟨5, ![1, 32, 1, 1, 1]⟩
abbrev S4x32x529x97 : Shape := ⟨4, ![4, 32, 529, 97]⟩
abbrev S97x4x529x32 : Shape := ⟨4, ![97, 4, 529, 32]⟩
abbrev S4x529 : Shape := ⟨2, ![4, 529]⟩
abbrev S1x4x529x32 : Shape := ⟨4, ![1, 4, 529, 32]⟩
abbrev S4x529x32 : Shape := ⟨3, ![4, 529, 32]⟩
abbrev S4x529x1 : Shape := ⟨3, ![4, 529, 1]⟩
abbrev S4 : Shape := ⟨1, ![4]⟩
abbrev S4x1x1 : Shape := ⟨3, ![4, 1, 1]⟩
abbrev S4x529x1x1 : Shape := ⟨4, ![4, 529, 1, 1]⟩
abbrev S1 : Shape := ⟨1, ![1]⟩
abbrev S1x1x1x1 : Shape := ⟨4, ![1, 1, 1, 1]⟩
abbrev S1x1x32 : Shape := ⟨3, ![1, 1, 32]⟩

abbrev nBuf : Space → Nat
  | .hbm => 172
  | .vmem => 0
  | .smem => 0
  | _ => 0

abbrev hbmTy0_0 (i : Nat) : BufTy := match i % 128 with
  | 0 => ⟨S4x2x48x48x48, .f32⟩
  | 1 => ⟨S32x2x3x3, .f32⟩
  | 2 => ⟨S32, .f32⟩
  | 3 => ⟨S48, .f32⟩
  | 4 => ⟨S32x2x3x3x48, .f32⟩
  | 5 => ⟨S_, .f32⟩
  | 6 => ⟨S32x2x3x3x48, .f32⟩
  | 7 => ⟨S32x2x3x3x48, .f32⟩
  | 8 => ⟨S32x2x3x3x1, .f32⟩
  | 9 => ⟨S_, .f32⟩
  | 10 => ⟨S32x2x3x3x1, .f32⟩
  | 11 => ⟨S32x2x3x3x1, .f32⟩
  | 12 => ⟨S32x2x3x3x48, .f32⟩
  | 13 => ⟨S32x2x3x3x48, .f32⟩
  | 14 => ⟨S32x2x3x3x48, .f32⟩
  | 15 => ⟨S_, .f32⟩
  | 16 => ⟨S32x2x3x3x48, .f32⟩
  | 17 => ⟨S32x2x3x3x48, .f32⟩
  | 18 => ⟨S32x2x3x3x1, .f32⟩
  | 19 => ⟨S32x2x3x3x48, .f32⟩
  | 20 => ⟨S32x2x3x3x48, .f32⟩
  | 21 => ⟨S32x2x3x3x48, .f32⟩
  | 22 => ⟨S_, .f32⟩
  | 23 => ⟨S32x2x3x3x48, .f32⟩
  | 24 => ⟨S32x2x3x3x48, .f32⟩
  | 25 => ⟨S32x2x3x3x48, .f32⟩
  | 26 => ⟨S_, .i32⟩
  | 27 => ⟨S_, .f32⟩
  | 28 => ⟨S4x2x48x48x144, .f32⟩
  | 29 => ⟨S23, .i32⟩
  | 30 => ⟨S23x1, .i32⟩
  | 31 => ⟨S_, .i32⟩
  | 32 => ⟨S23x1, .i32⟩
  | 33 => ⟨S23x1, .i32⟩
  | 34 => ⟨S3, .i32⟩
  | 35 => ⟨S1x3, .i32⟩
  | 36 => ⟨S23x3, .i32⟩
  | 37 => ⟨S23x3, .i32⟩
  | 38 => ⟨S23x3, .i32⟩
  | 39 => ⟨S23, .i32⟩
  | 40 => ⟨S23x1, .i32⟩
  | 41 => ⟨S_, .i32⟩
  | 42 => ⟨S23x1, .i32⟩
  | 43 => ⟨S23x1, .i32⟩
  | 44 => ⟨S3, .i32⟩
  | 45 => ⟨S1x3, .i32⟩
  | 46 => ⟨S23x3, .i32⟩
  | 47 => ⟨S23x3, .i32⟩
  | 48 => ⟨S23x3, .i32⟩
  | 49 => ⟨S97, .i32⟩
  | 50 => ⟨S97x1, .i32⟩
  | 51 => ⟨S48, .i32⟩
  | 52 => ⟨S1x48, .i32⟩
  | 53 => ⟨S97x48, .i32⟩
  | 54 => ⟨S97x48, .i32⟩
  | 55 => ⟨S97x48, .i32⟩
  | 56 => ⟨S23x3x1, .i32⟩
  | 57 => ⟨S4x2x23x3x48x144, .f32⟩
  | 58 => ⟨S23x3x1, .i32⟩
  | 59 => ⟨S4x2x23x3x23x3x144, .f32⟩
  | 60 => ⟨S97x48x1, .i32⟩
  | 61 => ⟨S4x2x23x3x23x3x97x48, .f32⟩
  | 62 => ⟨S4x23x23x97x32, .f32⟩
  | 63 => ⟨S4x32x23x23x97, .f32⟩
  | 64 => ⟨S1x32x1x1x1, .f32⟩
  | 65 => ⟨S4x32x23x23x97, .f32⟩
  | 66 => ⟨S4x32x23x23x97, .f32⟩
  | 67 => ⟨S4x32x529x97, .f32⟩
  | 68 => ⟨S97x4x529x32, .f32⟩
  | 69 => ⟨S_, .i32⟩
  | 70 => ⟨S4x529, .i32⟩
  | 71 => ⟨S_, .f32⟩
  | 72 => ⟨S97x4x529x32, .f32⟩
  | 73 => ⟨S_, .i32⟩
  | 74 => ⟨S97x4x529x32, .f32⟩
  | 75 => ⟨S_, .i32⟩
  | 76 => ⟨S4x529, .i32⟩
  | 77 => ⟨S97x4x529x32, .f32⟩
  | 78 => ⟨S_, .i32⟩
  | 79 => ⟨S_, .i1⟩
  | 80 => ⟨S_, .i32⟩
  | 81 => ⟨S_, .i32⟩
  | 82 => ⟨S_, .i32⟩
  | 83 => ⟨S1x4x529x32, .f32⟩
  | 84 => ⟨S4x529x32, .f32⟩
  | 85 => ⟨S_, .i32⟩
  | 86 => ⟨S4x529, .i32⟩
  | 87 => ⟨S4x529, .i1⟩
  | 88 => ⟨S4x529, .f32⟩
  | 89 => ⟨S4x529x1, .f32⟩
  | 90 => ⟨S_, .i32⟩
  | 91 => ⟨S4x529, .i32⟩
  | 92 => ⟨S4x529, .i1⟩
  | 93 => ⟨S4x529, .i32⟩
  | 94 => ⟨S_, .i32⟩
  | 95 => ⟨S4, .i32⟩
  | 96 => ⟨S_, .i32⟩
  | 97 => ⟨S4, .i32⟩
  | 98 => ⟨S4, .i1⟩
  | 99 => ⟨S4, .f32⟩
  | 100 => ⟨S4x1x1, .f32⟩
  | 101 => ⟨S4x529x32, .f32⟩
  | 102 => ⟨S4x529x32, .f32⟩
  | 103 => ⟨S4x529x32, .f32⟩
  | 104 => ⟨S4x529x32, .f32⟩
  | 105 => ⟨S4x529x32, .i32⟩
  | 106 => ⟨S_, .f32⟩
  | 107 => ⟨S_, .i32⟩
  | 108 => ⟨S4x529, .f32⟩
  | 109 => ⟨S4x529, .i32⟩
  | 110 => ⟨S4x529x1, .i32⟩
  | 111 => ⟨S_, .i32⟩
  | 112 => ⟨S4x529x1, .i32⟩
  | 113 => ⟨S4x529x1, .i1⟩
  | 114 => ⟨S_, .i32⟩
  | 115 => ⟨S4x529x1, .i32⟩
  | 116 => ⟨S4x529x1, .i32⟩
  | 117 => ⟨S4x529x1, .i32⟩
  | 118 => ⟨S4x529x1x1, .i32⟩
  | 119 => ⟨S1, .i32⟩
  | 120 => ⟨S_, .i32⟩
  | 121 => ⟨S4x529x1x1, .i32⟩
  | 122 => ⟨S4x529x1x1, .i1⟩
  | 123 => ⟨S1x1x1x1, .i32⟩
  | 124 => ⟨S4x529x1x1, .i32⟩
  | 125 => ⟨S4x529x1x1, .i1⟩
  | 126 => ⟨S4x529x1x1, .i1⟩
  | 127 => ⟨S_, .i1⟩
  | _ => ⟨S4x2x48x48x48, .f32⟩

abbrev hbmTy0_1 (i : Nat) : BufTy := match i % 128 with
  | 0 => ⟨S4x529x1, .i1⟩
  | 1 => ⟨S4x529x1, .f32⟩
  | 2 => ⟨S_, .f32⟩
  | 3 => ⟨S4x529x1, .f32⟩
  | 4 => ⟨S4x529x1, .f32⟩
  | 5 => ⟨S_, .f32⟩
  | 6 => ⟨S4x529x1, .f32⟩
  | 7 => ⟨S4x529x1, .i1⟩
  | 8 => ⟨S4x529x1, .i32⟩
  | 9 => ⟨S4x529x1, .i32⟩
  | 10 => ⟨S1x1x32, .i32⟩
  | 11 => ⟨S4x529x32, .i32⟩
  | 12 => ⟨S4x529x32, .i32⟩
  | 13 => ⟨S4x529x32, .i1⟩
  | 14 => ⟨S4x529x32, .i32⟩
  | 15 => ⟨S4x529x32, .i32⟩
  | 16 => ⟨S4x529x32, .i32⟩
  | 17 => ⟨S_, .i32⟩
  | 18 => ⟨S4x529, .i32⟩
  | 19 => ⟨S_, .i32⟩
  | 20 => ⟨S4x529, .i32⟩
  | 21 => ⟨S4x529, .i32⟩
  | 22 => ⟨S4x529, .i32⟩
  | 23 => ⟨S_, .i32⟩
  | 24 => ⟨S4x529, .i32⟩
  | 25 => ⟨S4x529, .i32⟩
  | 26 => ⟨S_, .i32⟩
  | 27 => ⟨S_, .i32⟩
  | 28 => ⟨S_, .i32⟩
  | 29 => ⟨S4x529, .i32⟩
  | 30 => ⟨S4x529, .i32⟩
  | 31 => ⟨S_, .i32⟩
  | 32 => ⟨S4x529, .i32⟩
  | 33 => ⟨S4x529, .i32⟩
  | 34 => ⟨S4x529x32, .f32⟩
  | 35 => ⟨S1x4x529x32, .f32⟩
  | 36 => ⟨S_, .i32⟩
  | 37 => ⟨S_, .i32⟩
  | 38 => ⟨S_, .i32⟩
  | 39 => ⟨S97x4x529x32, .f32⟩
  | 40 => ⟨S_, .i32⟩
  | 41 => ⟨S_, .i32⟩
  | 42 => ⟨S4x32x529x97, .f32⟩
  | 43 => ⟨S4x32x23x23x97, .f32⟩
  | _ => ⟨S4x2x48x48x48, .f32⟩

abbrev hbmTy (i : Nat) : BufTy := match i / 128 with
  | 0 => hbmTy0_0 i
  | 1 => hbmTy0_1 i
  | _ => ⟨S4x2x48x48x48, .f32⟩

abbrev bufTy : (tb : Table) → Fin (tcTables nBuf tb) → BufTy
  | .hbm, ⟨i, _⟩ => hbmTy i
  | _, _ => ⟨S4x2x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call1_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call2_v0 : Ref sig .tc := ⟨.hbm, 56, rfl⟩
abbrev main_v45 : Ref sig .tc := ⟨.hbm, 57, rfl⟩
abbrev main_call3_v0 : Ref sig .tc := ⟨.hbm, 58, rfl⟩
abbrev main_v46 : Ref sig .tc := ⟨.hbm, 59, rfl⟩
abbrev main_call4_v0 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_5 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_c_7 : Ref sig .tc := ⟨.hbm, 73, rfl⟩
abbrev main_v57_0 : Ref sig .tc := ⟨.hbm, 74, rfl⟩
abbrev main_v57_1 : Ref sig .tc := ⟨.hbm, 75, rfl⟩
abbrev main_v57_2 : Ref sig .tc := ⟨.hbm, 76, rfl⟩
abbrev main_v57_3 : Ref sig .tc := ⟨.hbm, 77, rfl⟩
abbrev main_while0c_c_11 : Ref sig .tc := ⟨.hbm, 78, rfl⟩
abbrev main_while0c_v60 : Ref sig .tc := ⟨.hbm, 79, rfl⟩
abbrev main_while0b_call5_c : Ref sig .tc := ⟨.hbm, 80, rfl⟩
abbrev main_while0b_call5_c_0 : Ref sig .tc := ⟨.hbm, 81, rfl⟩
abbrev main_while0b_call5_c_1 : Ref sig .tc := ⟨.hbm, 82, rfl⟩
abbrev main_while0b_call5_v0 : Ref sig .tc := ⟨.hbm, 83, rfl⟩
abbrev main_while0b_v60 : Ref sig .tc := ⟨.hbm, 84, rfl⟩
abbrev main_while0b_c_11 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_c_12 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_c_13 : Ref sig .tc := ⟨.hbm, 94, rfl⟩
abbrev main_while0b_v68 : Ref sig .tc := ⟨.hbm, 95, rfl⟩
abbrev main_while0b_c_14 : Ref sig .tc := ⟨.hbm, 96, rfl⟩
abbrev main_while0b_v69 : Ref sig .tc := ⟨.hbm, 97, rfl⟩
abbrev main_while0b_v70 : Ref sig .tc := ⟨.hbm, 98, rfl⟩
abbrev main_while0b_v71 : Ref sig .tc := ⟨.hbm, 99, rfl⟩
abbrev main_while0b_v72 : Ref sig .tc := ⟨.hbm, 100, rfl⟩
abbrev main_while0b_v73 : Ref sig .tc := ⟨.hbm, 101, rfl⟩
abbrev main_while0b_v74 : Ref sig .tc := ⟨.hbm, 102, rfl⟩
abbrev main_while0b_v75 : Ref sig .tc := ⟨.hbm, 103, rfl⟩
abbrev main_while0b_v76 : Ref sig .tc := ⟨.hbm, 104, rfl⟩
abbrev main_while0b_call6_v0 : Ref sig .tc := ⟨.hbm, 105, rfl⟩
abbrev main_while0b_call6_cst : Ref sig .tc := ⟨.hbm, 106, rfl⟩
abbrev main_while0b_call6_c : Ref sig .tc := ⟨.hbm, 107, rfl⟩
abbrev main_while0b_call6_v1_0 : Ref sig .tc := ⟨.hbm, 108, rfl⟩
abbrev main_while0b_v77 : Ref sig .tc := ⟨.hbm, 109, rfl⟩
abbrev main_while0b_v78 : Ref sig .tc := ⟨.hbm, 110, rfl⟩
abbrev main_while0b_call7_c : Ref sig .tc := ⟨.hbm, 111, rfl⟩
abbrev main_while0b_call7_v0 : Ref sig .tc := ⟨.hbm, 112, rfl⟩
abbrev main_while0b_call7_v1 : Ref sig .tc := ⟨.hbm, 113, rfl⟩
abbrev main_while0b_call7_c_0 : Ref sig .tc := ⟨.hbm, 114, rfl⟩
abbrev main_while0b_call7_v2 : Ref sig .tc := ⟨.hbm, 115, rfl⟩
abbrev main_while0b_call7_v3 : Ref sig .tc := ⟨.hbm, 116, rfl⟩
abbrev main_while0b_call7_v4 : Ref sig .tc := ⟨.hbm, 117, rfl⟩
abbrev main_while0b_call7_v5 : Ref sig .tc := ⟨.hbm, 118, rfl⟩
abbrev main_while0b_call7_c_1 : Ref sig .tc := ⟨.hbm, 119, rfl⟩
abbrev main_while0b_call7_c_2 : Ref sig .tc := ⟨.hbm, 120, rfl⟩
abbrev main_while0b_call7_v6 : Ref sig .tc := ⟨.hbm, 121, rfl⟩
abbrev main_while0b_call7_v7 : Ref sig .tc := ⟨.hbm, 122, rfl⟩
abbrev main_while0b_call7_v8 : Ref sig .tc := ⟨.hbm, 123, rfl⟩
abbrev main_while0b_call7_v9 : Ref sig .tc := ⟨.hbm, 124, rfl⟩
abbrev main_while0b_call7_v10 : Ref sig .tc := ⟨.hbm, 125, rfl⟩
abbrev main_while0b_call7_v11 : Ref sig .tc := ⟨.hbm, 126, rfl⟩
abbrev main_while0b_call7_c_3 : Ref sig .tc := ⟨.hbm, 127, rfl⟩
abbrev main_while0b_call7_v12 : Ref sig .tc := ⟨.hbm, 128, rfl⟩
abbrev main_while0b_call7_v13 : Ref sig .tc := ⟨.hbm, 129, rfl⟩
abbrev main_while0b_call7_cst : Ref sig .tc := ⟨.hbm, 130, rfl⟩
abbrev main_while0b_call7_v14 : Ref sig .tc := ⟨.hbm, 131, rfl⟩
abbrev main_while0b_v79 : Ref sig .tc := ⟨.hbm, 132, rfl⟩
abbrev main_while0b_cst_15 : Ref sig .tc := ⟨.hbm, 133, rfl⟩
abbrev main_while0b_v80 : Ref sig .tc := ⟨.hbm, 134, rfl⟩
abbrev main_while0b_v81 : Ref sig .tc := ⟨.hbm, 135, rfl⟩
abbrev main_while0b_v82 : Ref sig .tc := ⟨.hbm, 136, rfl⟩
abbrev main_while0b_call8_v0 : Ref sig .tc := ⟨.hbm, 137, rfl⟩
abbrev main_while0b_call8_v1 : Ref sig .tc := ⟨.hbm, 138, rfl⟩
abbrev main_while0b_call8_v2 : Ref sig .tc := ⟨.hbm, 139, rfl⟩
abbrev main_while0b_call8_v3 : Ref sig .tc := ⟨.hbm, 140, rfl⟩
abbrev main_while0b_call8_v4 : Ref sig .tc := ⟨.hbm, 141, rfl⟩
abbrev main_while0b_v83 : Ref sig .tc := ⟨.hbm, 142, rfl⟩
abbrev main_while0b_v84 : Ref sig .tc := ⟨.hbm, 143, rfl⟩
abbrev main_while0b_v85 : Ref sig .tc := ⟨.hbm, 144, rfl⟩
abbrev main_while0b_c_16 : Ref sig .tc := ⟨.hbm, 145, rfl⟩
abbrev main_while0b_v86 : Ref sig .tc := ⟨.hbm, 146, rfl⟩
abbrev main_while0b_c_17 : Ref sig .tc := ⟨.hbm, 147, rfl⟩
abbrev main_while0b_v87 : Ref sig .tc := ⟨.hbm, 148, rfl⟩
abbrev main_while0b_v88 : Ref sig .tc := ⟨.hbm, 149, rfl⟩
abbrev main_while0b_v89 : Ref sig .tc := ⟨.hbm, 150, rfl⟩
abbrev main_while0b_c_18 : Ref sig .tc := ⟨.hbm, 151, rfl⟩
abbrev main_while0b_v90 : Ref sig .tc := ⟨.hbm, 152, rfl⟩
abbrev main_while0b_v91 : Ref sig .tc := ⟨.hbm, 153, rfl⟩
abbrev main_while0b_c_19 : Ref sig .tc := ⟨.hbm, 154, rfl⟩
abbrev main_while0b_c_20 : Ref sig .tc := ⟨.hbm, 155, rfl⟩
abbrev main_while0b_call9_v0 : Ref sig .tc := ⟨.hbm, 156, rfl⟩
abbrev main_while0b_call9_v1 : Ref sig .tc := ⟨.hbm, 157, rfl⟩
abbrev main_while0b_call9_v2 : Ref sig .tc := ⟨.hbm, 158, rfl⟩
abbrev main_while0b_call9_v3 : Ref sig .tc := ⟨.hbm, 159, rfl⟩
abbrev main_while0b_call9_v4 : Ref sig .tc := ⟨.hbm, 160, rfl⟩
abbrev main_while0b_v92 : Ref sig .tc := ⟨.hbm, 161, rfl⟩
abbrev main_while0b_v93 : Ref sig .tc := ⟨.hbm, 162, rfl⟩
abbrev main_while0b_call10_v0 : Ref sig .tc := ⟨.hbm, 163, rfl⟩
abbrev main_while0b_call10_c : Ref sig .tc := ⟨.hbm, 164, rfl⟩
abbrev main_while0b_call10_c_0 : Ref sig .tc := ⟨.hbm, 165, rfl⟩
abbrev main_while0b_call10_c_1 : Ref sig .tc := ⟨.hbm, 166, rfl⟩
abbrev main_while0b_v94 : Ref sig .tc := ⟨.hbm, 167, rfl⟩
abbrev main_while0b_c_21 : Ref sig .tc := ⟨.hbm, 168, rfl⟩
abbrev main_while0b_v95 : Ref sig .tc := ⟨.hbm, 169, rfl⟩
abbrev main_v58 : Ref sig .tc := ⟨.hbm, 170, rfl⟩
abbrev main_v59 : Ref sig .tc := ⟨.hbm, 171, rfl⟩

abbrev nD : Nat := 1
abbrev τ : Topo := Topo.v7x

variable {F : FTy → Type} [FloatOps F]

abbrev main_while0_count : Scf.Loop 32 := ⟨0#32, 97#32, 1#32⟩
-- ==== Proof.RefRun.lean ====
/- The reference's program run, first half: its operations in stretches, the loop of 97 trips among them, the run to the
   contents the program leaves, and the windows of one trip with what each of them writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1200

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 22 host operations of @main, in order. -/
abbrev hostOps0 : List (HloOp τ sig (Elt F)) :=
  [ StableHlo.nullary main_v0 (sitofp .f32 (iotaInDim S48 32 0)),
    StableHlo.unary main_v0 main_v1 (broadcastInDim S32x2x3x3x48 ![4] bcast_S48_S32x2x3x3x48_4 : (⟨S48, .f32⟩ : BufTy).Contents (Elt F) → (⟨S32x2x3x3x48, .f32⟩ : BufTy).Contents (Elt F)),
    StableHlo.nullary main_cst (constant S_ .f32 0x41800000#32),
    StableHlo.unary main_cst main_v2 (broadcastInDim S32x2x3x3x48 ![] bcast_S_S32x2x3x3x48 : (⟨S_, .f32⟩ : BufTy).Contents (Elt F) → (⟨S32x2x3x3x48, .f32⟩ : BufTy).Contents (Elt F)),
    StableHlo.binary main_v1 main_v2 main_v3 (Host.divf : (⟨S32x2x3x3x48, .f32⟩ : BufTy).Contents (Elt F) → (⟨S32x2x3x3x48, .f32⟩ : BufTy).Contents (Elt F) → (⟨S32x2x3x3x48, .f32⟩ : BufTy).Contents (Elt F)),
    StableHlo.unary main_arg1 main_v4 (broadcastInDim S32x2x3x3x1 ![0, 1, 2, 3] bcast_S32x2x3x3_S32x2x3x3x1_0_1_2_3 : (⟨S32x2x3x3, .f32⟩ : BufTy).Contents (Elt F) → (⟨S32x2x3x3x1, .f32⟩ : BufTy).Contents (Elt F)),
    StableHlo.nullary main_cst_0 (constant S_ .f32 0x41800000#32),
    StableHlo.unary main_cst_0 main_v5 (broadcastInDim S32x2x3x3x1 ![] bcast_S_S32x2x3x3x1 : (⟨S_, .f32⟩ : BufTy).Contents (Elt F) → (⟨S32x2x3x3x1, .f32⟩ : BufTy).Contents (Elt F)),
    StableHlo.binary main_v4 main_v5 main_v6 (mulf : (⟨S32x2x3x3x1, .f32⟩ : BufTy).Contents (Elt F) → (⟨S32x2x3x3x1, .f32⟩ : BufTy).Contents (Elt F) → (⟨S32x2x3x3x1, .f32⟩ : BufTy).Contents (Elt F)),
    StableHlo.unary main_v6 main_v7 (broadcastInDim S32x2x3x3x48 ![0, 1, 2, 3, 4] bcast_S32x2x3x3x1_S32x2x3x3x48_0_1_2_3_4 : (⟨S32x2x3x3x1, .f32⟩ : BufTy).Contents (Elt F) → (⟨S32x2x3x3x48, .f32⟩ : BufTy).Contents (Elt F)),
    StableHlo.binary main_v1 main_v7 main_v8 (subf : (⟨S32x2x3x3x48, .f32⟩ : BufTy).Contents (Elt F) → (⟨S32x2x3x3x48, .f32⟩ : BufTy).Contents (Elt F) → (⟨S32x2x3x3x48, .f32⟩ : BufTy).Contents (Elt F)),
    StableHlo.unary main_v8 main_v9 (Host.negf : (⟨S32x2x3x3x48, .f32⟩ : BufTy).Contents (Elt F) → (⟨S32x2x3x3x48, .f32⟩ : BufTy).Contents (Elt F)),
    StableHlo.nullary main_cst_1 (constant S_ .f32 0x42000000#32),
    StableHlo.unary main_cst_1 main_v10 (broadcastInDim S32x2x3x3x48 ![] bcast_S_S32x2x3x3x48 : (⟨S_, .f32⟩ : BufTy).Contents (Elt F) → (⟨S32x2x3x3x48, .f32⟩ : BufTy).Contents (Elt F)),
    StableHlo.binary main_v9 main_v10 main_v11 (Host.divf : (⟨S32x2x3x3x48, .f32⟩ : BufTy).Contents (Elt F) → (⟨S32x2x3x3x48, .f32⟩ : BufTy).Contents (Elt F) → (⟨S32x2x3x3x48, .f32⟩ : BufTy).Contents (Elt F)),
    StableHlo.unary main_arg1 main_v12 (broadcastInDim S32x2x3x3x1 ![0, 1, 2, 3] bcast_S32x2x3x3_S32x2x3x3x1_0_1_2_3 : (⟨S32x2x3x3, .f32⟩ : BufTy).Contents (Elt F) → (⟨S32x2x3x3x1, .f32⟩ : BufTy).Contents (Elt F)),
    StableHlo.unary main_v12 main_v13 (broadcastInDim S32x2x3x3x48 ![0, 1, 2, 3, 4] bcast_S32x2x3x3x1_S32x2x3x3x48_0_1_2_3_4 : (⟨S32x2x3x3x1, .f32⟩ : BufTy).Contents (Elt F) → (⟨S32x2x3x3x48, .f32⟩ : BufTy).Contents (Elt F)),
    StableHlo.binary main_v11 main_v13 main_v14 (addf : (⟨S32x2x3x3x48, .f32⟩ : BufTy).Contents (Elt F) → (⟨S32x2x3x3x48, .f32⟩ : BufTy).Contents (Elt F) → (⟨S32x2x3x3x48, .f32⟩ : BufTy).Contents (Elt F)),
    StableHlo.binary main_v3 main_v14 main_v15 (minimumf : (⟨S32x2x3x3x48, .f32⟩ : BufTy).Contents (Elt F) → (⟨S32x2x3x3x48, .f32⟩ : BufTy).Contents (Elt F) → (⟨S32x2x3x3x48, .f32⟩ : BufTy).Contents (Elt F)),
    StableHlo.nullary main_cst_2 (constant S_ .f32 0x00000000#32),
    StableHlo.unary main_cst_2 main_v16 (broadcastInDim S32x2x3x3x48 ![] bcast_S_S32x2x3x3x48 : (⟨S_, .f32⟩ : BufTy).Contents (Elt F) → (⟨S32x2x3x3x48, .f32⟩ : BufTy).Contents (Elt F)),
    StableHlo.binary main_v16 main_v15 main_v17 (maximumf : (⟨S32x2x3x3x48, .f32⟩ : BufTy).Contents (Elt F) → (⟨S32x2x3x3x48, .f32⟩ : BufTy).Contents (Elt F) → (⟨S32x2x3x3x48, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩
/-- 1 host operation of @_flip (main_call0), in order. -/
abbrev hostOps0_1 : List (HloOp τ sig (Elt F)) :=
  [ StableHlo.TRef.unary (.of main_v17 : StableHlo.TRef sig ⟨S32x2x3x3x48, .f32⟩) (.of main_v18 : StableHlo.TRef sig ⟨S32x2x3x3x48, .f32⟩) (Host.reverse [4]) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  StableHlo.unary_bufs_sub ..
/-- 1 host operation of @main, in order. -/
abbrev hostOps0_2 : List (HloOp τ sig (Elt F)) :=
  [ StableHlo.nullary main_c (constantI S_ 32 0#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  StableHlo.nullary_bufs_sub ..
/-- 2 host operations of @_pad (main_call1), in order. -/
abbrev hostOps0_3 : List (HloOp τ sig (Elt F)) :=
  [ StableHlo.TRef.unary (.of main_c : StableHlo.TRef sig ⟨S_, .i32⟩) (.of main_call1_v0 : StableHlo.TRef sig ⟨S_, .f32⟩) (sitofp .f32),
    StableHlo.TRef.binary (.of main_arg0 : StableHlo.TRef sig ⟨S4x2x48x48x48, .f32⟩) (.of main_call1_v0 : StableHlo.TRef sig ⟨S_, .f32⟩) (.of main_v19 : StableHlo.TRef sig ⟨S4x2x48x48x144, .f32⟩) (fun x v => pad S4x2x48x48x144 ![0, 0, 0, 0, 48] ![0, 0, 0, 0, 48] ![0, 0, 0, 0, 0] x v pads_S4x2x48x48x48_S4x2x48x48x144_000_000_000_000_48480 h_S_) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.binary_bufs_sub ..⟩
/-- 27 host operations of @main, in order. -/
abbrev hostOps0_4 : List (HloOp τ sig (Elt F)) :=
  [ StableHlo.nullary main_v20 (iotaInDim S23 32 0),
    StableHlo.unary main_v20 main_v21 (broadcastInDim S23x1 ![0] bcast_S23_S23x1_0 : (⟨S23, .i32⟩ : BufTy).Contents (Elt F) → (⟨S23x1, .i32⟩ : BufTy).Contents (Elt F)),
    StableHlo.nullary main_c_3 (constantI S_ 32 2#32),
    StableHlo.unary main_c_3 main_v22 (broadcastInDim S23x1 ![] bcast_S_S23x1 : (⟨S_, .i32⟩ : BufTy).Contents (Elt F) → (⟨S23x1, .i32⟩ : BufTy).Contents (Elt F)),
    StableHlo.binary main_v22 main_v21 main_v23 (muli : (⟨S23x1, .i32⟩ : BufTy).Contents (Elt F) → (⟨S23x1, .i32⟩ : BufTy).Contents (Elt F) → (⟨S23x1, .i32⟩ : BufTy).Contents (Elt F)),
    StableHlo.nullary main_v24 (iotaInDim S3 32 0),
    StableHlo.unary main_v24 main_v25 (broadcastInDim S1x3 ![1] bcast_S3_S1x3_1 : (⟨S3, .i32⟩ : BufTy).Contents (Elt F) → (⟨S1x3, .i32⟩ : BufTy).Contents (Elt F)),
    StableHlo.unary main_v23 main_v26 (broadcastInDim S23x3 ![0, 1] bcast_S23x1_S23x3_0_1 : (⟨S23x1, .i32⟩ : BufTy).Contents (Elt F) → (⟨S23x3, .i32⟩ : BufTy).Contents (Elt F)),
    StableHlo.unary main_v25 main_v27 (broadcastInDim S23x3 ![0, 1] bcast_S1x3_S23x3_0_1 : (⟨S1x3, .i32⟩ : BufTy).Contents (Elt F) → (⟨S23x3, .i32⟩ : BufTy).Contents (Elt F)),
    StableHlo.binary main_v26 main_v27 main_v28 (addi : (⟨S23x3, .i32⟩ : BufTy).Contents (Elt F) → (⟨S23x3, .i32⟩ : BufTy).Contents (Elt F) → (⟨S23x3, .i32⟩ : BufTy).Contents (Elt F)),
    StableHlo.nullary main_v29 (iotaInDim S23 32 0),
    StableHlo.unary main_v29 main_v30 (broadcastInDim S23x1 ![0] bcast_S23_S23x1_0 : (⟨S23, .i32⟩ : BufTy).Contents (Elt F) → (⟨S23x1, .i32⟩ : BufTy).Contents (Elt F)),
    StableHlo.nullary main_c_4 (constantI S_ 32 2#32),
    StableHlo.unary main_c_4 main_v31 (broadcastInDim S23x1 ![] bcast_S_S23x1 : (⟨S_, .i32⟩ : BufTy).Contents (Elt F) → (⟨S23x1, .i32⟩ : BufTy).Contents (Elt F)),
    StableHlo.binary main_v31 main_v30 main_v32 (muli : (⟨S23x1, .i32⟩ : BufTy).Contents (Elt F) → (⟨S23x1, .i32⟩ : BufTy).Contents (Elt F) → (⟨S23x1, .i32⟩ : BufTy).Contents (Elt F)),
    StableHlo.nullary main_v33 (iotaInDim S3 32 0),
    StableHlo.unary main_v33 main_v34 (broadcastInDim S1x3 ![1] bcast_S3_S1x3_1 : (⟨S3, .i32⟩ : BufTy).Contents (Elt F) → (⟨S1x3, .i32⟩ : BufTy).Contents (Elt F)),
    StableHlo.unary main_v32 main_v35 (broadcastInDim S23x3 ![0, 1] bcast_S23x1_S23x3_0_1 : (⟨S23x1, .i32⟩ : BufTy).Contents (Elt F) → (⟨S23x3, .i32⟩ : BufTy).Contents (Elt F)),
    StableHlo.unary main_v34 main_v36 (broadcastInDim S23x3 ![0, 1] bcast_S1x3_S23x3_0_1 : (⟨S1x3, .i32⟩ : BufTy).Contents (Elt F) → (⟨S23x3, .i32⟩ : BufTy).Contents (Elt F)),
    StableHlo.binary main_v35 main_v36 main_v37 (addi : (⟨S23x3, .i32⟩ : BufTy).Contents (Elt F) → (⟨S23x3, .i32⟩ : BufTy).Contents (Elt F) → (⟨S23x3, .i32⟩ : BufTy).Contents (Elt F)),
    StableHlo.nullary main_v38 (iotaInDim S97 32 0),
    StableHlo.unary main_v38 main_v39 (broadcastInDim S97x1 ![0] bcast_S97_S97x1_0 : (⟨S97, .i32⟩ : BufTy).Contents (Elt F) → (⟨S97x1, .i32⟩ : BufTy).Contents (Elt F)),
    StableHlo.nullary main_v40 (iotaInDim S48 32 0),
    StableHlo.unary main_v40 main_v41 (broadcastInDim S1x48 ![1] bcast_S48_S1x48_1 : (⟨S48, .i32⟩ : BufTy).Contents (Elt F) → (⟨S1x48, .i32⟩ : BufTy).Contents (Elt F)),
    StableHlo.unary main_v39 main_v42 (broadcastInDim S97x48 ![0, 1] bcast_S97x1_S97x48_0_1 : (⟨S97x1, .i32⟩ : BufTy).Contents (Elt F) → (⟨S97x48, .i32⟩ : BufTy).Contents (Elt F)),
    StableHlo.unary main_v41 main_v43 (broadcastInDim S97x48 ![0, 1] bcast_S1x48_S97x48_0_1 : (⟨S1x48, .i32⟩ : BufTy).Contents (Elt F) → (⟨S97x48, .i32⟩ : BufTy).Contents (Elt F)),
    StableHlo.binary main_v42 main_v43 main_v44 (addi : (⟨S97x48, .i32⟩ : BufTy).Contents (Elt F) → (⟨S97x48, .i32⟩ : BufTy).Contents (Elt F) → (⟨S97x48, .i32⟩ : BufTy).Contents (Elt F)) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.binary_bufs_sub ..⟩
/-- 2 host operations of @_take (main_call2), in order. -/
abbrev hostOps0_5 : List (HloOp τ sig (Elt F)) :=
  [ StableHlo.TRef.unary (.of main_v28 : StableHlo.TRef sig ⟨S23x3, .i32⟩) (.of main_call2_v0 : StableHlo.TRef sig ⟨S23x3x1, .i32⟩) (broadcastInDim S23x3x1 ![0, 1] bcast_S23x3_S23x3x1_0_1),
    StableHlo.TRef.binary (.of main_v19 : StableHlo.TRef sig ⟨S4x2x48x48x144, .f32⟩) (.of main_call2_v0 : StableHlo.TRef sig ⟨S23x3x1, .i32⟩) (.of main_v45 : StableHlo.TRef sig ⟨S4x2x23x3x48x144, .f32⟩) (fun x i => Host.gather gather_S4x2x48x48x144_S23x3x1_S4x2x23x3x48x144_0145_2_n_n_2_2_42148144 x i) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.binary_bufs_sub ..⟩
/-- 2 host operations of @_take_0 (main_call3), in order. -/
abbrev hostOps0_6 : List (HloOp τ sig (Elt F)) :=
  [ StableHlo.TRef.unary (.of main_v37 : StableHlo.TRef sig ⟨S23x3, .i32⟩) (.of main_call3_v0 : StableHlo.TRef sig ⟨S23x3x1, .i32⟩) (broadcastInDim S23x3x1 ![0, 1] bcast_S23x3_S23x3x1_0_1),
    StableHlo.TRef.binary (.of main_v45 : StableHlo.TRef sig ⟨S4x2x23x3x48x144, .f32⟩) (.of main_call3_v0 : StableHlo.TRef sig ⟨S23x3x1, .i32⟩) (.of main_v46 : StableHlo.TRef sig ⟨S4x2x23x3x23x3x144, .f32⟩) (fun x i => Host.gather gather_S4x2x23x3x48x144_S23x3x1_S4x2x23x3x23x3x144_01236_4_n_n_4_2_422331144 x i) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.binary_bufs_sub ..⟩
/-- 2 host operations of @_take_1 (main_call4), in order. -/
abbrev hostOps0_7 : List (HloOp τ sig (Elt F)) :=
  [ StableHlo.TRef.unary (.of main_v44 : StableHlo.TRef sig ⟨S97x48, .i32⟩) (.of main_call4_v0 : StableHlo.TRef sig ⟨S97x48x1, .i32⟩) (broadcastInDim S97x48x1 ![0, 1] bcast_S97x48_S97x48x1_0_1),
    StableHlo.TRef.binary (.of main_v46 : StableHlo.TRef sig ⟨S4x2x23x3x23x3x144, .f32⟩) (.of main_call4_v0 : StableHlo.TRef sig ⟨S97x48x1, .i32⟩) (.of main_v47 : StableHlo.TRef sig ⟨S4x2x23x3x23x3x97x48, .f32⟩) (fun x i => Host.gather gather_S4x2x23x3x23x3x144_S97x48x1_S4x2x23x3x23x3x97x48_012345_6_n_n_6_2_422332331 x i) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.binary_bufs_sub ..⟩
/-- 16 host operations of @main, in order. -/
abbrev hostOps0_8 : List (HloOp τ sig (Elt F)) :=
  [ StableHlo.binary main_v47 main_v18 main_v48 ((fun l r => Host.dotGeneral dot_S4x2x23x3x23x3x97x48_S32x2x3x3x48_S4x23x23x97x32_1357_1234_0246_0_n_n none l r) : (⟨S4x2x23x3x23x3x97x48, .f32⟩ : BufTy).Contents (Elt F) → (⟨S32x2x3x3x48, .f32⟩ : BufTy).Contents (Elt F) → (⟨S4x23x23x97x32, .f32⟩ : BufTy).Contents (Elt F)),
    StableHlo.unary main_v48 main_v49 ((transpose S4x32x23x23x97 [0, 4, 1, 2, 3] · transposes_S4x23x23x97x32_S4x32x23x23x97_0_4_1_2_3) : (⟨S4x23x23x97x32, .f32⟩ : BufTy).Contents (Elt F) → (⟨S4x32x23x23x97, .f32⟩ : BufTy).Contents (Elt F)),
    StableHlo.reshape main_arg2 main_v50 (rfl : (.f32 : EltTy) = .f32) shapeCasts_S32_S1x32x1x1x1,
    StableHlo.unary main_v50 main_v51 (broadcastInDim S4x32x23x23x97 ![0, 1, 2, 3, 4] bcast_S1x32x1x1x1_S4x32x23x23x97_0_1_2_3_4 : (⟨S1x32x1x1x1, .f32⟩ : BufTy).Contents (Elt F) → (⟨S4x32x23x23x97, .f32⟩ : BufTy).Contents (Elt F)),
    StableHlo.binary main_v49 main_v51 main_v52 (addf : (⟨S4x32x23x23x97, .f32⟩ : BufTy).Contents (Elt F) → (⟨S4x32x23x23x97, .f32⟩ : BufTy).Contents (Elt F) → (⟨S4x32x23x23x97, .f32⟩ : BufTy).Contents (Elt F)),
    StableHlo.reshape main_v52 main_v53 (rfl : (.f32 : EltTy) = .f32) shapeCasts_S4x32x23x23x97_S4x32x529x97,
    StableHlo.unary main_v53 main_v54 ((transpose S97x4x529x32 [3, 0, 2, 1] · transposes_S4x32x529x97_S97x4x529x32_3_0_2_1) : (⟨S4x32x529x97, .f32⟩ : BufTy).Contents (Elt F) → (⟨S97x4x529x32, .f32⟩ : BufTy).Contents (Elt F)),
    StableHlo.nullary main_c_5 (constantI S_ 32 0#32),
    StableHlo.unary main_c_5 main_v55 (broadcastInDim S4x529 ![] bcast_S_S4x529 : (⟨S_, .i32⟩ : BufTy).Contents (Elt F) → (⟨S4x529, .i32⟩ : BufTy).Contents (Elt F)),
    StableHlo.nullary main_cst_6 (constant S_ .f32 0x00000000#32),
    StableHlo.unary main_cst_6 main_v56 (broadcastInDim S97x4x529x32 ![] bcast_S_S97x4x529x32 : (⟨S_, .f32⟩ : BufTy).Contents (Elt F) → (⟨S97x4x529x32, .f32⟩ : BufTy).Contents (Elt F)),
    StableHlo.nullary main_c_7 (constantI S_ 32 0#32),
    StableHlo.unary main_v54 main_v57_0 id,
    StableHlo.unary main_c_7 main_v57_1 id,
    StableHlo.unary main_v55 main_v57_2 id,
    StableHlo.unary main_v56 main_v57_3 id ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- 2 host operations of @main, in order. -/
abbrev hostOps0_9 : List (HloOp τ sig (Elt F)) :=
  [ StableHlo.unary main_v57_3 main_v58 ((transpose S4x32x529x97 [1, 3, 2, 0] · transposes_S97x4x529x32_S4x32x529x97_1_3_2_0) : (⟨S97x4x529x32, .f32⟩ : BufTy).Contents (Elt F) → (⟨S4x32x529x97, .f32⟩ : BufTy).Contents (Elt F)),
    StableHlo.reshape main_v58 main_v59 (rfl : (.f32 : EltTy) = .f32) shapeCasts_S4x32x529x97_S4x32x23x23x97 ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.unary_bufs_sub .., StableHlo.reshape_bufs_sub ..⟩
/-- 22 host operations of @main, window 0 (statements 1 … 60), in order. -/
abbrev main_part0_ops0 : List (HloOp τ sig (Elt F)) :=
  [ StableHlo.nullary main_v0 (sitofp .f32 (iotaInDim S48 32 0)),
    StableHlo.unary main_v0 main_v1 (broadcastInDim S32x2x3x3x48 ![4] bcast_S48_S32x2x3x3x48_4 : (⟨S48, .f32⟩ : BufTy).Contents (Elt F) → (⟨S32x2x3x3x48, .f32⟩ : BufTy).Contents (Elt F)),
    StableHlo.nullary main_cst (constant S_ .f32 0x41800000#32),
    StableHlo.unary main_cst main_v2 (broadcastInDim S32x2x3x3x48 ![] bcast_S_S32x2x3x3x48 : (⟨S_, .f32⟩ : BufTy).Contents (Elt F) → (⟨S32x2x3x3x48, .f32⟩ : BufTy).Contents (Elt F)),
    StableHlo.binary main_v1 main_v2 main_v3 (Host.divf : (⟨S32x2x3x3x48, .f32⟩ : BufTy).Contents (Elt F) → (⟨S32x2x3x3x48, .f32⟩ : BufTy).Contents (Elt F) → (⟨S32x2x3x3x48, .f32⟩ : BufTy).Contents (Elt F)),
    StableHlo.unary main_arg1 main_v4 (broadcastInDim S32x2x3x3x1 ![0, 1, 2, 3] bcast_S32x2x3x3_S32x2x3x3x1_0_1_2_3 : (⟨S32x2x3x3, .f32⟩ : BufTy).Contents (Elt F) → (⟨S32x2x3x3x1, .f32⟩ : BufTy).Contents (Elt F)),
    StableHlo.nullary main_cst_0 (constant S_ .f32 0x41800000#32),
    StableHlo.unary main_cst_0 main_v5 (broadcastInDim S32x2x3x3x1 ![] bcast_S_S32x2x3x3x1 : (⟨S_, .f32⟩ : BufTy).Contents (Elt F) → (⟨S32x2x3x3x1, .f32⟩ : BufTy).Contents (Elt F)),
    StableHlo.binary main_v4 main_v5 main_v6 (mulf : (⟨S32x2x3x3x1, .f32⟩ : BufTy).Contents (Elt F) → (⟨S32x2x3x3x1, .f32⟩ : BufTy).Contents (Elt F) → (⟨S32x2x3x3x1, .f32⟩ : BufTy).Contents (Elt F)),
    StableHlo.unary main_v6 main_v7 (broadcastInDim S32x2x3x3x48 ![0, 1, 2, 3, 4] bcast_S32x2x3x3x1_S32x2x3x3x48_0_1_2_3_4 : (⟨S32x2x3x3x1, .f32⟩ : BufTy).Contents (Elt F) → (⟨S32x2x3x3x48, .f32⟩ : BufTy).Contents (Elt F)),
    StableHlo.binary main_v1 main_v7 main_v8 (subf : (⟨S32x2x3x3x48, .f32⟩ : BufTy).Contents (Elt F) → (⟨S32x2x3x3x48, .f32⟩ : BufTy).Contents (Elt F) → (⟨S32x2x3x3x48, .f32⟩ : BufTy).Contents (Elt F)),
    StableHlo.unary main_v8 main_v9 (Host.negf : (⟨S32x2x3x3x48, .f32⟩ : BufTy).Contents (Elt F) → (⟨S32x2x3x3x48, .f32⟩ : BufTy).Contents (Elt F)),
    StableHlo.nullary main_cst_1 (constant S_ .f32 0x42000000#32),
    StableHlo.unary main_cst_1 main_v10 (broadcastInDim S32x2x3x3x48 ![] bcast_S_S32x2x3x3x48 : (⟨S_, .f32⟩ : BufTy).Contents (Elt F) → (⟨S32x2x3x3x48, .f32⟩ : BufTy).Contents (Elt F)),
    StableHlo.binary main_v9 main_v10 main_v11 (Host.divf : (⟨S32x2x3x3x48, .f32⟩ : BufTy).Contents (Elt F) → (⟨S32x2x3x3x48, .f32⟩ : BufTy).Contents (Elt F) → (⟨S32x2x3x3x48, .f32⟩ : BufTy).Contents (Elt F)),
    StableHlo.unary main_arg1 main_v12 (broadcastInDim S32x2x3x3x1 ![0, 1, 2, 3] bcast_S32x2x3x3_S32x2x3x3x1_0_1_2_3 : (⟨S32x2x3x3, .f32⟩ : BufTy).Contents (Elt F) → (⟨S32x2x3x3x1, .f32⟩ : BufTy).Contents (Elt F)),
    StableHlo.unary main_v12 main_v13 (broadcastInDim S32x2x3x3x48 ![0, 1, 2, 3, 4] bcast_S32x2x3x3x1_S32x2x3x3x48_0_1_2_3_4 : (⟨S32x2x3x3x1, .f32⟩ : BufTy).Contents (Elt F) → (⟨S32x2x3x3x48, .f32⟩ : BufTy).Contents (Elt F)),
    StableHlo.binary main_v11 main_v13 main_v14 (addf : (⟨S32x2x3x3x48, .f32⟩ : BufTy).Contents (Elt F) → (⟨S32x2x3x3x48, .f32⟩ : BufTy).Contents (Elt F) → (⟨S32x2x3x3x48, .f32⟩ : BufTy).Contents (Elt F)),
    StableHlo.binary main_v3 main_v14 main_v15 (minimumf : (⟨S32x2x3x3x48, .f32⟩ : BufTy).Contents (Elt F) → (⟨S32x2x3x3x48, .f32⟩ : BufTy).Contents (Elt F) → (⟨S32x2x3x3x48, .f32⟩ : BufTy).Contents (Elt F)),
    StableHlo.nullary main_cst_2 (constant S_ .f32 0x00000000#32),
    StableHlo.unary main_cst_2 main_v16 (broadcastInDim S32x2x3x3x48 ![] bcast_S_S32x2x3x3x48 : (⟨S_, .f32⟩ : BufTy).Contents (Elt F) → (⟨S32x2x3x3x48, .f32⟩ : BufTy).Contents (Elt F)),
    StableHlo.binary main_v16 main_v15 main_v17 (maximumf : (⟨S32x2x3x3x48, .f32⟩ : BufTy).Contents (Elt F) → (⟨S32x2x3x3x48, .f32⟩ : BufTy).Contents (Elt F) → (⟨S32x2x3x3x48, .f32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩
/-- 1 host operation of @_flip (main_call0), window 0 (statements 1 … 60), in order. -/
abbrev main_part0_ops1 : List (HloOp τ sig (Elt F)) :=
  [ StableHlo.TRef.unary (.of main_v17 : StableHlo.TRef sig ⟨S32x2x3x3x48, .f32⟩) (.of main_v18 : StableHlo.TRef sig ⟨S32x2x3x3x48, .f32⟩) (Host.reverse [4]) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  StableHlo.unary_bufs_sub ..
/-- 1 host operation of @main, window 0 (statements 1 … 60), in order. -/
abbrev main_part0_ops2 : List (HloOp τ sig (Elt F)) :=
  [ StableHlo.nullary main_c (constantI S_ 32 0#32) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  StableHlo.nullary_bufs_sub ..
/-- 2 host operations of @_pad (main_call1), window 0 (statements 1 … 60), in order. -/
abbrev main_part0_ops3 : List (HloOp τ sig (Elt F)) :=
  [ StableHlo.TRef.unary (.of main_c : StableHlo.TRef sig ⟨S_, .i32⟩) (.of main_call1_v0 : StableHlo.TRef sig ⟨S_, .f32⟩) (sitofp .f32),
    StableHlo.TRef.binary (.of main_arg0 : StableHlo.TRef sig ⟨S4x2x48x48x48, .f32⟩) (.of main_call1_v0 : StableHlo.TRef sig ⟨S_, .f32⟩) (.of main_v19 : StableHlo.TRef sig ⟨S4x2x48x48x144, .f32⟩) (fun x v => pad S4x2x48x48x144 ![0, 0, 0, 0, 48] ![0, 0, 0, 0, 48] ![0, 0, 0, 0, 0] x v pads_S4x2x48x48x48_S4x2x48x48x144_000_000_000_000_48480 h_S_) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.binary_bufs_sub ..⟩
/-- 27 host operations of @main, window 0 (statements 1 … 60), in order. -/
abbrev main_part0_ops4 : List (HloOp τ sig (Elt F)) :=
  [ StableHlo.nullary main_v20 (iotaInDim S23 32 0),
    StableHlo.unary main_v20 main_v21 (broadcastInDim S23x1 ![0] bcast_S23_S23x1_0 : (⟨S23, .i32⟩ : BufTy).Contents (Elt F) → (⟨S23x1, .i32⟩ : BufTy).Contents (Elt F)),
    StableHlo.nullary main_c_3 (constantI S_ 32 2#32),
    StableHlo.unary main_c_3 main_v22 (broadcastInDim S23x1 ![] bcast_S_S23x1 : (⟨S_, .i32⟩ : BufTy).Contents (Elt F) → (⟨S23x1, .i32⟩ : BufTy).Contents (Elt F)),
    StableHlo.binary main_v22 main_v21 main_v23 (muli : (⟨S23x1, .i32⟩ : BufTy).Contents (Elt F) → (⟨S23x1, .i32⟩ : BufTy).Contents (Elt F) → (⟨S23x1, .i32⟩ : BufTy).Contents (Elt F)),
    StableHlo.nullary main_v24 (iotaInDim S3 32 0),
    StableHlo.unary main_v24 main_v25 (broadcastInDim S1x3 ![1] bcast_S3_S1x3_1 : (⟨S3, .i32⟩ : BufTy).Contents (Elt F) → (⟨S1x3, .i32⟩ : BufTy).Contents (Elt F)),
    StableHlo.unary main_v23 main_v26 (broadcastInDim S23x3 ![0, 1] bcast_S23x1_S23x3_0_1 : (⟨S23x1, .i32⟩ : BufTy).Contents (Elt F) → (⟨S23x3, .i32⟩ : BufTy).Contents (Elt F)),
    StableHlo.unary main_v25 main_v27 (broadcastInDim S23x3 ![0, 1] bcast_S1x3_S23x3_0_1 : (⟨S1x3, .i32⟩ : BufTy).Contents (Elt F) → (⟨S23x3, .i32⟩ : BufTy).Contents (Elt F)),
    StableHlo.binary main_v26 main_v27 main_v28 (addi : (⟨S23x3, .i32⟩ : BufTy).Contents (Elt F) → (⟨S23x3, .i32⟩ : BufTy).Contents (Elt F) → (⟨S23x3, .i32⟩ : BufTy).Contents (Elt F)),
    StableHlo.nullary main_v29 (iotaInDim S23 32 0),
    StableHlo.unary main_v29 main_v30 (broadcastInDim S23x1 ![0] bcast_S23_S23x1_0 : (⟨S23, .i32⟩ : BufTy).Contents (Elt F) → (⟨S23x1, .i32⟩ : BufTy).Contents (Elt F)),
    StableHlo.nullary main_c_4 (constantI S_ 32 2#32),
    StableHlo.unary main_c_4 main_v31 (broadcastInDim S23x1 ![] bcast_S_S23x1 : (⟨S_, .i32⟩ : BufTy).Contents (Elt F) → (⟨S23x1, .i32⟩ : BufTy).Contents (Elt F)),
    StableHlo.binary main_v31 main_v30 main_v32 (muli : (⟨S23x1, .i32⟩ : BufTy).Contents (Elt F) → (⟨S23x1, .i32⟩ : BufTy).Contents (Elt F) → (⟨S23x1, .i32⟩ : BufTy).Contents (Elt F)),
    StableHlo.nullary main_v33 (iotaInDim S3 32 0),
    StableHlo.unary main_v33 main_v34 (broadcastInDim S1x3 ![1] bcast_S3_S1x3_1 : (⟨S3, .i32⟩ : BufTy).Contents (Elt F) → (⟨S1x3, .i32⟩ : BufTy).Contents (Elt F)),
    StableHlo.unary main_v32 main_v35 (broadcastInDim S23x3 ![0, 1] bcast_S23x1_S23x3_0_1 : (⟨S23x1, .i32⟩ : BufTy).Contents (Elt F) → (⟨S23x3, .i32⟩ : BufTy).Contents (Elt F)),
    StableHlo.unary main_v34 main_v36 (broadcastInDim S23x3 ![0, 1] bcast_S1x3_S23x3_0_1 : (⟨S1x3, .i32⟩ : BufTy).Contents (Elt F) → (⟨S23x3, .i32⟩ : BufTy).Contents (Elt F)),
    StableHlo.binary main_v35 main_v36 main_v37 (addi : (⟨S23x3, .i32⟩ : BufTy).Contents (Elt F) → (⟨S23x3, .i32⟩ : BufTy).Contents (Elt F) → (⟨S23x3, .i32⟩ : BufTy).Contents (Elt F)),
    StableHlo.nullary main_v38 (iotaInDim S97 32 0),
    StableHlo.unary main_v38 main_v39 (broadcastInDim S97x1 ![0] bcast_S97_S97x1_0 : (⟨S97, .i32⟩ : BufTy).Contents (Elt F) → (⟨S97x1, .i32⟩ : BufTy).Contents (Elt F)),
    StableHlo.nullary main_v40 (iotaInDim S48 32 0),
    StableHlo.unary main_v40 main_v41 (broadcastInDim S1x48 ![1] bcast_S48_S1x48_1 : (⟨S48, .i32⟩ : BufTy).Contents (Elt F) → (⟨S1x48, .i32⟩ : BufTy).Contents (Elt F)),
    StableHlo.unary main_v39 main_v42 (broadcastInDim S97x48 ![0, 1] bcast_S97x1_S97x48_0_1 : (⟨S97x1, .i32⟩ : BufTy).Contents (Elt F) → (⟨S97x48, .i32⟩ : BufTy).Contents (Elt F)),
    StableHlo.unary main_v41 main_v43 (broadcastInDim S97x48 ![0, 1] bcast_S1x48_S97x48_0_1 : (⟨S1x48, .i32⟩ : BufTy).Contents (Elt F) → (⟨S97x48, .i32⟩ : BufTy).Contents (Elt F)),
    StableHlo.binary main_v42 main_v43 main_v44 (addi : (⟨S97x48, .i32⟩ : BufTy).Contents (Elt F) → (⟨S97x48, .i32⟩ : BufTy).Contents (Elt F) → (⟨S97x48, .i32⟩ : BufTy).Contents (Elt F)) ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.binary_bufs_sub ..⟩
/-- 2 host operations of @_take (main_call2), window 0 (statements 1 … 60), in order. -/
abbrev main_part0_ops5 : List (HloOp τ sig (Elt F)) :=
  [ StableHlo.TRef.unary (.of main_v28 : StableHlo.TRef sig ⟨S23x3, .i32⟩) (.of main_call2_v0 : StableHlo.TRef sig ⟨S23x3x1, .i32⟩) (broadcastInDim S23x3x1 ![0, 1] bcast_S23x3_S23x3x1_0_1),
    StableHlo.TRef.binary (.of main_v19 : StableHlo.TRef sig ⟨S4x2x48x48x144, .f32⟩) (.of main_call2_v0 : StableHlo.TRef sig ⟨S23x3x1, .i32⟩) (.of main_v45 : StableHlo.TRef sig ⟨S4x2x23x3x48x144, .f32⟩) (fun x i => Host.gather gather_S4x2x48x48x144_S23x3x1_S4x2x23x3x48x144_0145_2_n_n_2_2_42148144 x i) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.unary_bufs_sub .., StableHlo.binary_bufs_sub ..⟩
/-- 2 host operations of @_take_0 (main_call3), window 0 (statements 1 … 60), in order. -/
abbrev main_part0_ops6 : List (HloOp τ sig (Elt F)) :=
  [ StableHlo.TRef.unary (.of main_v37 : StableHlo.TRef sig ⟨S23x3, .i32⟩) (.of main_call3_v0 : StableHlo.TRef sig ⟨S23x3x1, .i32⟩) (broadcastInDim S23x3x1 ![0, 1] bcast_S23x3_S23x3x1_0_1),
    StableHlo.TRef.binary (.of main_v45 : StableHlo.TRef sig ⟨S4x2x23x3x48x144, .f32⟩) (.of main_call3_v0 : StableHlo.TRef sig ⟨S23x3x1, .i32⟩) (.of main_v46 : StableHlo.TRef sig ⟨S4x2x23x3x23x3x144, .f32⟩) (fun x i => Host.gather gather_S4x2x23x3x48x144_S23x3x1_S4x2x23x3x23x3x144_01236_4_n_n_4_2_422331144 x i) ]
/-- Each touches TensorCore references only (`HostSeg.ofOps` over `StableHlo.tcRefs`, or a subset by `sub_ucRefs`). -/
theorem main_part0_ops6_sub : (main_part0_ops6 : List (HloOp τ sig (Elt F))).Forall fun op => op.bufs ⊆ StableHlo.tcRefs τ sig :=
  ⟨StableHlo.unary_bufs_sub .., StableHlo.binary_bufs_sub ..⟩
/-- 2 host operations of @_take_1 (main_call4), window 0 (statements 1 … 60), in order. -/
abbrev main_part0_ops7 : List (HloOp τ sig (Elt F)) :=
  [ StableHlo.TRef.unary (.of main_v44 : StableHlo.TRef sig ⟨S97x48, .i32⟩) (.of main_call4_v0 : StableHlo.TRef sig ⟨S97x48x1, .i32⟩) (broadcastInDim S97x48x1 ![0, 1] bcast_S97x48_S97x48x1_0_1),
    StableHlo.TRef.binary (.of main_v46 : StableHlo.TRef sig ⟨S4x2x23x3x23x3x144, .f32⟩) (.of main_call4_v0 : StableHlo.TRef sig ⟨S97x48x1, .i32⟩) (.of main_v47 : StableHlo.TRef sig ⟨S4x2x23x3x23x3x97x48, .f32⟩) (fun x i => Host.gather gather_S4x2x23x3x23x3x144_S97x48x1_S4x2x23x3x23x3x97x48_012345_6_n_n_6_2_422332331 x i) ]
/-- Each touches TensorCore references only (`HostSeg.ofOps` over `StableHlo.tcRefs`, or a subset by `sub_ucRefs`). -/
theorem main_part0_ops7_sub : (main_part0_ops7 : List (HloOp τ sig (Elt F))).Forall fun op => op.bufs ⊆ StableHlo.tcRefs τ sig :=
  ⟨StableHlo.unary_bufs_sub .., StableHlo.binary_bufs_sub ..⟩
/-- 5 host operations of @main, window 0 (statements 1 … 60), in order. -/
abbrev main_part0_ops8 : List (HloOp τ sig (Elt F)) :=
  [ StableHlo.binary main_v47 main_v18 main_v48 ((fun l r => Host.dotGeneral dot_S4x2x23x3x23x3x97x48_S32x2x3x3x48_S4x23x23x97x32_1357_1234_0246_0_n_n none l r) : (⟨S4x2x23x3x23x3x97x48, .f32⟩ : BufTy).Contents (Elt F) → (⟨S32x2x3x3x48, .f32⟩ : BufTy).Contents (Elt F) → (⟨S4x23x23x97x32, .f32⟩ : BufTy).Contents (Elt F)),
    StableHlo.unary main_v48 main_v49 ((transpose S4x32x23x23x97 [0, 4, 1, 2, 3] · transposes_S4x23x23x97x32_S4x32x23x23x97_0_4_1_2_3) : (⟨S4x23x23x97x32, .f32⟩ : BufTy).Contents (Elt F) → (⟨S4x32x23x23x97, .f32⟩ : BufTy).Contents (Elt F)),
    StableHlo.reshape main_arg2 main_v50 (rfl : (.f32 : EltTy) = .f32) shapeCasts_S32_S1x32x1x1x1,
    StableHlo.unary main_v50 main_v51 (broadcastInDim S4x32x23x23x97 ![0, 1, 2, 3, 4] bcast_S1x32x1x1x1_S4x32x23x23x97_0_1_2_3_4 : (⟨S1x32x1x1x1, .f32⟩ : BufTy).Contents (Elt F) → (⟨S4x32x23x23x97, .f32⟩ : BufTy).Contents (Elt F)),
    StableHlo.binary main_v49 main_v51 main_v52 (addf : (⟨S4x32x23x23x97, .f32⟩ : BufTy).Contents (Elt F) → (⟨S4x32x23x23x97, .f32⟩ : BufTy).Contents (Elt F) → (⟨S4x32x23x23x97, .f32⟩ : BufTy).Contents (Elt F)) ]
/-- Each touches TensorCore references only (`HostSeg.ofOps` over `StableHlo.tcRefs`, or a subset by `sub_ucRefs`). -/
theorem main_part0_ops8_sub : (main_part0_ops8 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7 ]
  (StableHlo.seq main_part0_ops8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, Pipeline.chainK_cons, Pipeline.chainK_cons]
  chain_rfl

/-- 11 host operations of @main, window 1 (statements 61 … 75), in order. -/
abbrev main_part1_ops0 : List (HloOp τ sig (Elt F)) :=
  [ StableHlo.reshape main_v52 main_v53 (rfl : (.f32 : EltTy) = .f32) shapeCasts_S4x32x23x23x97_S4x32x529x97,
    StableHlo.unary main_v53 main_v54 ((transpose S97x4x529x32 [3, 0, 2, 1] · transposes_S4x32x529x97_S97x4x529x32_3_0_2_1) : (⟨S4x32x529x97, .f32⟩ : BufTy).Contents (Elt F) → (⟨S97x4x529x32, .f32⟩ : BufTy).Contents (Elt F)),
    StableHlo.nullary main_c_5 (constantI S_ 32 0#32),
    StableHlo.unary main_c_5 main_v55 (broadcastInDim S4x529 ![] bcast_S_S4x529 : (⟨S_, .i32⟩ : BufTy).Contents (Elt F) → (⟨S4x529, .i32⟩ : BufTy).Contents (Elt F)),
    StableHlo.nullary main_cst_6 (constant S_ .f32 0x00000000#32),
    StableHlo.unary main_cst_6 main_v56 (broadcastInDim S97x4x529x32 ![] bcast_S_S97x4x529x32 : (⟨S_, .f32⟩ : BufTy).Contents (Elt F) → (⟨S97x4x529x32, .f32⟩ : BufTy).Contents (Elt F)),
    StableHlo.nullary main_c_7 (constantI S_ 32 0#32),
    StableHlo.unary main_v54 main_v57_0 id,
    StableHlo.unary main_c_7 main_v57_1 id,
    StableHlo.unary main_v55 main_v57_2 id,
    StableHlo.unary main_v56 main_v57_3 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- 2 host operations of @main, window 1 (statements 61 … 75), in order. -/
abbrev main_part1_ops1 : List (HloOp τ sig (Elt F)) :=
  [ StableHlo.unary main_v57_3 main_v58 ((transpose S4x32x529x97 [1, 3, 2, 0] · transposes_S97x4x529x32_S4x32x529x97_1_3_2_0) : (⟨S97x4x529x32, .f32⟩ : BufTy).Contents (Elt F) → (⟨S4x32x529x97, .f32⟩ : BufTy).Contents (Elt F)),
    StableHlo.reshape main_v58 main_v59 (rfl : (.f32 : EltTy) = .f32) shapeCasts_S4x32x529x97_S4x32x23x23x97 ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.reshape_bufs_sub ..⟩
/-- The last window of `main` (`main_part1`, statements 61 … 75) is the chain of ITS items, each item aligned with the window's
    statements, then `chain_rfl`. -/
theorem main_part1_chain (c : Dev nD) : main_part1 (F := F) c = (Pipeline.chain
  [ StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4],
    .ops [main_part0_ops5],
    .ops [main_part0_ops6],
    .ops [main_part0_ops7],
    .ops [main_part0_ops8, main_part1_ops0],
    .prog (HostLoop.enter 0),
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    HostLoop.enter 0,
    StableHlo.seq hostOps0_9 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    HostLoop.enter 0,
    StableHlo.seq hostOps0_9 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @dynamic_index_in_dim (main_while0b_call5), in order. -/
abbrev while0Ops0 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v57_0 : StableHlo.TRef sig ⟨S97x4x529x32, .f32⟩) ![(.of main_v57_1 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x4x529x32, .f32⟩) (fun x i => Host.dynamicSlice S1x4x529x32 x (fun k => (i k (Shape.Idx.first h_S_)).toInt) sliceFits_S97x4x529x32_S1x4x529x32),
    StableHlo.TRef.reshape (.of main_while0b_call5_v0 : StableHlo.TRef sig ⟨S1x4x529x32, .f32⟩) (.of main_while0b_v60 : StableHlo.TRef sig ⟨S4x529x32, .f32⟩) (rfl : (.f32 : EltTy) = .f32) shapeCasts_S1x4x529x32_S4x529x32 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 20 host operations of host loop 0's body region, in order. -/
abbrev while0Ops0_1 : List (HloOp τ sig (Elt F)) :=
  [ StableHlo.nullary main_while0b_c_11 (constantI S_ 32 0#32),
    StableHlo.unary main_while0b_c_11 main_while0b_v61 (broadcastInDim S4x529 ![] bcast_S_S4x529 : (⟨S_, .i32⟩ : BufTy).Contents (Elt F) → (⟨S4x529, .i32⟩ : BufTy).Contents (Elt F)),
    StableHlo.binary main_v57_2 main_while0b_v61 main_while0b_v62 (cmpi .eq : (⟨S4x529, .i32⟩ : BufTy).Contents (Elt F) → (⟨S4x529, .i32⟩ : BufTy).Contents (Elt F) → (⟨S4x529, .i1⟩ : BufTy).Contents (Elt F)),
    StableHlo.unary main_while0b_v62 main_while0b_v63 (uitofp .f32 : (⟨S4x529, .i1⟩ : BufTy).Contents (Elt F) → (⟨S4x529, .f32⟩ : BufTy).Contents (Elt F)),
    StableHlo.unary main_while0b_v63 main_while0b_v64 (broadcastInDim S4x529x1 ![0, 1] bcast_S4x529_S4x529x1_0_1 : (⟨S4x529, .f32⟩ : BufTy).Contents (Elt F) → (⟨S4x529x1, .f32⟩ : BufTy).Contents (Elt F)),
    StableHlo.nullary main_while0b_c_12 (constantI S_ 32 0#32),
    StableHlo.unary main_while0b_c_12 main_while0b_v65 (broadcastInDim S4x529 ![] bcast_S_S4x529 : (⟨S_, .i32⟩ : BufTy).Contents (Elt F) → (⟨S4x529, .i32⟩ : BufTy).Contents (Elt F)),
    StableHlo.binary main_v57_2 main_while0b_v65 main_while0b_v66 (cmpi .ne : (⟨S4x529, .i32⟩ : BufTy).Contents (Elt F) → (⟨S4x529, .i32⟩ : BufTy).Contents (Elt F) → (⟨S4x529, .i1⟩ : BufTy).Contents (Elt F)),
    StableHlo.unary main_while0b_v66 main_while0b_v67 ((extui 32 · natLt_1_32) : (⟨S4x529, .i1⟩ : BufTy).Contents (Elt F) → (⟨S4x529, .i32⟩ : BufTy).Contents (Elt F)),
    StableHlo.nullary main_while0b_c_13 (constantI S_ 32 0#32),
    StableHlo.binary main_while0b_v67 main_while0b_c_13 main_while0b_v68 ((fun x v => Host.reduce IntOp.addi x v reducesTo_S4x529_S4_d1 h_S_) : (⟨S4x529, .i32⟩ : BufTy).Contents (Elt F) → (⟨S_, .i32⟩ : BufTy).Contents (Elt F) → (⟨S4, .i32⟩ : BufTy).Contents (Elt F)),
    StableHlo.nullary main_while0b_c_14 (constantI S_ 32 265#32),
    StableHlo.unary main_while0b_c_14 main_while0b_v69 (broadcastInDim S4 ![] bcast_S_S4 : (⟨S_, .i32⟩ : BufTy).Contents (Elt F) → (⟨S4, .i32⟩ : BufTy).Contents (Elt F)),
    StableHlo.binary main_while0b_v68 main_while0b_v69 main_while0b_v70 (cmpi .slt : (⟨S4, .i32⟩ : BufTy).Contents (Elt F) → (⟨S4, .i32⟩ : BufTy).Contents (Elt F) → (⟨S4, .i1⟩ : BufTy).Contents (Elt F)),
    StableHlo.unary main_while0b_v70 main_while0b_v71 (uitofp .f32 : (⟨S4, .i1⟩ : BufTy).Contents (Elt F) → (⟨S4, .f32⟩ : BufTy).Contents (Elt F)),
    StableHlo.reshape main_while0b_v71 main_while0b_v72 (rfl : (.f32 : EltTy) = .f32) shapeCasts_S4_S4x1x1,
    StableHlo.unary main_while0b_v64 main_while0b_v73 (broadcastInDim S4x529x32 ![0, 1, 2] bcast_S4x529x1_S4x529x32_0_1_2 : (⟨S4x529x1, .f32⟩ : BufTy).Contents (Elt F) → (⟨S4x529x32, .f32⟩ : BufTy).Contents (Elt F)),
    StableHlo.binary main_while0b_v60 main_while0b_v73 main_while0b_v74 (mulf : (⟨S4x529x32, .f32⟩ : BufTy).Contents (Elt F) → (⟨S4x529x32, .f32⟩ : BufTy).Contents (Elt F) → (⟨S4x529x32, .f32⟩ : BufTy).Contents (Elt F)),
    StableHlo.unary main_while0b_v72 main_while0b_v75 (broadcastInDim S4x529x32 ![0, 1, 2] bcast_S4x1x1_S4x529x32_0_1_2 : (⟨S4x1x1, .f32⟩ : BufTy).Contents (Elt F) → (⟨S4x529x32, .f32⟩ : BufTy).Contents (Elt F)),
    StableHlo.binary main_while0b_v74 main_while0b_v75 main_while0b_v76 (mulf : (⟨S4x529x32, .f32⟩ : BufTy).Contents (Elt F) → (⟨S4x529x32, .f32⟩ : BufTy).Contents (Elt F) → (⟨S4x529x32, .f32⟩ : BufTy).Contents (Elt F)) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.binary_bufs_sub ..⟩
/-- 5 host operations of @argmax (main_while0b_call6), in order. -/
abbrev while0Ops0_2 : List (HloOp τ sig (Elt F)) :=
  [ StableHlo.TRef.nullary (.of main_while0b_call6_v0 : StableHlo.TRef sig ⟨S4x529x32, .i32⟩) (iotaInDim S4x529x32 32 2),
    StableHlo.TRef.nullary (.of main_while0b_call6_cst : StableHlo.TRef sig ⟨S_, .f32⟩) (constant S_ .f32 0xFF800000#32),
    StableHlo.TRef.nullary (.of main_while0b_call6_c : StableHlo.TRef sig ⟨S_, .i32⟩) (constantI S_ 32 0#32),
    StableHlo.TRef.quaternary (.of main_while0b_v76 : StableHlo.TRef sig ⟨S4x529x32, .f32⟩) (.of main_while0b_call6_v0 : StableHlo.TRef sig ⟨S4x529x32, .i32⟩) (.of main_while0b_call6_cst : StableHlo.TRef sig ⟨S_, .f32⟩) (.of main_while0b_call6_c : StableHlo.TRef sig ⟨S_, .i32⟩) (.of main_while0b_call6_v1_0 : StableHlo.TRef sig ⟨S4x529, .f32⟩) (fun x y u v j => (Host.argReduce reducer_argmax_f32_i32 x y u v reducesTo_S4x529x32_S4x529_d2 h_S_ j).1),
    StableHlo.TRef.quaternary (.of main_while0b_v76 : StableHlo.TRef sig ⟨S4x529x32, .f32⟩) (.of main_while0b_call6_v0 : StableHlo.TRef sig ⟨S4x529x32, .i32⟩) (.of main_while0b_call6_cst : StableHlo.TRef sig ⟨S_, .f32⟩) (.of main_while0b_call6_c : StableHlo.TRef sig ⟨S_, .i32⟩) (.of main_while0b_v77 : StableHlo.TRef sig ⟨S4x529, .i32⟩) (fun x y u v j => (Host.argReduce reducer_argmax_f32_i32 x y u v reducesTo_S4x529x32_S4x529_d2 h_S_ j).2) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of host loop 0's body region, in order. -/
abbrev while0Ops0_3 : List (HloOp τ sig (Elt F)) :=
  [ StableHlo.unary main_while0b_v77 main_while0b_v78 (broadcastInDim S4x529x1 ![0, 1] bcast_S4x529_S4x529x1_0_1 : (⟨S4x529, .i32⟩ : BufTy).Contents (Elt F) → (⟨S4x529x1, .i32⟩ : BufTy).Contents (Elt F)) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  StableHlo.unary_bufs_sub ..
/-- 22 host operations of @take_along_axis (main_while0b_call7), in order. -/
abbrev while0Ops0_4 : List (HloOp τ sig (Elt F)) :=
  [ StableHlo.TRef.nullary (.of main_while0b_call7_c : StableHlo.TRef sig ⟨S_, .i32⟩) (constantI S_ 32 0#32),
    StableHlo.TRef.unary (.of main_while0b_call7_c : StableHlo.TRef sig ⟨S_, .i32⟩) (.of main_while0b_call7_v0 : StableHlo.TRef sig ⟨S4x529x1, .i32⟩) (broadcastInDim S4x529x1 ![] bcast_S_S4x529x1),
    StableHlo.TRef.binary (.of main_while0b_v78 : StableHlo.TRef sig ⟨S4x529x1, .i32⟩) (.of main_while0b_call7_v0 : StableHlo.TRef sig ⟨S4x529x1, .i32⟩) (.of main_while0b_call7_v1 : StableHlo.TRef sig ⟨S4x529x1, .i1⟩) (cmpi .slt),
    StableHlo.TRef.nullary (.of main_while0b_call7_c_0 : StableHlo.TRef sig ⟨S_, .i32⟩) (constantI S_ 32 32#32),
    StableHlo.TRef.unary (.of main_while0b_call7_c_0 : StableHlo.TRef sig ⟨S_, .i32⟩) (.of main_while0b_call7_v2 : StableHlo.TRef sig ⟨S4x529x1, .i32⟩) (broadcastInDim S4x529x1 ![] bcast_S_S4x529x1),
    StableHlo.TRef.binary (.of main_while0b_v78 : StableHlo.TRef sig ⟨S4x529x1, .i32⟩) (.of main_while0b_call7_v2 : StableHlo.TRef sig ⟨S4x529x1, .i32⟩) (.of main_while0b_call7_v3 : StableHlo.TRef sig ⟨S4x529x1, .i32⟩) addi,
    StableHlo.TRef.ternary (.of main_while0b_call7_v1 : StableHlo.TRef sig ⟨S4x529x1, .i1⟩) (.of main_while0b_call7_v3 : StableHlo.TRef sig ⟨S4x529x1, .i32⟩) (.of main_while0b_v78 : StableHlo.TRef sig ⟨S4x529x1, .i32⟩) (.of main_while0b_call7_v4 : StableHlo.TRef sig ⟨S4x529x1, .i32⟩) select,
    StableHlo.TRef.reshape (.of main_while0b_call7_v4 : StableHlo.TRef sig ⟨S4x529x1, .i32⟩) (.of main_while0b_call7_v5 : StableHlo.TRef sig ⟨S4x529x1x1, .i32⟩) (rfl : (.i32 : EltTy) = .i32) shapeCasts_S4x529x1_S4x529x1x1,
    StableHlo.TRef.nullary (.of main_while0b_call7_c_1 : StableHlo.TRef sig ⟨S1, .i32⟩) (constantI S1 32 31#32),
    StableHlo.TRef.nullary (.of main_while0b_call7_c_2 : StableHlo.TRef sig ⟨S_, .i32⟩) (constantI S_ 32 0#32),
    StableHlo.TRef.unary (.of main_while0b_call7_c_2 : StableHlo.TRef sig ⟨S_, .i32⟩) (.of main_while0b_call7_v6 : StableHlo.TRef sig ⟨S4x529x1x1, .i32⟩) (broadcastInDim S4x529x1x1 ![] bcast_S_S4x529x1x1),
    StableHlo.TRef.binary (.of main_while0b_call7_v5 : StableHlo.TRef sig ⟨S4x529x1x1, .i32⟩) (.of main_while0b_call7_v6 : StableHlo.TRef sig ⟨S4x529x1x1, .i32⟩) (.of main_while0b_call7_v7 : StableHlo.TRef sig ⟨S4x529x1x1, .i1⟩) (cmpi .sge),
    StableHlo.TRef.unary (.of main_while0b_call7_c_1 : StableHlo.TRef sig ⟨S1, .i32⟩) (.of main_while0b_call7_v8 : StableHlo.TRef sig ⟨S1x1x1x1, .i32⟩) (broadcastInDim S1x1x1x1 ![3] bcast_S1_S1x1x1x1_3),
    StableHlo.TRef.unary (.of main_while0b_call7_v8 : StableHlo.TRef sig ⟨S1x1x1x1, .i32⟩) (.of main_while0b_call7_v9 : StableHlo.TRef sig ⟨S4x529x1x1, .i32⟩) (broadcastInDim S4x529x1x1 ![0, 1, 2, 3] bcast_S1x1x1x1_S4x529x1x1_0_1_2_3),
    StableHlo.TRef.binary (.of main_while0b_call7_v5 : StableHlo.TRef sig ⟨S4x529x1x1, .i32⟩) (.of main_while0b_call7_v9 : StableHlo.TRef sig ⟨S4x529x1x1, .i32⟩) (.of main_while0b_call7_v10 : StableHlo.TRef sig ⟨S4x529x1x1, .i1⟩) (cmpi .sle),
    StableHlo.TRef.binary (.of main_while0b_call7_v7 : StableHlo.TRef sig ⟨S4x529x1x1, .i1⟩) (.of main_while0b_call7_v10 : StableHlo.TRef sig ⟨S4x529x1x1, .i1⟩) (.of main_while0b_call7_v11 : StableHlo.TRef sig ⟨S4x529x1x1, .i1⟩) andi,
    StableHlo.TRef.nullary (.of main_while0b_call7_c_3 : StableHlo.TRef sig ⟨S_, .i1⟩) (constantI S_ 1 1#1),
    StableHlo.TRef.binary (.of main_while0b_call7_v11 : StableHlo.TRef sig ⟨S4x529x1x1, .i1⟩) (.of main_while0b_call7_c_3 : StableHlo.TRef sig ⟨S_, .i1⟩) (.of main_while0b_call7_v12 : StableHlo.TRef sig ⟨S4x529x1, .i1⟩) (fun x v => Host.reduce IntOp.andi x v reducesTo_S4x529x1x1_S4x529x1_d3 h_S_),
    StableHlo.TRef.binary (.of main_while0b_v76 : StableHlo.TRef sig ⟨S4x529x32, .f32⟩) (.of main_while0b_call7_v5 : StableHlo.TRef sig ⟨S4x529x1x1, .i32⟩) (.of main_while0b_call7_v13 : StableHlo.TRef sig ⟨S4x529x1, .f32⟩) (fun x i => Host.gather gather_S4x529x32_S4x529x1x1_S4x529x1_n_2_01_01_2_3_111 x i),
    StableHlo.TRef.nullary (.of main_while0b_call7_cst : StableHlo.TRef sig ⟨S_, .f32⟩) (constant S_ .f32 0x7FC00000#32),
    StableHlo.TRef.unary (.of main_while0b_call7_cst : StableHlo.TRef sig ⟨S_, .f32⟩) (.of main_while0b_call7_v14 : StableHlo.TRef sig ⟨S4x529x1, .f32⟩) (broadcastInDim S4x529x1 ![] bcast_S_S4x529x1),
    StableHlo.TRef.ternary (.of main_while0b_call7_v12 : StableHlo.TRef sig ⟨S4x529x1, .i1⟩) (.of main_while0b_call7_v13 : StableHlo.TRef sig ⟨S4x529x1, .f32⟩) (.of main_while0b_call7_v14 : StableHlo.TRef sig ⟨S4x529x1, .f32⟩) (.of main_while0b_v79 : StableHlo.TRef sig ⟨S4x529x1, .f32⟩) select ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 4 host operations of host loop 0's body region, in order. -/
abbrev while0Ops0_5 : List (HloOp τ sig (Elt F)) :=
  [ StableHlo.nullary main_while0b_cst_15 (constant S_ .f32 0x40ACCCCD#32),
    StableHlo.unary main_while0b_cst_15 main_while0b_v80 (broadcastInDim S4x529x1 ![] bcast_S_S4x529x1 : (⟨S_, .f32⟩ : BufTy).Contents (Elt F) → (⟨S4x529x1, .f32⟩ : BufTy).Contents (Elt F)),
    StableHlo.binary main_while0b_v79 main_while0b_v80 main_while0b_v81 (cmpf .ogt : (⟨S4x529x1, .f32⟩ : BufTy).Contents (Elt F) → (⟨S4x529x1, .f32⟩ : BufTy).Contents (Elt F) → (⟨S4x529x1, .i1⟩ : BufTy).Contents (Elt F)),
    StableHlo.unary main_while0b_v81 main_while0b_v82 ((extui 32 · natLt_1_32) : (⟨S4x529x1, .i1⟩ : BufTy).Contents (Elt F) → (⟨S4x529x1, .i32⟩ : BufTy).Contents (Elt F)) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩
/-- 6 host operations of @_one_hot (main_while0b_call8), in order. -/
abbrev while0Ops0_6 : List (HloOp τ sig (Elt F)) :=
  [ StableHlo.TRef.unary (.of main_while0b_v77 : StableHlo.TRef sig ⟨S4x529, .i32⟩) (.of main_while0b_call8_v0 : StableHlo.TRef sig ⟨S4x529x1, .i32⟩) (broadcastInDim S4x529x1 ![0, 1] bcast_S4x529_S4x529x1_0_1),
    StableHlo.TRef.nullary (.of main_while0b_call8_v1 : StableHlo.TRef sig ⟨S1x1x32, .i32⟩) (iotaInDim S1x1x32 32 2),
    StableHlo.TRef.unary (.of main_while0b_call8_v0 : StableHlo.TRef sig ⟨S4x529x1, .i32⟩) (.of main_while0b_call8_v2 : StableHlo.TRef sig ⟨S4x529x32, .i32⟩) (broadcastInDim S4x529x32 ![0, 1, 2] bcast_S4x529x1_S4x529x32_0_1_2),
    StableHlo.TRef.unary (.of main_while0b_call8_v1 : StableHlo.TRef sig ⟨S1x1x32, .i32⟩) (.of main_while0b_call8_v3 : StableHlo.TRef sig ⟨S4x529x32, .i32⟩) (broadcastInDim S4x529x32 ![0, 1, 2] bcast_S1x1x32_S4x529x32_0_1_2),
    StableHlo.TRef.binary (.of main_while0b_call8_v2 : StableHlo.TRef sig ⟨S4x529x32, .i32⟩) (.of main_while0b_call8_v3 : StableHlo.TRef sig ⟨S4x529x32, .i32⟩) (.of main_while0b_call8_v4 : StableHlo.TRef sig ⟨S4x529x32, .i1⟩) (cmpi .eq),
    StableHlo.TRef.unary (.of main_while0b_call8_v4 : StableHlo.TRef sig ⟨S4x529x32, .i1⟩) (.of main_while0b_v83 : StableHlo.TRef sig ⟨S4x529x32, .i32⟩) (extui 32 · natLt_1_32) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- 13 host operations of host loop 0's body region, in order. -/
abbrev while0Ops0_7 : List (HloOp τ sig (Elt F)) :=
  [ StableHlo.unary main_while0b_v82 main_while0b_v84 (broadcastInDim S4x529x32 ![0, 1, 2] bcast_S4x529x1_S4x529x32_0_1_2 : (⟨S4x529x1, .i32⟩ : BufTy).Contents (Elt F) → (⟨S4x529x32, .i32⟩ : BufTy).Contents (Elt F)),
    StableHlo.binary main_while0b_v83 main_while0b_v84 main_while0b_v85 (muli : (⟨S4x529x32, .i32⟩ : BufTy).Contents (Elt F) → (⟨S4x529x32, .i32⟩ : BufTy).Contents (Elt F) → (⟨S4x529x32, .i32⟩ : BufTy).Contents (Elt F)),
    StableHlo.nullary main_while0b_c_16 (constantI S_ 32 0#32),
    StableHlo.binary main_while0b_v85 main_while0b_c_16 main_while0b_v86 ((fun x v => Host.reduce IntOp.addi x v reducesTo_S4x529x32_S4x529_d2 h_S_) : (⟨S4x529x32, .i32⟩ : BufTy).Contents (Elt F) → (⟨S_, .i32⟩ : BufTy).Contents (Elt F) → (⟨S4x529, .i32⟩ : BufTy).Contents (Elt F)),
    StableHlo.nullary main_while0b_c_17 (constantI S_ 32 48#32),
    StableHlo.unary main_while0b_c_17 main_while0b_v87 (broadcastInDim S4x529 ![] bcast_S_S4x529 : (⟨S_, .i32⟩ : BufTy).Contents (Elt F) → (⟨S4x529, .i32⟩ : BufTy).Contents (Elt F)),
    StableHlo.binary main_while0b_v86 main_while0b_v87 main_while0b_v88 (muli : (⟨S4x529, .i32⟩ : BufTy).Contents (Elt F) → (⟨S4x529, .i32⟩ : BufTy).Contents (Elt F) → (⟨S4x529, .i32⟩ : BufTy).Contents (Elt F)),
    StableHlo.binary main_v57_2 main_while0b_v88 main_while0b_v89 (addi : (⟨S4x529, .i32⟩ : BufTy).Contents (Elt F) → (⟨S4x529, .i32⟩ : BufTy).Contents (Elt F) → (⟨S4x529, .i32⟩ : BufTy).Contents (Elt F)),
    StableHlo.nullary main_while0b_c_18 (constantI S_ 32 1#32),
    StableHlo.unary main_while0b_c_18 main_while0b_v90 (broadcastInDim S4x529 ![] bcast_S_S4x529 : (⟨S_, .i32⟩ : BufTy).Contents (Elt F) → (⟨S4x529, .i32⟩ : BufTy).Contents (Elt F)),
    StableHlo.binary main_while0b_v89 main_while0b_v90 main_while0b_v91 (subi : (⟨S4x529, .i32⟩ : BufTy).Contents (Elt F) → (⟨S4x529, .i32⟩ : BufTy).Contents (Elt F) → (⟨S4x529, .i32⟩ : BufTy).Contents (Elt F)),
    StableHlo.nullary main_while0b_c_19 (constantI S_ 32 0#32),
    StableHlo.nullary main_while0b_c_20 (constantI S_ 32 47#32) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.nullary_bufs_sub ..⟩
/-- 6 host operations of @clip (main_while0b_call9), in order. -/
abbrev while0Ops0_8 : List (HloOp τ sig (Elt F)) :=
  [ StableHlo.TRef.unary (.of main_while0b_c_19 : StableHlo.TRef sig ⟨S_, .i32⟩) (.of main_while0b_call9_v0 : StableHlo.TRef sig ⟨S_, .i32⟩) id,
    StableHlo.TRef.unary (.of main_while0b_call9_v0 : StableHlo.TRef sig ⟨S_, .i32⟩) (.of main_while0b_call9_v1 : StableHlo.TRef sig ⟨S4x529, .i32⟩) (broadcastInDim S4x529 ![] bcast_S_S4x529),
    StableHlo.TRef.binary (.of main_while0b_call9_v1 : StableHlo.TRef sig ⟨S4x529, .i32⟩) (.of main_while0b_v91 : StableHlo.TRef sig ⟨S4x529, .i32⟩) (.of main_while0b_call9_v2 : StableHlo.TRef sig ⟨S4x529, .i32⟩) maxsi,
    StableHlo.TRef.unary (.of main_while0b_c_20 : StableHlo.TRef sig ⟨S_, .i32⟩) (.of main_while0b_call9_v3 : StableHlo.TRef sig ⟨S_, .i32⟩) id,
    StableHlo.TRef.unary (.of main_while0b_call9_v3 : StableHlo.TRef sig ⟨S_, .i32⟩) (.of main_while0b_call9_v4 : StableHlo.TRef sig ⟨S4x529, .i32⟩) (broadcastInDim S4x529 ![] bcast_S_S4x529),
    StableHlo.TRef.binary (.of main_while0b_call9_v4 : StableHlo.TRef sig ⟨S4x529, .i32⟩) (.of main_while0b_call9_v2 : StableHlo.TRef sig ⟨S4x529, .i32⟩) (.of main_while0b_v92 : StableHlo.TRef sig ⟨S4x529, .i32⟩) minsi ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 1 host operation of host loop 0's body region, in order. -/
abbrev while0Ops0_9 : List (HloOp τ sig (Elt F)) :=
  [ StableHlo.unary main_while0b_v85 main_while0b_v93 (sitofp .f32 : (⟨S4x529x32, .i32⟩ : BufTy).Contents (Elt F) → (⟨S4x529x32, .f32⟩ : BufTy).Contents (Elt F)) ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  StableHlo.unary_bufs_sub ..
/-- 5 host operations of @dynamic_update_index_in_dim (main_while0b_call10), in order. -/
abbrev while0Ops0_10 : List (HloOp τ sig (Elt F)) :=
  [ StableHlo.TRef.unary (.of main_while0b_v93 : StableHlo.TRef sig ⟨S4x529x32, .f32⟩) (.of main_while0b_call10_v0 : StableHlo.TRef sig ⟨S1x4x529x32, .f32⟩) (broadcastInDim S1x4x529x32 ![1, 2, 3] bcast_S4x529x32_S1x4x529x32_1_2_3),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.binaryIndexed (.of main_v57_3 : StableHlo.TRef sig ⟨S97x4x529x32, .f32⟩) (.of main_while0b_call10_v0 : StableHlo.TRef sig ⟨S1x4x529x32, .f32⟩) ![(.of main_v57_1 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩)] (.of main_while0b_v94 : StableHlo.TRef sig ⟨S97x4x529x32, .f32⟩) (fun x u i => Host.dynamicUpdateSlice x u (fun k => (i k (Shape.Idx.first h_S_)).toInt) updateFits_S97x4x529x32_S1x4x529x32) ]
/-- Each touches TensorCore references only (`HostSeg.ofOps` over `StableHlo.tcRefs`, or a subset by `sub_ucRefs`). -/
theorem while0Ops0_10_sub : (while0Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of host loop 0's body region, in order. -/
abbrev while0Ops0_11 : List (HloOp τ sig (Elt F)) :=
  [ StableHlo.nullary main_while0b_c_21 (constantI S_ 32 1#32),
    StableHlo.binary main_v57_1 main_while0b_c_21 main_while0b_v95 (addi : (⟨S_, .i32⟩ : BufTy).Contents (Elt F) → (⟨S_, .i32⟩ : BufTy).Contents (Elt F) → (⟨S_, .i32⟩ : BufTy).Contents (Elt F)),
    StableHlo.unary main_while0b_v95 main_v57_1 id,
    StableHlo.unary main_while0b_v92 main_v57_2 id,
    StableHlo.unary main_while0b_v94 main_v57_3 id ]
/-- Each touches TensorCore references only (`HostSeg.ofOps` over `StableHlo.tcRefs`, or a subset by `sub_ucRefs`). -/
theorem while0Ops0_11_sub : (while0Ops0_11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_cst, main_v2, main_v3, main_v4, main_cst_0, main_v5, main_v6, main_v7, main_v8, main_v9, main_cst_1, main_v10, main_v11, main_v12, main_v13, main_v14, main_v15, main_cst_2, main_v16, main_v17]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v18]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_c]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_v19]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v20, main_v21, main_c_3, main_v22, main_v23, main_v24, main_v25, main_v26, main_v27, main_v28, main_v29, main_v30, main_c_4, main_v31, main_v32, main_v33, main_v34, main_v35, main_v36, main_v37, main_v38, main_v39, main_v40, main_v41, main_v42, main_v43, main_v44]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_call2_v0, main_v45]
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- The reference each operation of `hostOps0_6` writes, in order. -/
abbrev hostOps0_6_W : List (Ref sig .tc) := [main_call3_v0, main_v46]
theorem hostOps0_6_writes : (hostOps0_6 : List (HloOp τ sig (Elt F))).Forall fun op => op.writes ⊆ (hostOps0_6_W.map (Proc.devRef (τ := τ) .tc)).toFinset :=
  StableHlo.forall_writes_sub_of_map rfl
/-- No operation of `hostOps0_7` allocates a buffer. -/
theorem hostOps0_7_fresh : (hostOps0_7 : List (HloOp τ sig (Elt F))).Forall fun op => op.fresh = ∅ :=
  StableHlo.forall_fresh_of_map rfl
/-- The reference each operation of `hostOps0_7` writes, in order. -/
abbrev hostOps0_7_W : List (Ref sig .tc) := [main_call4_v0, main_v47]
theorem hostOps0_7_writes : (hostOps0_7 : List (HloOp τ sig (Elt F))).Forall fun op => op.writes ⊆ (hostOps0_7_W.map (Proc.devRef (τ := τ) .tc)).toFinset :=
  StableHlo.forall_writes_sub_of_map rfl
/-- No operation of `hostOps0_8` allocates a buffer. -/
theorem hostOps0_8_fresh : (hostOps0_8 : List (HloOp τ sig (Elt F))).Forall fun op => op.fresh = ∅ :=
  StableHlo.forall_fresh_of_map rfl
/-- The reference each operation of `hostOps0_8` writes, in order. -/
abbrev hostOps0_8_W : List (Ref sig .tc) := [main_v48, main_v49, main_v50, main_v51, main_v52, main_v53, main_v54, main_c_5, main_v55, main_cst_6, main_v56, main_c_7, main_v57_0, main_v57_1, main_v57_2, main_v57_3]
theorem hostOps0_8_writes : (hostOps0_8 : List (HloOp τ sig (Elt F))).Forall fun op => op.writes ⊆ (hostOps0_8_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call5_c, main_while0b_call5_c_0, main_while0b_call5_c_1, main_while0b_call5_v0, main_while0b_v60]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_c_11, main_while0b_v61, main_while0b_v62, main_while0b_v63, main_while0b_v64, main_while0b_c_12, main_while0b_v65, main_while0b_v66, main_while0b_v67, main_while0b_c_13, main_while0b_v68, main_while0b_c_14, main_while0b_v69, main_while0b_v70, main_while0b_v71, main_while0b_v72, main_while0b_v73, main_while0b_v74, main_while0b_v75, main_while0b_v76]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call6_v0, main_while0b_call6_cst, main_while0b_call6_c, main_while0b_call6_v1_0, main_while0b_v77]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v78]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call7_c, main_while0b_call7_v0, main_while0b_call7_v1, main_while0b_call7_c_0, main_while0b_call7_v2, main_while0b_call7_v3, main_while0b_call7_v4, main_while0b_call7_v5, main_while0b_call7_c_1, main_while0b_call7_c_2, main_while0b_call7_v6, main_while0b_call7_v7, main_while0b_call7_v8, main_while0b_call7_v9, main_while0b_call7_v10, main_while0b_call7_v11, main_while0b_call7_c_3, main_while0b_call7_v12, main_while0b_call7_v13, main_while0b_call7_cst, main_while0b_call7_v14, main_while0b_v79]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_cst_15, main_while0b_v80, main_while0b_v81, main_while0b_v82]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call8_v0, main_while0b_call8_v1, main_while0b_call8_v2, main_while0b_call8_v3, main_while0b_call8_v4, main_while0b_v83]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_v84, main_while0b_v85, main_while0b_c_16, main_while0b_v86, main_while0b_c_17, main_while0b_v87, main_while0b_v88, main_while0b_v89, main_while0b_c_18, main_while0b_v90, main_while0b_v91, main_while0b_c_19, main_while0b_c_20]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call9_v0, main_while0b_call9_v1, main_while0b_call9_v2, main_while0b_call9_v3, main_while0b_call9_v4, main_while0b_v92]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_v93]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_call10_v0, main_while0b_call10_c, main_while0b_call10_c_0, main_while0b_call10_c_1, main_while0b_v94]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `while0Ops0_11` allocates a buffer. -/
theorem while0Ops0_11_fresh : (while0Ops0_11 : List (HloOp τ sig (Elt F))).Forall fun op => op.fresh = ∅ :=
  StableHlo.forall_fresh_of_map rfl
/-- The reference each operation of `while0Ops0_11` writes, in order. -/
abbrev while0Ops0_11_W : List (Ref sig .tc) := [main_while0b_c_21, main_while0b_v95, main_v57_1, main_v57_2, main_v57_3]
theorem while0Ops0_11_writes : (while0Ops0_11 : List (HloOp τ sig (Elt F))).Forall fun op => op.writes ⊆ (while0Ops0_11_W.map (Proc.devRef (τ := τ) .tc)).toFinset :=
  StableHlo.forall_writes_sub_of_map rfl
/-- No operation of `hostOps0_9` allocates a buffer. -/
theorem hostOps0_9_fresh : (hostOps0_9 : List (HloOp τ sig (Elt F))).Forall fun op => op.fresh = ∅ :=
  StableHlo.forall_fresh_of_map rfl
/-- The reference each operation of `hostOps0_9` writes, in order. -/
abbrev hostOps0_9_W : List (Ref sig .tc) := [main_v58, main_v59]
theorem hostOps0_9_writes : (hostOps0_9 : List (HloOp τ sig (Elt F))).Forall fun op => op.writes ⊆ (hostOps0_9_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_11 (constantI S_ 32 97#32),
    StableHlo.binary main_v57_1 main_while0c_c_11 main_while0c_v60 (cmpi .slt) ]

/-- @main's stretches before the loop, the loop body's, and @main's after the loop. -/
abbrev preI : List (List (HloOp τ sig (Elt F))) := [hostOps0, hostOps0_1, hostOps0_2, hostOps0_3, hostOps0_4, hostOps0_5, hostOps0_6, hostOps0_7, hostOps0_8]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]
abbrev postI : List (List (HloOp τ sig (Elt F))) := [hostOps0_9]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.nil)))))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.nil))))))))))))
theorem hpost : Plain (postI (F := F)) := .cons hostOps0_9_sub (hf := List.forall_iff_forall_mem.mp hostOps0_9_fresh) (.nil)

/-- The reference each operation of `condOps` writes, in order. -/
abbrev condOps_W : List (Ref sig .tc) := [main_while0c_c_11, main_while0c_v60]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v57_1`) is written by one stretch of the body, `while0Ops0_11`: not by the condition, nor by the
    body's other stretches. -/
theorem ctr_cond (V : Valuation τ sig (Elt F)) : after condOps V (Proc.devRef .tc main_v57_1) = V (Proc.devRef .tc main_v57_1) :=
  after_of_writes_sub condOps V condOps_writes (by decide +kernel)
theorem ctr_while0Ops0 (V : Valuation τ sig (Elt F)) : after while0Ops0 V (Proc.devRef .tc main_v57_1) = V (Proc.devRef .tc main_v57_1) :=
  after_of_writes_sub while0Ops0 V while0Ops0_writes (by decide +kernel)
theorem ctr_while0Ops0_1 (V : Valuation τ sig (Elt F)) : after while0Ops0_1 V (Proc.devRef .tc main_v57_1) = V (Proc.devRef .tc main_v57_1) :=
  after_of_writes_sub while0Ops0_1 V while0Ops0_1_writes (by decide +kernel)
theorem ctr_while0Ops0_2 (V : Valuation τ sig (Elt F)) : after while0Ops0_2 V (Proc.devRef .tc main_v57_1) = V (Proc.devRef .tc main_v57_1) :=
  after_of_writes_sub while0Ops0_2 V while0Ops0_2_writes (by decide +kernel)
theorem ctr_while0Ops0_3 (V : Valuation τ sig (Elt F)) : after while0Ops0_3 V (Proc.devRef .tc main_v57_1) = V (Proc.devRef .tc main_v57_1) :=
  after_of_writes_sub while0Ops0_3 V while0Ops0_3_writes (by decide +kernel)
theorem ctr_while0Ops0_4 (V : Valuation τ sig (Elt F)) : after while0Ops0_4 V (Proc.devRef .tc main_v57_1) = V (Proc.devRef .tc main_v57_1) :=
  after_of_writes_sub while0Ops0_4 V while0Ops0_4_writes (by decide +kernel)
theorem ctr_while0Ops0_5 (V : Valuation τ sig (Elt F)) : after while0Ops0_5 V (Proc.devRef .tc main_v57_1) = V (Proc.devRef .tc main_v57_1) :=
  after_of_writes_sub while0Ops0_5 V while0Ops0_5_writes (by decide +kernel)
theorem ctr_while0Ops0_6 (V : Valuation τ sig (Elt F)) : after while0Ops0_6 V (Proc.devRef .tc main_v57_1) = V (Proc.devRef .tc main_v57_1) :=
  after_of_writes_sub while0Ops0_6 V while0Ops0_6_writes (by decide +kernel)
theorem ctr_while0Ops0_7 (V : Valuation τ sig (Elt F)) : after while0Ops0_7 V (Proc.devRef .tc main_v57_1) = V (Proc.devRef .tc main_v57_1) :=
  after_of_writes_sub while0Ops0_7 V while0Ops0_7_writes (by decide +kernel)
theorem ctr_while0Ops0_8 (V : Valuation τ sig (Elt F)) : after while0Ops0_8 V (Proc.devRef .tc main_v57_1) = V (Proc.devRef .tc main_v57_1) :=
  after_of_writes_sub while0Ops0_8 V while0Ops0_8_writes (by decide +kernel)
theorem ctr_while0Ops0_9 (V : Valuation τ sig (Elt F)) : after while0Ops0_9 V (Proc.devRef .tc main_v57_1) = V (Proc.devRef .tc main_v57_1) :=
  after_of_writes_sub while0Ops0_9 V while0Ops0_9_writes (by decide +kernel)
theorem ctr_while0Ops0_10 (V : Valuation τ sig (Elt F)) : after while0Ops0_10 V (Proc.devRef .tc main_v57_1) = V (Proc.devRef .tc main_v57_1) :=
  after_of_writes_sub while0Ops0_10 V while0Ops0_10_writes (by decide +kernel)

set_option maxRecDepth 100000 in
/-- `while0Ops0_11` leaves the counter one step on. -/
theorem ctr_step (X : Valuation τ sig (Elt F)) :
    after while0Ops0_11 X (Proc.devRef .tc main_v57_1) = addi (X (Proc.devRef .tc main_v57_1)) (constantI S_ 32 1#32) := by
  after_results
  rfl

/-- The counter is the loop's lower bound at the loop's entry: its last writer before the loop read back. -/
theorem ctr_entry (c : Dev nD) : entryContents preI m c (Proc.devRef .tc main_v57_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v57_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 97 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v57_1 HostLoop.idx0)
        (HloOp.result _ (atK m k c) main_while0c_c_11 HostLoop.idx0) = 1#1) (k < 97)
    rw [nullary_result_ne _ _ _ _ (by decide), nullary_result, hctr]
    exact Scf.cmpi_slt_iv_ub_iff (lb := 0#32) (ub := 97#32) (st := 1#32) (by decide) (show k ≤ Scf.trips 0#32 97#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 97 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 97 m ρ (cond_spec m)

/-! ## One trip's values -/

/-- The body's operations 1 … 4 of 93. -/
abbrev trip_w0 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v57_0 : StableHlo.TRef sig ⟨S97x4x529x32, .f32⟩) ![(.of main_v57_1 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x4x529x32, .f32⟩) (fun x i => Host.dynamicSlice S1x4x529x32 x (fun k => (i k (Shape.Idx.first h_S_)).toInt) sliceFits_S97x4x529x32_S1x4x529x32) ]

/-- The body's operations 5 … 5 of 93. -/
abbrev trip_w1 : List (HloOp τ sig (Elt F)) :=
  [ StableHlo.TRef.reshape (.of main_while0b_call5_v0 : StableHlo.TRef sig ⟨S1x4x529x32, .f32⟩) (.of main_while0b_v60 : StableHlo.TRef sig ⟨S4x529x32, .f32⟩) (rfl : (.f32 : EltTy) = .f32) shapeCasts_S1x4x529x32_S4x529x32 ]

/-- The body's operations 6 … 25 of 93. -/
abbrev trip_w2 : List (HloOp τ sig (Elt F)) :=
  [ StableHlo.nullary main_while0b_c_11 (constantI S_ 32 0#32),
    StableHlo.unary main_while0b_c_11 main_while0b_v61 (broadcastInDim S4x529 ![] bcast_S_S4x529 : (⟨S_, .i32⟩ : BufTy).Contents (Elt F) → (⟨S4x529, .i32⟩ : BufTy).Contents (Elt F)),
    StableHlo.binary main_v57_2 main_while0b_v61 main_while0b_v62 (cmpi .eq : (⟨S4x529, .i32⟩ : BufTy).Contents (Elt F) → (⟨S4x529, .i32⟩ : BufTy).Contents (Elt F) → (⟨S4x529, .i1⟩ : BufTy).Contents (Elt F)),
    StableHlo.unary main_while0b_v62 main_while0b_v63 (uitofp .f32 : (⟨S4x529, .i1⟩ : BufTy).Contents (Elt F) → (⟨S4x529, .f32⟩ : BufTy).Contents (Elt F)),
    StableHlo.unary main_while0b_v63 main_while0b_v64 (broadcastInDim S4x529x1 ![0, 1] bcast_S4x529_S4x529x1_0_1 : (⟨S4x529, .f32⟩ : BufTy).Contents (Elt F) → (⟨S4x529x1, .f32⟩ : BufTy).Contents (Elt F)),
    StableHlo.nullary main_while0b_c_12 (constantI S_ 32 0#32),
    StableHlo.unary main_while0b_c_12 main_while0b_v65 (broadcastInDim S4x529 ![] bcast_S_S4x529 : (⟨S_, .i32⟩ : BufTy).Contents (Elt F) → (⟨S4x529, .i32⟩ : BufTy).Contents (Elt F)),
    StableHlo.binary main_v57_2 main_while0b_v65 main_while0b_v66 (cmpi .ne : (⟨S4x529, .i32⟩ : BufTy).Contents (Elt F) → (⟨S4x529, .i32⟩ : BufTy).Contents (Elt F) → (⟨S4x529, .i1⟩ : BufTy).Contents (Elt F)),
    StableHlo.unary main_while0b_v66 main_while0b_v67 ((extui 32 · natLt_1_32) : (⟨S4x529, .i1⟩ : BufTy).Contents (Elt F) → (⟨S4x529, .i32⟩ : BufTy).Contents (Elt F)),
    StableHlo.nullary main_while0b_c_13 (constantI S_ 32 0#32),
    StableHlo.binary main_while0b_v67 main_while0b_c_13 main_while0b_v68 ((fun x v => Host.reduce IntOp.addi x v reducesTo_S4x529_S4_d1 h_S_) : (⟨S4x529, .i32⟩ : BufTy).Contents (Elt F) → (⟨S_, .i32⟩ : BufTy).Contents (Elt F) → (⟨S4, .i32⟩ : BufTy).Contents (Elt F)),
    StableHlo.nullary main_while0b_c_14 (constantI S_ 32 265#32),
    StableHlo.unary main_while0b_c_14 main_while0b_v69 (broadcastInDim S4 ![] bcast_S_S4 : (⟨S_, .i32⟩ : BufTy).Contents (Elt F) → (⟨S4, .i32⟩ : BufTy).Contents (Elt F)),
    StableHlo.binary main_while0b_v68 main_while0b_v69 main_while0b_v70 (cmpi .slt : (⟨S4, .i32⟩ : BufTy).Contents (Elt F) → (⟨S4, .i32⟩ : BufTy).Contents (Elt F) → (⟨S4, .i1⟩ : BufTy).Contents (Elt F)),
    StableHlo.unary main_while0b_v70 main_while0b_v71 (uitofp .f32 : (⟨S4, .i1⟩ : BufTy).Contents (Elt F) → (⟨S4, .f32⟩ : BufTy).Contents (Elt F)),
    StableHlo.reshape main_while0b_v71 main_while0b_v72 (rfl : (.f32 : EltTy) = .f32) shapeCasts_S4_S4x1x1,
    StableHlo.unary main_while0b_v64 main_while0b_v73 (broadcastInDim S4x529x32 ![0, 1, 2] bcast_S4x529x1_S4x529x32_0_1_2 : (⟨S4x529x1, .f32⟩ : BufTy).Contents (Elt F) → (⟨S4x529x32, .f32⟩ : BufTy).Contents (Elt F)),
    StableHlo.binary main_while0b_v60 main_while0b_v73 main_while0b_v74 (mulf : (⟨S4x529x32, .f32⟩ : BufTy).Contents (Elt F) → (⟨S4x529x32, .f32⟩ : BufTy).Contents (Elt F) → (⟨S4x529x32, .f32⟩ : BufTy).Contents (Elt F)),
    StableHlo.unary main_while0b_v72 main_while0b_v75 (broadcastInDim S4x529x32 ![0, 1, 2] bcast_S4x1x1_S4x529x32_0_1_2 : (⟨S4x1x1, .f32⟩ : BufTy).Contents (Elt F) → (⟨S4x529x32, .f32⟩ : BufTy).Contents (Elt F)),
    StableHlo.binary main_while0b_v74 main_while0b_v75 main_while0b_v76 (mulf : (⟨S4x529x32, .f32⟩ : BufTy).Contents (Elt F) → (⟨S4x529x32, .f32⟩ : BufTy).Contents (Elt F) → (⟨S4x529x32, .f32⟩ : BufTy).Contents (Elt F)) ]

/-- The body's operations 26 … 30 of 93. -/
abbrev trip_w3 : List (HloOp τ sig (Elt F)) :=
  [ StableHlo.TRef.nullary (.of main_while0b_call6_v0 : StableHlo.TRef sig ⟨S4x529x32, .i32⟩) (iotaInDim S4x529x32 32 2),
    StableHlo.TRef.nullary (.of main_while0b_call6_cst : StableHlo.TRef sig ⟨S_, .f32⟩) (constant S_ .f32 0xFF800000#32),
    StableHlo.TRef.nullary (.of main_while0b_call6_c : StableHlo.TRef sig ⟨S_, .i32⟩) (constantI S_ 32 0#32),
    StableHlo.TRef.quaternary (.of main_while0b_v76 : StableHlo.TRef sig ⟨S4x529x32, .f32⟩) (.of main_while0b_call6_v0 : StableHlo.TRef sig ⟨S4x529x32, .i32⟩) (.of main_while0b_call6_cst : StableHlo.TRef sig ⟨S_, .f32⟩) (.of main_while0b_call6_c : StableHlo.TRef sig ⟨S_, .i32⟩) (.of main_while0b_call6_v1_0 : StableHlo.TRef sig ⟨S4x529, .f32⟩) (fun x y u v j => (Host.argReduce reducer_argmax_f32_i32 x y u v reducesTo_S4x529x32_S4x529_d2 h_S_ j).1),
    StableHlo.TRef.quaternary (.of main_while0b_v76 : StableHlo.TRef sig ⟨S4x529x32, .f32⟩) (.of main_while0b_call6_v0 : StableHlo.TRef sig ⟨S4x529x32, .i32⟩) (.of main_while0b_call6_cst : StableHlo.TRef sig ⟨S_, .f32⟩) (.of main_while0b_call6_c : StableHlo.TRef sig ⟨S_, .i32⟩) (.of main_while0b_v77 : StableHlo.TRef sig ⟨S4x529, .i32⟩) (fun x y u v j => (Host.argReduce reducer_argmax_f32_i32 x y u v reducesTo_S4x529x32_S4x529_d2 h_S_ j).2) ]

/-- The body's operations 31 … 31 of 93. -/
abbrev trip_w4 : List (HloOp τ sig (Elt F)) :=
  [ StableHlo.unary main_while0b_v77 main_while0b_v78 (broadcastInDim S4x529x1 ![0, 1] bcast_S4x529_S4x529x1_0_1 : (⟨S4x529, .i32⟩ : BufTy).Contents (Elt F) → (⟨S4x529x1, .i32⟩ : BufTy).Contents (Elt F)) ]

/-- The body's operations 32 … 53 of 93. -/
abbrev trip_w5 : List (HloOp τ sig (Elt F)) :=
  [ StableHlo.TRef.nullary (.of main_while0b_call7_c : StableHlo.TRef sig ⟨S_, .i32⟩) (constantI S_ 32 0#32),
    StableHlo.TRef.unary (.of main_while0b_call7_c : StableHlo.TRef sig ⟨S_, .i32⟩) (.of main_while0b_call7_v0 : StableHlo.TRef sig ⟨S4x529x1, .i32⟩) (broadcastInDim S4x529x1 ![] bcast_S_S4x529x1),
    StableHlo.TRef.binary (.of main_while0b_v78 : StableHlo.TRef sig ⟨S4x529x1, .i32⟩) (.of main_while0b_call7_v0 : StableHlo.TRef sig ⟨S4x529x1, .i32⟩) (.of main_while0b_call7_v1 : StableHlo.TRef sig ⟨S4x529x1, .i1⟩) (cmpi .slt),
    StableHlo.TRef.nullary (.of main_while0b_call7_c_0 : StableHlo.TRef sig ⟨S_, .i32⟩) (constantI S_ 32 32#32),
    StableHlo.TRef.unary (.of main_while0b_call7_c_0 : StableHlo.TRef sig ⟨S_, .i32⟩) (.of main_while0b_call7_v2 : StableHlo.TRef sig ⟨S4x529x1, .i32⟩) (broadcastInDim S4x529x1 ![] bcast_S_S4x529x1),
    StableHlo.TRef.binary (.of main_while0b_v78 : StableHlo.TRef sig ⟨S4x529x1, .i32⟩) (.of main_while0b_call7_v2 : StableHlo.TRef sig ⟨S4x529x1, .i32⟩) (.of main_while0b_call7_v3 : StableHlo.TRef sig ⟨S4x529x1, .i32⟩) addi,
    StableHlo.TRef.ternary (.of main_while0b_call7_v1 : StableHlo.TRef sig ⟨S4x529x1, .i1⟩) (.of main_while0b_call7_v3 : StableHlo.TRef sig ⟨S4x529x1, .i32⟩) (.of main_while0b_v78 : StableHlo.TRef sig ⟨S4x529x1, .i32⟩) (.of main_while0b_call7_v4 : StableHlo.TRef sig ⟨S4x529x1, .i32⟩) select,
    StableHlo.TRef.reshape (.of main_while0b_call7_v4 : StableHlo.TRef sig ⟨S4x529x1, .i32⟩) (.of main_while0b_call7_v5 : StableHlo.TRef sig ⟨S4x529x1x1, .i32⟩) (rfl : (.i32 : EltTy) = .i32) shapeCasts_S4x529x1_S4x529x1x1,
    StableHlo.TRef.nullary (.of main_while0b_call7_c_1 : StableHlo.TRef sig ⟨S1, .i32⟩) (constantI S1 32 31#32),
    StableHlo.TRef.nullary (.of main_while0b_call7_c_2 : StableHlo.TRef sig ⟨S_, .i32⟩) (constantI S_ 32 0#32),
    StableHlo.TRef.unary (.of main_while0b_call7_c_2 : StableHlo.TRef sig ⟨S_, .i32⟩) (.of main_while0b_call7_v6 : StableHlo.TRef sig ⟨S4x529x1x1, .i32⟩) (broadcastInDim S4x529x1x1 ![] bcast_S_S4x529x1x1),
    StableHlo.TRef.binary (.of main_while0b_call7_v5 : StableHlo.TRef sig ⟨S4x529x1x1, .i32⟩) (.of main_while0b_call7_v6 : StableHlo.TRef sig ⟨S4x529x1x1, .i32⟩) (.of main_while0b_call7_v7 : StableHlo.TRef sig ⟨S4x529x1x1, .i1⟩) (cmpi .sge),
    StableHlo.TRef.unary (.of main_while0b_call7_c_1 : StableHlo.TRef sig ⟨S1, .i32⟩) (.of main_while0b_call7_v8 : StableHlo.TRef sig ⟨S1x1x1x1, .i32⟩) (broadcastInDim S1x1x1x1 ![3] bcast_S1_S1x1x1x1_3),
    StableHlo.TRef.unary (.of main_while0b_call7_v8 : StableHlo.TRef sig ⟨S1x1x1x1, .i32⟩) (.of main_while0b_call7_v9 : StableHlo.TRef sig ⟨S4x529x1x1, .i32⟩) (broadcastInDim S4x529x1x1 ![0, 1, 2, 3] bcast_S1x1x1x1_S4x529x1x1_0_1_2_3),
    StableHlo.TRef.binary (.of main_while0b_call7_v5 : StableHlo.TRef sig ⟨S4x529x1x1, .i32⟩) (.of main_while0b_call7_v9 : StableHlo.TRef sig ⟨S4x529x1x1, .i32⟩) (.of main_while0b_call7_v10 : StableHlo.TRef sig ⟨S4x529x1x1, .i1⟩) (cmpi .sle),
    StableHlo.TRef.binary (.of main_while0b_call7_v7 : StableHlo.TRef sig ⟨S4x529x1x1, .i1⟩) (.of main_while0b_call7_v10 : StableHlo.TRef sig ⟨S4x529x1x1, .i1⟩) (.of main_while0b_call7_v11 : StableHlo.TRef sig ⟨S4x529x1x1, .i1⟩) andi,
    StableHlo.TRef.nullary (.of main_while0b_call7_c_3 : StableHlo.TRef sig ⟨S_, .i1⟩) (constantI S_ 1 1#1),
    StableHlo.TRef.binary (.of main_while0b_call7_v11 : StableHlo.TRef sig ⟨S4x529x1x1, .i1⟩) (.of main_while0b_call7_c_3 : StableHlo.TRef sig ⟨S_, .i1⟩) (.of main_while0b_call7_v12 : StableHlo.TRef sig ⟨S4x529x1, .i1⟩) (fun x v => Host.reduce IntOp.andi x v reducesTo_S4x529x1x1_S4x529x1_d3 h_S_),
    StableHlo.TRef.binary (.of main_while0b_v76 : StableHlo.TRef sig ⟨S4x529x32, .f32⟩) (.of main_while0b_call7_v5 : StableHlo.TRef sig ⟨S4x529x1x1, .i32⟩) (.of main_while0b_call7_v13 : StableHlo.TRef sig ⟨S4x529x1, .f32⟩) (fun x i => Host.gather gather_S4x529x32_S4x529x1x1_S4x529x1_n_2_01_01_2_3_111 x i),
    StableHlo.TRef.nullary (.of main_while0b_call7_cst : StableHlo.TRef sig ⟨S_, .f32⟩) (constant S_ .f32 0x7FC00000#32),
    StableHlo.TRef.unary (.of main_while0b_call7_cst : StableHlo.TRef sig ⟨S_, .f32⟩) (.of main_while0b_call7_v14 : StableHlo.TRef sig ⟨S4x529x1, .f32⟩) (broadcastInDim S4x529x1 ![] bcast_S_S4x529x1),
    StableHlo.TRef.ternary (.of main_while0b_call7_v12 : StableHlo.TRef sig ⟨S4x529x1, .i1⟩) (.of main_while0b_call7_v13 : StableHlo.TRef sig ⟨S4x529x1, .f32⟩) (.of main_while0b_call7_v14 : StableHlo.TRef sig ⟨S4x529x1, .f32⟩) (.of main_while0b_v79 : StableHlo.TRef sig ⟨S4x529x1, .f32⟩) select ]

/-- The body's operations 54 … 57 of 93. -/
abbrev trip_w6 : List (HloOp τ sig (Elt F)) :=
  [ StableHlo.nullary main_while0b_cst_15 (constant S_ .f32 0x40ACCCCD#32),
    StableHlo.unary main_while0b_cst_15 main_while0b_v80 (broadcastInDim S4x529x1 ![] bcast_S_S4x529x1 : (⟨S_, .f32⟩ : BufTy).Contents (Elt F) → (⟨S4x529x1, .f32⟩ : BufTy).Contents (Elt F)),
    StableHlo.binary main_while0b_v79 main_while0b_v80 main_while0b_v81 (cmpf .ogt : (⟨S4x529x1, .f32⟩ : BufTy).Contents (Elt F) → (⟨S4x529x1, .f32⟩ : BufTy).Contents (Elt F) → (⟨S4x529x1, .i1⟩ : BufTy).Contents (Elt F)),
    StableHlo.unary main_while0b_v81 main_while0b_v82 ((extui 32 · natLt_1_32) : (⟨S4x529x1, .i1⟩ : BufTy).Contents (Elt F) → (⟨S4x529x1, .i32⟩ : BufTy).Contents (Elt F)) ]

/-- The body's operations 58 … 63 of 93. -/
abbrev trip_w7 : List (HloOp τ sig (Elt F)) :=
  [ StableHlo.TRef.unary (.of main_while0b_v77 : StableHlo.TRef sig ⟨S4x529, .i32⟩) (.of main_while0b_call8_v0 : StableHlo.TRef sig ⟨S4x529x1, .i32⟩) (broadcastInDim S4x529x1 ![0, 1] bcast_S4x529_S4x529x1_0_1),
    StableHlo.TRef.nullary (.of main_while0b_call8_v1 : StableHlo.TRef sig ⟨S1x1x32, .i32⟩) (iotaInDim S1x1x32 32 2),
    StableHlo.TRef.unary (.of main_while0b_call8_v0 : StableHlo.TRef sig ⟨S4x529x1, .i32⟩) (.of main_while0b_call8_v2 : StableHlo.TRef sig ⟨S4x529x32, .i32⟩) (broadcastInDim S4x529x32 ![0, 1, 2] bcast_S4x529x1_S4x529x32_0_1_2),
    StableHlo.TRef.unary (.of main_while0b_call8_v1 : StableHlo.TRef sig ⟨S1x1x32, .i32⟩) (.of main_while0b_call8_v3 : StableHlo.TRef sig ⟨S4x529x32, .i32⟩) (broadcastInDim S4x529x32 ![0, 1, 2] bcast_S1x1x32_S4x529x32_0_1_2),
    StableHlo.TRef.binary (.of main_while0b_call8_v2 : StableHlo.TRef sig ⟨S4x529x32, .i32⟩) (.of main_while0b_call8_v3 : StableHlo.TRef sig ⟨S4x529x32, .i32⟩) (.of main_while0b_call8_v4 : StableHlo.TRef sig ⟨S4x529x32, .i1⟩) (cmpi .eq),
    StableHlo.TRef.unary (.of main_while0b_call8_v4 : StableHlo.TRef sig ⟨S4x529x32, .i1⟩) (.of main_while0b_v83 : StableHlo.TRef sig ⟨S4x529x32, .i32⟩) (extui 32 · natLt_1_32) ]

/-- The body's operations 64 … 76 of 93. -/
abbrev trip_w8 : List (HloOp τ sig (Elt F)) :=
  [ StableHlo.unary main_while0b_v82 main_while0b_v84 (broadcastInDim S4x529x32 ![0, 1, 2] bcast_S4x529x1_S4x529x32_0_1_2 : (⟨S4x529x1, .i32⟩ : BufTy).Contents (Elt F) → (⟨S4x529x32, .i32⟩ : BufTy).Contents (Elt F)),
    StableHlo.binary main_while0b_v83 main_while0b_v84 main_while0b_v85 (muli : (⟨S4x529x32, .i32⟩ : BufTy).Contents (Elt F) → (⟨S4x529x32, .i32⟩ : BufTy).Contents (Elt F) → (⟨S4x529x32, .i32⟩ : BufTy).Contents (Elt F)),
    StableHlo.nullary main_while0b_c_16 (constantI S_ 32 0#32),
    StableHlo.binary main_while0b_v85 main_while0b_c_16 main_while0b_v86 ((fun x v => Host.reduce IntOp.addi x v reducesTo_S4x529x32_S4x529_d2 h_S_) : (⟨S4x529x32, .i32⟩ : BufTy).Contents (Elt F) → (⟨S_, .i32⟩ : BufTy).Contents (Elt F) → (⟨S4x529, .i32⟩ : BufTy).Contents (Elt F)),
    StableHlo.nullary main_while0b_c_17 (constantI S_ 32 48#32),
    StableHlo.unary main_while0b_c_17 main_while0b_v87 (broadcastInDim S4x529 ![] bcast_S_S4x529 : (⟨S_, .i32⟩ : BufTy).Contents (Elt F) → (⟨S4x529, .i32⟩ : BufTy).Contents (Elt F)),
    StableHlo.binary main_while0b_v86 main_while0b_v87 main_while0b_v88 (muli : (⟨S4x529, .i32⟩ : BufTy).Contents (Elt F) → (⟨S4x529, .i32⟩ : BufTy).Contents (Elt F) → (⟨S4x529, .i32⟩ : BufTy).Contents (Elt F)),
    StableHlo.binary main_v57_2 main_while0b_v88 main_while0b_v89 (addi : (⟨S4x529, .i32⟩ : BufTy).Contents (Elt F) → (⟨S4x529, .i32⟩ : BufTy).Contents (Elt F) → (⟨S4x529, .i32⟩ : BufTy).Contents (Elt F)),
    StableHlo.nullary main_while0b_c_18 (constantI S_ 32 1#32),
    StableHlo.unary main_while0b_c_18 main_while0b_v90 (broadcastInDim S4x529 ![] bcast_S_S4x529 : (⟨S_, .i32⟩ : BufTy).Contents (Elt F) → (⟨S4x529, .i32⟩ : BufTy).Contents (Elt F)),
    StableHlo.binary main_while0b_v89 main_while0b_v90 main_while0b_v91 (subi : (⟨S4x529, .i32⟩ : BufTy).Contents (Elt F) → (⟨S4x529, .i32⟩ : BufTy).Contents (Elt F) → (⟨S4x529, .i32⟩ : BufTy).Contents (Elt F)),
    StableHlo.nullary main_while0b_c_19 (constantI S_ 32 0#32),
    StableHlo.nullary main_while0b_c_20 (constantI S_ 32 47#32) ]

/-- The body's operations 77 … 82 of 93. -/
abbrev trip_w9 : List (HloOp τ sig (Elt F)) :=
  [ StableHlo.TRef.unary (.of main_while0b_c_19 : StableHlo.TRef sig ⟨S_, .i32⟩) (.of main_while0b_call9_v0 : StableHlo.TRef sig ⟨S_, .i32⟩) id,
    StableHlo.TRef.unary (.of main_while0b_call9_v0 : StableHlo.TRef sig ⟨S_, .i32⟩) (.of main_while0b_call9_v1 : StableHlo.TRef sig ⟨S4x529, .i32⟩) (broadcastInDim S4x529 ![] bcast_S_S4x529),
    StableHlo.TRef.binary (.of main_while0b_call9_v1 : StableHlo.TRef sig ⟨S4x529, .i32⟩) (.of main_while0b_v91 : StableHlo.TRef sig ⟨S4x529, .i32⟩) (.of main_while0b_call9_v2 : StableHlo.TRef sig ⟨S4x529, .i32⟩) maxsi,
    StableHlo.TRef.unary (.of main_while0b_c_20 : StableHlo.TRef sig ⟨S_, .i32⟩) (.of main_while0b_call9_v3 : StableHlo.TRef sig ⟨S_, .i32⟩) id,
    StableHlo.TRef.unary (.of main_while0b_call9_v3 : StableHlo.TRef sig ⟨S_, .i32⟩) (.of main_while0b_call9_v4 : StableHlo.TRef sig ⟨S4x529, .i32⟩) (broadcastInDim S4x529 ![] bcast_S_S4x529),
    StableHlo.TRef.binary (.of main_while0b_call9_v4 : StableHlo.TRef sig ⟨S4x529, .i32⟩) (.of main_while0b_call9_v2 : StableHlo.TRef sig ⟨S4x529, .i32⟩) (.of main_while0b_v92 : StableHlo.TRef sig ⟨S4x529, .i32⟩) minsi ]

/-- The body's operations 83 … 83 of 93. -/
abbrev trip_w10 : List (HloOp τ sig (Elt F)) :=
  [ StableHlo.unary main_while0b_v85 main_while0b_v93 (sitofp .f32 : (⟨S4x529x32, .i32⟩ : BufTy).Contents (Elt F) → (⟨S4x529x32, .f32⟩ : BufTy).Contents (Elt F)) ]

/-- The body's operations 84 … 88 of 93. -/
abbrev trip_w11 : List (HloOp τ sig (Elt F)) :=
  [ StableHlo.TRef.unary (.of main_while0b_v93 : StableHlo.TRef sig ⟨S4x529x32, .f32⟩) (.of main_while0b_call10_v0 : StableHlo.TRef sig ⟨S1x4x529x32, .f32⟩) (broadcastInDim S1x4x529x32 ![1, 2, 3] bcast_S4x529x32_S1x4x529x32_1_2_3),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.binaryIndexed (.of main_v57_3 : StableHlo.TRef sig ⟨S97x4x529x32, .f32⟩) (.of main_while0b_call10_v0 : StableHlo.TRef sig ⟨S1x4x529x32, .f32⟩) ![(.of main_v57_1 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩)] (.of main_while0b_v94 : StableHlo.TRef sig ⟨S97x4x529x32, .f32⟩) (fun x u i => Host.dynamicUpdateSlice x u (fun k => (i k (Shape.Idx.first h_S_)).toInt) updateFits_S97x4x529x32_S1x4x529x32) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 := rfl
set_option maxRecDepth 5000 in
/-- `while0Ops0_2` is its windows in order. -/
theorem while0Ops0_2_cut : (while0Ops0_2 : List (HloOp τ sig (Elt F))) = trip_w3 := rfl
set_option maxRecDepth 5000 in
/-- `while0Ops0_3` is its windows in order. -/
theorem while0Ops0_3_cut : (while0Ops0_3 : List (HloOp τ sig (Elt F))) = trip_w4 := rfl
set_option maxRecDepth 5000 in
/-- `while0Ops0_4` is its windows in order. -/
theorem while0Ops0_4_cut : (while0Ops0_4 : List (HloOp τ sig (Elt F))) = trip_w5 := rfl
set_option maxRecDepth 5000 in
/-- `while0Ops0_5` is its windows in order. -/
theorem while0Ops0_5_cut : (while0Ops0_5 : List (HloOp τ sig (Elt F))) = trip_w6 := rfl
set_option maxRecDepth 5000 in
/-- `while0Ops0_6` is its windows in order. -/
theorem while0Ops0_6_cut : (while0Ops0_6 : List (HloOp τ sig (Elt F))) = trip_w7 := rfl
set_option maxRecDepth 5000 in
/-- `while0Ops0_7` is its windows in order. -/
theorem while0Ops0_7_cut : (while0Ops0_7 : List (HloOp τ sig (Elt F))) = trip_w8 := rfl
set_option maxRecDepth 5000 in
/-- `while0Ops0_8` is its windows in order. -/
theorem while0Ops0_8_cut : (while0Ops0_8 : List (HloOp τ sig (Elt F))) = trip_w9 := rfl
set_option maxRecDepth 5000 in
/-- `while0Ops0_9` is its windows in order. -/
theorem while0Ops0_9_cut : (while0Ops0_9 : List (HloOp τ sig (Elt F))) = trip_w10 := rfl
set_option maxRecDepth 5000 in
/-- `while0Ops0_10` is its windows in order. -/
theorem while0Ops0_10_cut : (while0Ops0_10 : List (HloOp τ sig (Elt F))) = trip_w11 := rfl

set_option maxRecDepth 8192 in
/-- `main_while0b_v76`'s composed term of the carried buffers (named: it is used 3 times). -/
def res_main_while0b_v76 (V0 : Valuation τ sig (Elt F)) : (Proc.devRef .tc main_while0b_v76 : DevRef τ sig).ty.Contents (Elt F) :=
  mulf (mulf (shapeCast S4x529x32 (Host.dynamicSlice S1x4x529x32 (V0 (Proc.devRef .tc main_v57_0)) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) sliceFits_S97x4x529x32_S1x4x529x32) shapeCasts_S1x4x529x32_S4x529x32) (broadcastInDim S4x529x32 ![0, 1, 2] bcast_S4x529x1_S4x529x32_0_1_2 (broadcastInDim S4x529x1 ![0, 1] bcast_S4x529_S4x529x1_0_1 (uitofp .f32 (cmpi .eq (V0 (Proc.devRef .tc main_v57_2)) (broadcastInDim S4x529 ![] bcast_S_S4x529 (constantI S_ 32 0#32))))))) (broadcastInDim S4x529x32 ![0, 1, 2] bcast_S4x1x1_S4x529x32_0_1_2 (shapeCast S4x1x1 (uitofp .f32 (cmpi .slt (Host.reduce IntOp.addi (extui 32 (cmpi .ne (V0 (Proc.devRef .tc main_v57_2)) (broadcastInDim S4x529 ![] bcast_S_S4x529 (constantI S_ 32 0#32))) natLt_1_32) (constantI S_ 32 0#32) reducesTo_S4x529_S4_d1 h_S_) (broadcastInDim S4 ![] bcast_S_S4 (constantI S_ 32 265#32)))) shapeCasts_S4_S4x1x1))

set_option maxRecDepth 8192 in
/-- `main_while0b_call6_v0`'s composed term of the carried buffers (named: it is used 2 times). -/
def res_main_while0b_call6_v0 (V0 : Valuation τ sig (Elt F)) : (Proc.devRef .tc main_while0b_call6_v0 : DevRef τ sig).ty.Contents (Elt F) :=
  iotaInDim S4x529x32 32 2

set_option maxRecDepth 8192 in
/-- `main_while0b_call6_cst`'s composed term of the carried buffers (named: it is used 2 times). -/
def res_main_while0b_call6_cst (V0 : Valuation τ sig (Elt F)) : (Proc.devRef .tc main_while0b_call6_cst : DevRef τ sig).ty.Contents (Elt F) :=
  constant S_ .f32 0xFF800000#32

set_option maxRecDepth 8192 in
/-- `main_while0b_call6_c`'s composed term of the carried buffers (named: it is used 2 times). -/
def res_main_while0b_call6_c (V0 : Valuation τ sig (Elt F)) : (Proc.devRef .tc main_while0b_call6_c : DevRef τ sig).ty.Contents (Elt F) :=
  constantI S_ 32 0#32

set_option maxRecDepth 8192 in
/-- `main_while0b_v77`'s composed term of the carried buffers (named: it is used 2 times). -/
def res_main_while0b_v77 (V0 : Valuation τ sig (Elt F)) : (Proc.devRef .tc main_while0b_v77 : DevRef τ sig).ty.Contents (Elt F) :=
  fun j => (Host.argReduce reducer_argmax_f32_i32 (res_main_while0b_v76 V0) (res_main_while0b_call6_v0 V0) (res_main_while0b_call6_cst V0) (res_main_while0b_call6_c V0) reducesTo_S4x529x32_S4x529_d2 h_S_ j).2

set_option maxRecDepth 8192 in
/-- `main_while0b_v78`'s composed term of the carried buffers (named: it is used 3 times). -/
def res_main_while0b_v78 (V0 : Valuation τ sig (Elt F)) : (Proc.devRef .tc main_while0b_v78 : DevRef τ sig).ty.Contents (Elt F) :=
  broadcastInDim S4x529x1 ![0, 1] bcast_S4x529_S4x529x1_0_1 (res_main_while0b_v77 V0)

set_option maxRecDepth 8192 in
/-- `main_while0b_call7_v5`'s composed term of the carried buffers (named: it is used 3 times). -/
def res_main_while0b_call7_v5 (V0 : Valuation τ sig (Elt F)) : (Proc.devRef .tc main_while0b_call7_v5 : DevRef τ sig).ty.Contents (Elt F) :=
  shapeCast S4x529x1x1 (select (cmpi .slt (res_main_while0b_v78 V0) (broadcastInDim S4x529x1 ![] bcast_S_S4x529x1 (constantI S_ 32 0#32))) (addi (res_main_while0b_v78 V0) (broadcastInDim S4x529x1 ![] bcast_S_S4x529x1 (constantI S_ 32 32#32))) (res_main_while0b_v78 V0)) shapeCasts_S4x529x1_S4x529x1x1

set_option maxRecDepth 8192 in
/-- `main_while0b_v85`'s composed term of the carried buffers (named: it is used 2 times). -/
def res_main_while0b_v85 (V0 : Valuation τ sig (Elt F)) : (Proc.devRef .tc main_while0b_v85 : DevRef τ sig).ty.Contents (Elt F) :=
  muli (extui 32 (cmpi .eq (broadcastInDim S4x529x32 ![0, 1, 2] bcast_S4x529x1_S4x529x32_0_1_2 (broadcastInDim S4x529x1 ![0, 1] bcast_S4x529_S4x529x1_0_1 (res_main_while0b_v77 V0))) (broadcastInDim S4x529x32 ![0, 1, 2] bcast_S1x1x32_S4x529x32_0_1_2 (iotaInDim S1x1x32 32 2))) natLt_1_32) (broadcastInDim S4x529x32 ![0, 1, 2] bcast_S4x529x1_S4x529x32_0_1_2 (extui 32 (cmpf .ogt (select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32))) (broadcastInDim S4x529x1 ![] bcast_S_S4x529x1 (constant S_ .f32 0x40ACCCCD#32))) natLt_1_32))

/-- The device's buffer contents before the body's first window. -/
def val0 (V0 : Valuation τ sig (Elt F)) : Valuation τ sig (Elt F) := V0
theorem val0_main_v57_0 (V0 : Valuation τ sig (Elt F)) : val0 V0 (no_index (Proc.devRef .tc main_v57_0)) = V0 (Proc.devRef .tc main_v57_0) := rfl
theorem val0_main_v57_1 (V0 : Valuation τ sig (Elt F)) : val0 V0 (no_index (Proc.devRef .tc main_v57_1)) = V0 (Proc.devRef .tc main_v57_1) := rfl
theorem val0_main_v57_2 (V0 : Valuation τ sig (Elt F)) : val0 V0 (no_index (Proc.devRef .tc main_v57_2)) = V0 (Proc.devRef .tc main_v57_2) := rfl
theorem val0_main_v57_3 (V0 : Valuation τ sig (Elt F)) : val0 V0 (no_index (Proc.devRef .tc main_v57_3)) = V0 (Proc.devRef .tc main_v57_3) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call5_c, main_while0b_call5_c_0, main_while0b_call5_c_1, main_while0b_call5_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v57_0 (V0 : Valuation τ sig (Elt F)) : val1 V0 (no_index (Proc.devRef .tc main_v57_0)) = V0 (Proc.devRef .tc main_v57_0) :=
  (val1_keep V0 main_v57_0 (by decide)).trans (val0_main_v57_0 V0)
theorem val1_main_v57_1 (V0 : Valuation τ sig (Elt F)) : val1 V0 (no_index (Proc.devRef .tc main_v57_1)) = V0 (Proc.devRef .tc main_v57_1) :=
  (val1_keep V0 main_v57_1 (by decide)).trans (val0_main_v57_1 V0)
theorem val1_main_v57_2 (V0 : Valuation τ sig (Elt F)) : val1 V0 (no_index (Proc.devRef .tc main_v57_2)) = V0 (Proc.devRef .tc main_v57_2) :=
  (val1_keep V0 main_v57_2 (by decide)).trans (val0_main_v57_2 V0)
theorem val1_main_v57_3 (V0 : Valuation τ sig (Elt F)) : val1 V0 (no_index (Proc.devRef .tc main_v57_3)) = V0 (Proc.devRef .tc main_v57_3) :=
  (val1_keep V0 main_v57_3 (by decide)).trans (val0_main_v57_3 V0)
set_option maxRecDepth 8192 in
theorem val1_main_while0b_call5_v0 (V0 : Valuation τ sig (Elt F)) : val1 V0 (no_index (Proc.devRef .tc main_while0b_call5_v0)) = Host.dynamicSlice S1x4x529x32 (V0 (Proc.devRef .tc main_v57_0)) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) sliceFits_S97x4x529x32_S1x4x529x32 := by
  unfold val1
  simp only [trip_w0]
  after_results_entrywise [val0_main_v57_1, val0_main_v57_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v60]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v57_0 (V0 : Valuation τ sig (Elt F)) : val2 V0 (no_index (Proc.devRef .tc main_v57_0)) = V0 (Proc.devRef .tc main_v57_0) :=
  (val2_keep V0 main_v57_0 (by decide)).trans (val1_main_v57_0 V0)
theorem val2_main_v57_1 (V0 : Valuation τ sig (Elt F)) : val2 V0 (no_index (Proc.devRef .tc main_v57_1)) = V0 (Proc.devRef .tc main_v57_1) :=
  (val2_keep V0 main_v57_1 (by decide)).trans (val1_main_v57_1 V0)
theorem val2_main_v57_2 (V0 : Valuation τ sig (Elt F)) : val2 V0 (no_index (Proc.devRef .tc main_v57_2)) = V0 (Proc.devRef .tc main_v57_2) :=
  (val2_keep V0 main_v57_2 (by decide)).trans (val1_main_v57_2 V0)
theorem val2_main_v57_3 (V0 : Valuation τ sig (Elt F)) : val2 V0 (no_index (Proc.devRef .tc main_v57_3)) = V0 (Proc.devRef .tc main_v57_3) :=
  (val2_keep V0 main_v57_3 (by decide)).trans (val1_main_v57_3 V0)
set_option maxRecDepth 8192 in
theorem val2_main_while0b_v60 (V0 : Valuation τ sig (Elt F)) : val2 V0 (no_index (Proc.devRef .tc main_while0b_v60)) = shapeCast S4x529x32 (Host.dynamicSlice S1x4x529x32 (V0 (Proc.devRef .tc main_v57_0)) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) sliceFits_S97x4x529x32_S1x4x529x32) shapeCasts_S1x4x529x32_S4x529x32 := by
  unfold val2
  simp only [trip_w1]
  after_results_entrywise [val1_main_while0b_call5_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_c_11, main_while0b_v61, main_while0b_v62, main_while0b_v63, main_while0b_v64, main_while0b_c_12, main_while0b_v65, main_while0b_v66, main_while0b_v67, main_while0b_c_13, main_while0b_v68, main_while0b_c_14, main_while0b_v69, main_while0b_v70, main_while0b_v71, main_while0b_v72, main_while0b_v73, main_while0b_v74, main_while0b_v75, main_while0b_v76]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v57_0 (V0 : Valuation τ sig (Elt F)) : val3 V0 (no_index (Proc.devRef .tc main_v57_0)) = V0 (Proc.devRef .tc main_v57_0) :=
  (val3_keep V0 main_v57_0 (by decide)).trans (val2_main_v57_0 V0)
theorem val3_main_v57_1 (V0 : Valuation τ sig (Elt F)) : val3 V0 (no_index (Proc.devRef .tc main_v57_1)) = V0 (Proc.devRef .tc main_v57_1) :=
  (val3_keep V0 main_v57_1 (by decide)).trans (val2_main_v57_1 V0)
theorem val3_main_v57_2 (V0 : Valuation τ sig (Elt F)) : val3 V0 (no_index (Proc.devRef .tc main_v57_2)) = V0 (Proc.devRef .tc main_v57_2) :=
  (val3_keep V0 main_v57_2 (by decide)).trans (val2_main_v57_2 V0)
theorem val3_main_v57_3 (V0 : Valuation τ sig (Elt F)) : val3 V0 (no_index (Proc.devRef .tc main_v57_3)) = V0 (Proc.devRef .tc main_v57_3) :=
  (val3_keep V0 main_v57_3 (by decide)).trans (val2_main_v57_3 V0)
set_option maxRecDepth 8192 in
set_option maxHeartbeats 2000000 in
theorem val3_main_while0b_v76 (V0 : Valuation τ sig (Elt F)) : val3 V0 (no_index (Proc.devRef .tc main_while0b_v76)) = res_main_while0b_v76 V0 := by
  unfold val3
  simp only [trip_w2]
  after_results_entrywise [val2_main_v57_2, val2_main_while0b_v60, res_main_while0b_v76, cast_eq]

end Cert.ReferenceIdeal.Value

end
-- ==== Proof.RefTrip.lean ====
/- The reference's program run, second half: one trip's values from any contents, the trip as a step of the contents, and the
   run: the result is the step iterated 97 times on what the operations before the loop leave. -/
module

public import proofs.«01_k».proof.Proof.RefRun

@[expose] public section

-- a long stretch's `::` list and the decided enumerations over the program's references recurse past the default depth
set_option maxRecDepth 1200

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call6_v0, main_while0b_call6_cst, main_while0b_call6_c, main_while0b_call6_v1_0, main_while0b_v77]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v57_0 (V0 : Valuation τ sig (Elt F)) : val4 V0 (no_index (Proc.devRef .tc main_v57_0)) = V0 (Proc.devRef .tc main_v57_0) :=
  (val4_keep V0 main_v57_0 (by decide)).trans (val3_main_v57_0 V0)
theorem val4_main_v57_1 (V0 : Valuation τ sig (Elt F)) : val4 V0 (no_index (Proc.devRef .tc main_v57_1)) = V0 (Proc.devRef .tc main_v57_1) :=
  (val4_keep V0 main_v57_1 (by decide)).trans (val3_main_v57_1 V0)
theorem val4_main_v57_2 (V0 : Valuation τ sig (Elt F)) : val4 V0 (no_index (Proc.devRef .tc main_v57_2)) = V0 (Proc.devRef .tc main_v57_2) :=
  (val4_keep V0 main_v57_2 (by decide)).trans (val3_main_v57_2 V0)
theorem val4_main_v57_3 (V0 : Valuation τ sig (Elt F)) : val4 V0 (no_index (Proc.devRef .tc main_v57_3)) = V0 (Proc.devRef .tc main_v57_3) :=
  (val4_keep V0 main_v57_3 (by decide)).trans (val3_main_v57_3 V0)
theorem val4_main_while0b_v76 (V0 : Valuation τ sig (Elt F)) : val4 V0 (no_index (Proc.devRef .tc main_while0b_v76)) = res_main_while0b_v76 V0 :=
  (val4_keep V0 main_while0b_v76 (by decide)).trans (val3_main_while0b_v76 V0)
set_option maxRecDepth 8192 in
theorem val4_main_while0b_v77 (V0 : Valuation τ sig (Elt F)) : val4 V0 (no_index (Proc.devRef .tc main_while0b_v77)) = res_main_while0b_v77 V0 := by
  unfold val4
  simp only [trip_w3]
  after_results_entrywise [val3_main_while0b_v76, res_main_while0b_call6_v0, res_main_while0b_call6_cst, res_main_while0b_call6_c, res_main_while0b_v77, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v78]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v57_0 (V0 : Valuation τ sig (Elt F)) : val5 V0 (no_index (Proc.devRef .tc main_v57_0)) = V0 (Proc.devRef .tc main_v57_0) :=
  (val5_keep V0 main_v57_0 (by decide)).trans (val4_main_v57_0 V0)
theorem val5_main_v57_1 (V0 : Valuation τ sig (Elt F)) : val5 V0 (no_index (Proc.devRef .tc main_v57_1)) = V0 (Proc.devRef .tc main_v57_1) :=
  (val5_keep V0 main_v57_1 (by decide)).trans (val4_main_v57_1 V0)
theorem val5_main_v57_2 (V0 : Valuation τ sig (Elt F)) : val5 V0 (no_index (Proc.devRef .tc main_v57_2)) = V0 (Proc.devRef .tc main_v57_2) :=
  (val5_keep V0 main_v57_2 (by decide)).trans (val4_main_v57_2 V0)
theorem val5_main_v57_3 (V0 : Valuation τ sig (Elt F)) : val5 V0 (no_index (Proc.devRef .tc main_v57_3)) = V0 (Proc.devRef .tc main_v57_3) :=
  (val5_keep V0 main_v57_3 (by decide)).trans (val4_main_v57_3 V0)
theorem val5_main_while0b_v76 (V0 : Valuation τ sig (Elt F)) : val5 V0 (no_index (Proc.devRef .tc main_while0b_v76)) = res_main_while0b_v76 V0 :=
  (val5_keep V0 main_while0b_v76 (by decide)).trans (val4_main_while0b_v76 V0)
theorem val5_main_while0b_v77 (V0 : Valuation τ sig (Elt F)) : val5 V0 (no_index (Proc.devRef .tc main_while0b_v77)) = res_main_while0b_v77 V0 :=
  (val5_keep V0 main_while0b_v77 (by decide)).trans (val4_main_while0b_v77 V0)
set_option maxRecDepth 8192 in
theorem val5_main_while0b_v78 (V0 : Valuation τ sig (Elt F)) : val5 V0 (no_index (Proc.devRef .tc main_while0b_v78)) = res_main_while0b_v78 V0 := by
  unfold val5
  simp only [trip_w4]
  after_results_entrywise [val4_main_while0b_v77, res_main_while0b_v78, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call7_c, main_while0b_call7_v0, main_while0b_call7_v1, main_while0b_call7_c_0, main_while0b_call7_v2, main_while0b_call7_v3, main_while0b_call7_v4, main_while0b_call7_v5, main_while0b_call7_c_1, main_while0b_call7_c_2, main_while0b_call7_v6, main_while0b_call7_v7, main_while0b_call7_v8, main_while0b_call7_v9, main_while0b_call7_v10, main_while0b_call7_v11, main_while0b_call7_c_3, main_while0b_call7_v12, main_while0b_call7_v13, main_while0b_call7_cst, main_while0b_call7_v14, main_while0b_v79]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v57_0 (V0 : Valuation τ sig (Elt F)) : val6 V0 (no_index (Proc.devRef .tc main_v57_0)) = V0 (Proc.devRef .tc main_v57_0) :=
  (val6_keep V0 main_v57_0 (by decide)).trans (val5_main_v57_0 V0)
theorem val6_main_v57_1 (V0 : Valuation τ sig (Elt F)) : val6 V0 (no_index (Proc.devRef .tc main_v57_1)) = V0 (Proc.devRef .tc main_v57_1) :=
  (val6_keep V0 main_v57_1 (by decide)).trans (val5_main_v57_1 V0)
theorem val6_main_v57_2 (V0 : Valuation τ sig (Elt F)) : val6 V0 (no_index (Proc.devRef .tc main_v57_2)) = V0 (Proc.devRef .tc main_v57_2) :=
  (val6_keep V0 main_v57_2 (by decide)).trans (val5_main_v57_2 V0)
theorem val6_main_v57_3 (V0 : Valuation τ sig (Elt F)) : val6 V0 (no_index (Proc.devRef .tc main_v57_3)) = V0 (Proc.devRef .tc main_v57_3) :=
  (val6_keep V0 main_v57_3 (by decide)).trans (val5_main_v57_3 V0)
theorem val6_main_while0b_v77 (V0 : Valuation τ sig (Elt F)) : val6 V0 (no_index (Proc.devRef .tc main_while0b_v77)) = res_main_while0b_v77 V0 :=
  (val6_keep V0 main_while0b_v77 (by decide)).trans (val5_main_while0b_v77 V0)
set_option maxRecDepth 8192 in
set_option maxHeartbeats 2000000 in
theorem val6_main_while0b_v79 (V0 : Valuation τ sig (Elt F)) : val6 V0 (no_index (Proc.devRef .tc main_while0b_v79)) = select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32)) := by
  unfold val6
  simp only [trip_w5]
  after_results_entrywise [val5_main_while0b_v78, val5_main_while0b_v76, res_main_while0b_call7_v5, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_cst_15, main_while0b_v80, main_while0b_v81, main_while0b_v82]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v57_0 (V0 : Valuation τ sig (Elt F)) : val7 V0 (no_index (Proc.devRef .tc main_v57_0)) = V0 (Proc.devRef .tc main_v57_0) :=
  (val7_keep V0 main_v57_0 (by decide)).trans (val6_main_v57_0 V0)
theorem val7_main_v57_1 (V0 : Valuation τ sig (Elt F)) : val7 V0 (no_index (Proc.devRef .tc main_v57_1)) = V0 (Proc.devRef .tc main_v57_1) :=
  (val7_keep V0 main_v57_1 (by decide)).trans (val6_main_v57_1 V0)
theorem val7_main_v57_2 (V0 : Valuation τ sig (Elt F)) : val7 V0 (no_index (Proc.devRef .tc main_v57_2)) = V0 (Proc.devRef .tc main_v57_2) :=
  (val7_keep V0 main_v57_2 (by decide)).trans (val6_main_v57_2 V0)
theorem val7_main_v57_3 (V0 : Valuation τ sig (Elt F)) : val7 V0 (no_index (Proc.devRef .tc main_v57_3)) = V0 (Proc.devRef .tc main_v57_3) :=
  (val7_keep V0 main_v57_3 (by decide)).trans (val6_main_v57_3 V0)
theorem val7_main_while0b_v77 (V0 : Valuation τ sig (Elt F)) : val7 V0 (no_index (Proc.devRef .tc main_while0b_v77)) = res_main_while0b_v77 V0 :=
  (val7_keep V0 main_while0b_v77 (by decide)).trans (val6_main_while0b_v77 V0)
set_option maxRecDepth 8192 in
theorem val7_main_while0b_v82 (V0 : Valuation τ sig (Elt F)) : val7 V0 (no_index (Proc.devRef .tc main_while0b_v82)) = extui 32 (cmpf .ogt (select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32))) (broadcastInDim S4x529x1 ![] bcast_S_S4x529x1 (constant S_ .f32 0x40ACCCCD#32))) natLt_1_32 := by
  unfold val7
  simp only [trip_w6]
  after_results_entrywise [val6_main_while0b_v79, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_call8_v0, main_while0b_call8_v1, main_while0b_call8_v2, main_while0b_call8_v3, main_while0b_call8_v4, main_while0b_v83]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v57_0 (V0 : Valuation τ sig (Elt F)) : val8 V0 (no_index (Proc.devRef .tc main_v57_0)) = V0 (Proc.devRef .tc main_v57_0) :=
  (val8_keep V0 main_v57_0 (by decide)).trans (val7_main_v57_0 V0)
theorem val8_main_v57_1 (V0 : Valuation τ sig (Elt F)) : val8 V0 (no_index (Proc.devRef .tc main_v57_1)) = V0 (Proc.devRef .tc main_v57_1) :=
  (val8_keep V0 main_v57_1 (by decide)).trans (val7_main_v57_1 V0)
theorem val8_main_v57_2 (V0 : Valuation τ sig (Elt F)) : val8 V0 (no_index (Proc.devRef .tc main_v57_2)) = V0 (Proc.devRef .tc main_v57_2) :=
  (val8_keep V0 main_v57_2 (by decide)).trans (val7_main_v57_2 V0)
theorem val8_main_v57_3 (V0 : Valuation τ sig (Elt F)) : val8 V0 (no_index (Proc.devRef .tc main_v57_3)) = V0 (Proc.devRef .tc main_v57_3) :=
  (val8_keep V0 main_v57_3 (by decide)).trans (val7_main_v57_3 V0)
theorem val8_main_while0b_v82 (V0 : Valuation τ sig (Elt F)) : val8 V0 (no_index (Proc.devRef .tc main_while0b_v82)) = extui 32 (cmpf .ogt (select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32))) (broadcastInDim S4x529x1 ![] bcast_S_S4x529x1 (constant S_ .f32 0x40ACCCCD#32))) natLt_1_32 :=
  (val8_keep V0 main_while0b_v82 (by decide)).trans (val7_main_while0b_v82 V0)
set_option maxRecDepth 8192 in
theorem val8_main_while0b_v83 (V0 : Valuation τ sig (Elt F)) : val8 V0 (no_index (Proc.devRef .tc main_while0b_v83)) = extui 32 (cmpi .eq (broadcastInDim S4x529x32 ![0, 1, 2] bcast_S4x529x1_S4x529x32_0_1_2 (broadcastInDim S4x529x1 ![0, 1] bcast_S4x529_S4x529x1_0_1 (res_main_while0b_v77 V0))) (broadcastInDim S4x529x32 ![0, 1, 2] bcast_S1x1x32_S4x529x32_0_1_2 (iotaInDim S1x1x32 32 2))) natLt_1_32 := by
  unfold val8
  simp only [trip_w7]
  after_results_entrywise [val7_main_while0b_v77, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_v84, main_while0b_v85, main_while0b_c_16, main_while0b_v86, main_while0b_c_17, main_while0b_v87, main_while0b_v88, main_while0b_v89, main_while0b_c_18, main_while0b_v90, main_while0b_v91, main_while0b_c_19, main_while0b_c_20]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v57_0 (V0 : Valuation τ sig (Elt F)) : val9 V0 (no_index (Proc.devRef .tc main_v57_0)) = V0 (Proc.devRef .tc main_v57_0) :=
  (val9_keep V0 main_v57_0 (by decide)).trans (val8_main_v57_0 V0)
theorem val9_main_v57_1 (V0 : Valuation τ sig (Elt F)) : val9 V0 (no_index (Proc.devRef .tc main_v57_1)) = V0 (Proc.devRef .tc main_v57_1) :=
  (val9_keep V0 main_v57_1 (by decide)).trans (val8_main_v57_1 V0)
theorem val9_main_v57_2 (V0 : Valuation τ sig (Elt F)) : val9 V0 (no_index (Proc.devRef .tc main_v57_2)) = V0 (Proc.devRef .tc main_v57_2) :=
  (val9_keep V0 main_v57_2 (by decide)).trans (val8_main_v57_2 V0)
theorem val9_main_v57_3 (V0 : Valuation τ sig (Elt F)) : val9 V0 (no_index (Proc.devRef .tc main_v57_3)) = V0 (Proc.devRef .tc main_v57_3) :=
  (val9_keep V0 main_v57_3 (by decide)).trans (val8_main_v57_3 V0)
set_option maxRecDepth 8192 in
set_option maxHeartbeats 1300000 in
theorem val9_main_while0b_v85 (V0 : Valuation τ sig (Elt F)) : val9 V0 (no_index (Proc.devRef .tc main_while0b_v85)) = res_main_while0b_v85 V0 := by
  unfold val9
  simp only [trip_w8]
  after_results_entrywise [val8_main_while0b_v82, val8_main_while0b_v83, res_main_while0b_v85, cast_eq]
set_option maxRecDepth 8192 in
set_option maxHeartbeats 1300000 in
theorem val9_main_while0b_v91 (V0 : Valuation τ sig (Elt F)) : val9 V0 (no_index (Proc.devRef .tc main_while0b_v91)) = subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)) := by
  unfold val9
  simp only [trip_w8]
  after_results_entrywise [val8_main_while0b_v82, val8_main_while0b_v83, val8_main_v57_2, res_main_while0b_v85, cast_eq]
set_option maxRecDepth 8192 in
set_option maxHeartbeats 1300000 in
theorem val9_main_while0b_c_19 (V0 : Valuation τ sig (Elt F)) : val9 V0 (no_index (Proc.devRef .tc main_while0b_c_19)) = constantI S_ 32 0#32 := by
  unfold val9
  simp only [trip_w8]
  after_results_entrywise [cast_eq]
set_option maxRecDepth 8192 in
set_option maxHeartbeats 1300000 in
theorem val9_main_while0b_c_20 (V0 : Valuation τ sig (Elt F)) : val9 V0 (no_index (Proc.devRef .tc main_while0b_c_20)) = constantI S_ 32 47#32 := by
  unfold val9
  simp only [trip_w8]
  after_results_entrywise [cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_call9_v0, main_while0b_call9_v1, main_while0b_call9_v2, main_while0b_call9_v3, main_while0b_call9_v4, main_while0b_v92]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v57_0 (V0 : Valuation τ sig (Elt F)) : val10 V0 (no_index (Proc.devRef .tc main_v57_0)) = V0 (Proc.devRef .tc main_v57_0) :=
  (val10_keep V0 main_v57_0 (by decide)).trans (val9_main_v57_0 V0)
theorem val10_main_v57_1 (V0 : Valuation τ sig (Elt F)) : val10 V0 (no_index (Proc.devRef .tc main_v57_1)) = V0 (Proc.devRef .tc main_v57_1) :=
  (val10_keep V0 main_v57_1 (by decide)).trans (val9_main_v57_1 V0)
theorem val10_main_v57_2 (V0 : Valuation τ sig (Elt F)) : val10 V0 (no_index (Proc.devRef .tc main_v57_2)) = V0 (Proc.devRef .tc main_v57_2) :=
  (val10_keep V0 main_v57_2 (by decide)).trans (val9_main_v57_2 V0)
theorem val10_main_v57_3 (V0 : Valuation τ sig (Elt F)) : val10 V0 (no_index (Proc.devRef .tc main_v57_3)) = V0 (Proc.devRef .tc main_v57_3) :=
  (val10_keep V0 main_v57_3 (by decide)).trans (val9_main_v57_3 V0)
theorem val10_main_while0b_v85 (V0 : Valuation τ sig (Elt F)) : val10 V0 (no_index (Proc.devRef .tc main_while0b_v85)) = res_main_while0b_v85 V0 :=
  (val10_keep V0 main_while0b_v85 (by decide)).trans (val9_main_while0b_v85 V0)
set_option maxRecDepth 8192 in
theorem val10_main_while0b_v92 (V0 : Valuation τ sig (Elt F)) : val10 V0 (no_index (Proc.devRef .tc main_while0b_v92)) = minsi (broadcastInDim S4x529 ![] bcast_S_S4x529 (id (constantI S_ 32 47#32))) (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)))) := by
  unfold val10
  simp only [trip_w9]
  after_results_entrywise [val9_main_while0b_v91, val9_main_while0b_c_19, val9_main_while0b_c_20, cast_eq]

/-- The device's buffer contents after the body's first 11 windows. -/
def val11 (V0 : Valuation τ sig (Elt F)) : Valuation τ sig (Elt F) := after trip_w10 (val10 V0)
/-- The buffers that window `trip_w10`'s operations write. -/
abbrev trip_w10_W : List (Ref sig .tc) := [main_while0b_v93]
set_option maxRecDepth 8192 in
theorem trip_w10_writes : (trip_w10 : List (HloOp τ sig (Elt F))).Forall fun op => op.writes ⊆ (trip_w10_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v57_0 (V0 : Valuation τ sig (Elt F)) : val11 V0 (no_index (Proc.devRef .tc main_v57_0)) = V0 (Proc.devRef .tc main_v57_0) :=
  (val11_keep V0 main_v57_0 (by decide)).trans (val10_main_v57_0 V0)
theorem val11_main_v57_1 (V0 : Valuation τ sig (Elt F)) : val11 V0 (no_index (Proc.devRef .tc main_v57_1)) = V0 (Proc.devRef .tc main_v57_1) :=
  (val11_keep V0 main_v57_1 (by decide)).trans (val10_main_v57_1 V0)
theorem val11_main_v57_2 (V0 : Valuation τ sig (Elt F)) : val11 V0 (no_index (Proc.devRef .tc main_v57_2)) = V0 (Proc.devRef .tc main_v57_2) :=
  (val11_keep V0 main_v57_2 (by decide)).trans (val10_main_v57_2 V0)
theorem val11_main_v57_3 (V0 : Valuation τ sig (Elt F)) : val11 V0 (no_index (Proc.devRef .tc main_v57_3)) = V0 (Proc.devRef .tc main_v57_3) :=
  (val11_keep V0 main_v57_3 (by decide)).trans (val10_main_v57_3 V0)
theorem val11_main_while0b_v92 (V0 : Valuation τ sig (Elt F)) : val11 V0 (no_index (Proc.devRef .tc main_while0b_v92)) = minsi (broadcastInDim S4x529 ![] bcast_S_S4x529 (id (constantI S_ 32 47#32))) (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)))) :=
  (val11_keep V0 main_while0b_v92 (by decide)).trans (val10_main_while0b_v92 V0)
set_option maxRecDepth 8192 in
theorem val11_main_while0b_v93 (V0 : Valuation τ sig (Elt F)) : val11 V0 (no_index (Proc.devRef .tc main_while0b_v93)) = sitofp .f32 (res_main_while0b_v85 V0) := by
  unfold val11
  simp only [trip_w10]
  after_results_entrywise [val10_main_while0b_v85, cast_eq]

/-- The device's buffer contents after the body's first 12 windows. -/
def val12 (V0 : Valuation τ sig (Elt F)) : Valuation τ sig (Elt F) := after trip_w11 (val11 V0)
/-- The buffers that window `trip_w11`'s operations write. -/
abbrev trip_w11_W : List (Ref sig .tc) := [main_while0b_call10_v0, main_while0b_call10_c, main_while0b_call10_c_0, main_while0b_call10_c_1, main_while0b_v94]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v57_0 (V0 : Valuation τ sig (Elt F)) : val12 V0 (no_index (Proc.devRef .tc main_v57_0)) = V0 (Proc.devRef .tc main_v57_0) :=
  (val12_keep V0 main_v57_0 (by decide)).trans (val11_main_v57_0 V0)
theorem val12_main_v57_1 (V0 : Valuation τ sig (Elt F)) : val12 V0 (no_index (Proc.devRef .tc main_v57_1)) = V0 (Proc.devRef .tc main_v57_1) :=
  (val12_keep V0 main_v57_1 (by decide)).trans (val11_main_v57_1 V0)
theorem val12_main_v57_2 (V0 : Valuation τ sig (Elt F)) : val12 V0 (no_index (Proc.devRef .tc main_v57_2)) = V0 (Proc.devRef .tc main_v57_2) :=
  (val12_keep V0 main_v57_2 (by decide)).trans (val11_main_v57_2 V0)
theorem val12_main_v57_3 (V0 : Valuation τ sig (Elt F)) : val12 V0 (no_index (Proc.devRef .tc main_v57_3)) = V0 (Proc.devRef .tc main_v57_3) :=
  (val12_keep V0 main_v57_3 (by decide)).trans (val11_main_v57_3 V0)
theorem val12_main_while0b_v92 (V0 : Valuation τ sig (Elt F)) : val12 V0 (no_index (Proc.devRef .tc main_while0b_v92)) = minsi (broadcastInDim S4x529 ![] bcast_S_S4x529 (id (constantI S_ 32 47#32))) (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)))) :=
  (val12_keep V0 main_while0b_v92 (by decide)).trans (val11_main_while0b_v92 V0)
set_option maxRecDepth 8192 in
theorem val12_main_while0b_v94 (V0 : Valuation τ sig (Elt F)) : val12 V0 (no_index (Proc.devRef .tc main_while0b_v94)) = Host.dynamicUpdateSlice (V0 (Proc.devRef .tc main_v57_3)) (broadcastInDim S1x4x529x32 ![1, 2, 3] bcast_S4x529x32_S1x4x529x32_1_2_3 (sitofp .f32 (res_main_while0b_v85 V0))) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) updateFits_S97x4x529x32_S1x4x529x32 := by
  unfold val12
  simp only [trip_w11]
  after_results_entrywise [val11_main_v57_1, val11_main_while0b_v93, val11_main_v57_3, cast_eq]

set_option maxRecDepth 8192 in
/-- The body's stretches before `while0Ops0_11`, from any contents: their windows in order. -/
theorem trip_windows (V0 : Valuation τ sig (Elt F)) : after while0Ops0_10 (after while0Ops0_9 (after while0Ops0_8 (after while0Ops0_7 (after while0Ops0_6 (after while0Ops0_5 (after while0Ops0_4 (after while0Ops0_3 (after while0Ops0_2 (after while0Ops0_1 (after while0Ops0 (V0))))))))))) = val12 V0 := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, while0Ops0_10_cut, after_append]
  rfl

set_option maxRecDepth 8192 in
set_option maxHeartbeats 2000000 in
/-- `main_v57_0` after one trip's body, from any contents. -/
theorem trip_main_v57_0 (V0 : Valuation τ sig (Elt F)) : afterL bodyI V0 (no_index (Proc.devRef .tc main_v57_0)) = V0 (Proc.devRef .tc main_v57_0) := by
  simp only [bodyI, afterL_cons, afterL_nil, trip_windows]
  after_results
  all_goals (try simp only [val12_main_while0b_v92, val12_main_while0b_v94, val12_main_v57_0, val12_main_v57_1, val12_main_v57_2, val12_main_v57_3]) <;> rfl
set_option maxRecDepth 8192 in
set_option maxHeartbeats 2000000 in
/-- `main_v57_1` after one trip's body, from any contents. -/
theorem trip_main_v57_1 (V0 : Valuation τ sig (Elt F)) : afterL bodyI V0 (no_index (Proc.devRef .tc main_v57_1)) = id (addi (V0 (Proc.devRef .tc main_v57_1)) (constantI S_ 32 1#32)) := by
  simp only [bodyI, afterL_cons, afterL_nil, trip_windows]
  after_results
  all_goals (try simp only [val12_main_while0b_v92, val12_main_while0b_v94, val12_main_v57_0, val12_main_v57_1, val12_main_v57_2, val12_main_v57_3]) <;> rfl
set_option maxRecDepth 8192 in
set_option maxHeartbeats 2000000 in
/-- `main_v57_2` after one trip's body, from any contents. -/
theorem trip_main_v57_2 (V0 : Valuation τ sig (Elt F)) : afterL bodyI V0 (no_index (Proc.devRef .tc main_v57_2)) = id (minsi (broadcastInDim S4x529 ![] bcast_S_S4x529 (id (constantI S_ 32 47#32))) (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32))))) := by
  simp only [bodyI, afterL_cons, afterL_nil, trip_windows]
  after_results
  all_goals (try simp only [val12_main_while0b_v92, val12_main_while0b_v94, val12_main_v57_0, val12_main_v57_1, val12_main_v57_2, val12_main_v57_3]) <;> rfl
set_option maxRecDepth 8192 in
set_option maxHeartbeats 2000000 in
/-- `main_v57_3` after one trip's body, from any contents. -/
theorem trip_main_v57_3 (V0 : Valuation τ sig (Elt F)) : afterL bodyI V0 (no_index (Proc.devRef .tc main_v57_3)) = id (Host.dynamicUpdateSlice (V0 (Proc.devRef .tc main_v57_3)) (broadcastInDim S1x4x529x32 ![1, 2, 3] bcast_S4x529x32_S1x4x529x32_1_2_3 (sitofp .f32 (res_main_while0b_v85 V0))) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) updateFits_S97x4x529x32_S1x4x529x32) := by
  simp only [bodyI, afterL_cons, afterL_nil, trip_windows]
  after_results
  all_goals (try simp only [val12_main_while0b_v92, val12_main_while0b_v94, val12_main_v57_0, val12_main_v57_1, val12_main_v57_2, val12_main_v57_3]) <;> rfl

/-- The loop's carried buffers. -/
abbrev carriedRefs : List (Ref sig .tc) := [main_v57_0, main_v57_1, main_v57_2, main_v57_3]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v76_congr {V0 V0' : Valuation τ sig (Elt F)} (h : Agree V0 V0') : res_main_while0b_v76 V0 = res_main_while0b_v76 V0' := by
  unfold res_main_while0b_v76
  rw [h main_v57_0 (by decide), h main_v57_1 (by decide), h main_v57_2 (by decide)]
set_option maxRecDepth 8192 in
theorem res_main_while0b_call6_v0_congr {V0 V0' : Valuation τ sig (Elt F)} (h : Agree V0 V0') : res_main_while0b_call6_v0 V0 = res_main_while0b_call6_v0 V0' := by
  unfold res_main_while0b_call6_v0
  rfl
set_option maxRecDepth 8192 in
theorem res_main_while0b_call6_cst_congr {V0 V0' : Valuation τ sig (Elt F)} (h : Agree V0 V0') : res_main_while0b_call6_cst V0 = res_main_while0b_call6_cst V0' := by
  unfold res_main_while0b_call6_cst
  rfl
set_option maxRecDepth 8192 in
theorem res_main_while0b_call6_c_congr {V0 V0' : Valuation τ sig (Elt F)} (h : Agree V0 V0') : res_main_while0b_call6_c V0 = res_main_while0b_call6_c V0' := by
  unfold res_main_while0b_call6_c
  rfl
set_option maxRecDepth 8192 in
theorem res_main_while0b_v77_congr {V0 V0' : Valuation τ sig (Elt F)} (h : Agree V0 V0') : res_main_while0b_v77 V0 = res_main_while0b_v77 V0' := by
  unfold res_main_while0b_v77
  rw [res_main_while0b_v76_congr h, res_main_while0b_call6_v0_congr h, res_main_while0b_call6_cst_congr h, res_main_while0b_call6_c_congr h]
set_option maxRecDepth 8192 in
theorem res_main_while0b_v78_congr {V0 V0' : Valuation τ sig (Elt F)} (h : Agree V0 V0') : res_main_while0b_v78 V0 = res_main_while0b_v78 V0' := by
  unfold res_main_while0b_v78
  rw [res_main_while0b_v77_congr h]
set_option maxRecDepth 8192 in
theorem res_main_while0b_call7_v5_congr {V0 V0' : Valuation τ sig (Elt F)} (h : Agree V0 V0') : res_main_while0b_call7_v5 V0 = res_main_while0b_call7_v5 V0' := by
  unfold res_main_while0b_call7_v5
  rw [res_main_while0b_v78_congr h]
set_option maxRecDepth 8192 in
theorem res_main_while0b_v85_congr {V0 V0' : Valuation τ sig (Elt F)} (h : Agree V0 V0') : res_main_while0b_v85 V0 = res_main_while0b_v85 V0' := by
  unfold res_main_while0b_v85
  rw [res_main_while0b_v77_congr h, res_main_while0b_call7_v5_congr h, res_main_while0b_v76_congr h]

set_option maxRecDepth 8192 in
/-- `main_v57_1` after one trip, of the contents before it. -/
def step_main_v57_1 (V0 : Valuation τ sig (Elt F)) : (Proc.devRef .tc main_v57_1 : DevRef τ sig).ty.Contents (Elt F) :=
  id (addi (V0 (Proc.devRef .tc main_v57_1)) (constantI S_ 32 1#32))
set_option maxRecDepth 8192 in
theorem step_main_v57_1_congr {V0 V0' : Valuation τ sig (Elt F)} (h : Agree V0 V0') : step_main_v57_1 V0 = step_main_v57_1 V0' := by
  unfold step_main_v57_1
  rw [h main_v57_1 (by decide)]
set_option maxRecDepth 8192 in
/-- `main_v57_2` after one trip, of the contents before it. -/
def step_main_v57_2 (V0 : Valuation τ sig (Elt F)) : (Proc.devRef .tc main_v57_2 : DevRef τ sig).ty.Contents (Elt F) :=
  id (minsi (broadcastInDim S4x529 ![] bcast_S_S4x529 (id (constantI S_ 32 47#32))) (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)))))
set_option maxRecDepth 8192 in
theorem step_main_v57_2_congr {V0 V0' : Valuation τ sig (Elt F)} (h : Agree V0 V0') : step_main_v57_2 V0 = step_main_v57_2 V0' := by
  unfold step_main_v57_2
  rw [res_main_while0b_v85_congr h, h main_v57_2 (by decide)]
set_option maxRecDepth 8192 in
/-- `main_v57_3` after one trip, of the contents before it. -/
def step_main_v57_3 (V0 : Valuation τ sig (Elt F)) : (Proc.devRef .tc main_v57_3 : DevRef τ sig).ty.Contents (Elt F) :=
  id (Host.dynamicUpdateSlice (V0 (Proc.devRef .tc main_v57_3)) (broadcastInDim S1x4x529x32 ![1, 2, 3] bcast_S4x529x32_S1x4x529x32_1_2_3 (sitofp .f32 (res_main_while0b_v85 V0))) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) updateFits_S97x4x529x32_S1x4x529x32)
set_option maxRecDepth 8192 in
theorem step_main_v57_3_congr {V0 V0' : Valuation τ sig (Elt F)} (h : Agree V0 V0') : step_main_v57_3 V0 = step_main_v57_3 V0' := by
  unfold step_main_v57_3
  rw [res_main_while0b_v85_congr h, h main_v57_3 (by decide), h main_v57_1 (by decide)]

/-- ONE TRIP on the carried buffers: the buffers the body writes step, everything else is as it was. -/
def STEP (V0 : Valuation τ sig (Elt F)) : Valuation τ sig (Elt F) :=
  Function.update (Function.update (Function.update (V0) (Proc.devRef .tc main_v57_1) (step_main_v57_1 V0)) (Proc.devRef .tc main_v57_2) (step_main_v57_2 V0)) (Proc.devRef .tc main_v57_3) (step_main_v57_3 V0)

theorem STEP_main_v57_0 (V0 : Valuation τ sig (Elt F)) : STEP V0 (Proc.devRef .tc main_v57_0) = V0 (Proc.devRef .tc main_v57_0) := by
  unfold STEP; rw [Function.update_of_ne (devRef_ne_of_ne (by decide))]; rw [Function.update_of_ne (devRef_ne_of_ne (by decide))]; rw [Function.update_of_ne (devRef_ne_of_ne (by decide))]
theorem STEP_main_v57_1 (V0 : Valuation τ sig (Elt F)) : STEP V0 (Proc.devRef .tc main_v57_1) = step_main_v57_1 V0 := by
  unfold STEP; rw [Function.update_of_ne (devRef_ne_of_ne (by decide))]; rw [Function.update_of_ne (devRef_ne_of_ne (by decide))]; rw [Function.update_self]
theorem STEP_main_v57_2 (V0 : Valuation τ sig (Elt F)) : STEP V0 (Proc.devRef .tc main_v57_2) = step_main_v57_2 V0 := by
  unfold STEP; rw [Function.update_of_ne (devRef_ne_of_ne (by decide))]; rw [Function.update_self]
theorem STEP_main_v57_3 (V0 : Valuation τ sig (Elt F)) : STEP V0 (Proc.devRef .tc main_v57_3) = step_main_v57_3 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v57_0 (after condOps X)).trans ((hc main_v57_0 (by decide)).trans (STEP_main_v57_0 X).symm)
  · exact (trip_main_v57_1 (after condOps X)).trans ((step_main_v57_1_congr hc).trans (STEP_main_v57_1 X).symm)
  · exact (trip_main_v57_2 (after condOps X)).trans ((step_main_v57_2_congr hc).trans (STEP_main_v57_2 X).symm)
  · exact (trip_main_v57_3 (after condOps X)).trans ((step_main_v57_3_congr hc).trans (STEP_main_v57_3 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v57_0, STEP_main_v57_0]; exact h main_v57_0 (by decide)
  · rw [STEP_main_v57_1, STEP_main_v57_1]; exact step_main_v57_1_congr h
  · rw [STEP_main_v57_2, STEP_main_v57_2]; exact step_main_v57_2_congr h
  · rw [STEP_main_v57_3, STEP_main_v57_3]; exact step_main_v57_3_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
theorem keep_main_arg0_hostOps0_6 (V : Valuation τ sig (Elt F)) : after hostOps0_6 V (Proc.devRef .tc main_arg0) = V (Proc.devRef .tc main_arg0) :=
  after_of_writes_sub hostOps0_6 V hostOps0_6_writes (by decide +kernel)
theorem keep_main_arg0_hostOps0_7 (V : Valuation τ sig (Elt F)) : after hostOps0_7 V (Proc.devRef .tc main_arg0) = V (Proc.devRef .tc main_arg0) :=
  after_of_writes_sub hostOps0_7 V hostOps0_7_writes (by decide +kernel)
theorem keep_main_arg0_hostOps0_8 (V : Valuation τ sig (Elt F)) : after hostOps0_8 V (Proc.devRef .tc main_arg0) = V (Proc.devRef .tc main_arg0) :=
  after_of_writes_sub hostOps0_8 V hostOps0_8_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
theorem keep_main_arg0_while0Ops0_8 (V : Valuation τ sig (Elt F)) : after while0Ops0_8 V (Proc.devRef .tc main_arg0) = V (Proc.devRef .tc main_arg0) :=
  after_of_writes_sub while0Ops0_8 V while0Ops0_8_writes (by decide +kernel)
theorem keep_main_arg0_while0Ops0_9 (V : Valuation τ sig (Elt F)) : after while0Ops0_9 V (Proc.devRef .tc main_arg0) = V (Proc.devRef .tc main_arg0) :=
  after_of_writes_sub while0Ops0_9 V while0Ops0_9_writes (by decide +kernel)
theorem keep_main_arg0_while0Ops0_10 (V : Valuation τ sig (Elt F)) : after while0Ops0_10 V (Proc.devRef .tc main_arg0) = V (Proc.devRef .tc main_arg0) :=
  after_of_writes_sub while0Ops0_10 V while0Ops0_10_writes (by decide +kernel)
theorem keep_main_arg0_while0Ops0_11 (V : Valuation τ sig (Elt F)) : after while0Ops0_11 V (Proc.devRef .tc main_arg0) = V (Proc.devRef .tc main_arg0) :=
  after_of_writes_sub while0Ops0_11 V while0Ops0_11_writes (by decide +kernel)
theorem keep_main_arg0_hostOps0_9 (V : Valuation τ sig (Elt F)) : after hostOps0_9 V (Proc.devRef .tc main_arg0) = V (Proc.devRef .tc main_arg0) :=
  after_of_writes_sub hostOps0_9 V hostOps0_9_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_8, keep_main_arg0_hostOps0_7, keep_main_arg0_hostOps0_6, keep_main_arg0_hostOps0_5, keep_main_arg0_hostOps0_4, keep_main_arg0_hostOps0_3, keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_11, keep_main_arg0_while0Ops0_10, keep_main_arg0_while0Ops0_9, keep_main_arg0_while0Ops0_8, keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
theorem keep_main_arg1_hostOps0_6 (V : Valuation τ sig (Elt F)) : after hostOps0_6 V (Proc.devRef .tc main_arg1) = V (Proc.devRef .tc main_arg1) :=
  after_of_writes_sub hostOps0_6 V hostOps0_6_writes (by decide +kernel)
theorem keep_main_arg1_hostOps0_7 (V : Valuation τ sig (Elt F)) : after hostOps0_7 V (Proc.devRef .tc main_arg1) = V (Proc.devRef .tc main_arg1) :=
  after_of_writes_sub hostOps0_7 V hostOps0_7_writes (by decide +kernel)
theorem keep_main_arg1_hostOps0_8 (V : Valuation τ sig (Elt F)) : after hostOps0_8 V (Proc.devRef .tc main_arg1) = V (Proc.devRef .tc main_arg1) :=
  after_of_writes_sub hostOps0_8 V hostOps0_8_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
theorem keep_main_arg1_while0Ops0_8 (V : Valuation τ sig (Elt F)) : after while0Ops0_8 V (Proc.devRef .tc main_arg1) = V (Proc.devRef .tc main_arg1) :=
  after_of_writes_sub while0Ops0_8 V while0Ops0_8_writes (by decide +kernel)
theorem keep_main_arg1_while0Ops0_9 (V : Valuation τ sig (Elt F)) : after while0Ops0_9 V (Proc.devRef .tc main_arg1) = V (Proc.devRef .tc main_arg1) :=
  after_of_writes_sub while0Ops0_9 V while0Ops0_9_writes (by decide +kernel)
theorem keep_main_arg1_while0Ops0_10 (V : Valuation τ sig (Elt F)) : after while0Ops0_10 V (Proc.devRef .tc main_arg1) = V (Proc.devRef .tc main_arg1) :=
  after_of_writes_sub while0Ops0_10 V while0Ops0_10_writes (by decide +kernel)
theorem keep_main_arg1_while0Ops0_11 (V : Valuation τ sig (Elt F)) : after while0Ops0_11 V (Proc.devRef .tc main_arg1) = V (Proc.devRef .tc main_arg1) :=
  after_of_writes_sub while0Ops0_11 V while0Ops0_11_writes (by decide +kernel)
theorem keep_main_arg1_hostOps0_9 (V : Valuation τ sig (Elt F)) : after hostOps0_9 V (Proc.devRef .tc main_arg1) = V (Proc.devRef .tc main_arg1) :=
  after_of_writes_sub hostOps0_9 V hostOps0_9_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_8, keep_main_arg1_hostOps0_7, keep_main_arg1_hostOps0_6, keep_main_arg1_hostOps0_5, keep_main_arg1_hostOps0_4, keep_main_arg1_hostOps0_3, keep_main_arg1_hostOps0_2, keep_main_arg1_hostOps0_1, keep_main_arg1_hostOps0]
  | k + 1 => by
    rw [show atK m (k + 1) c = afterL bodyI (after condOps (atK m k c)) from rfl]
    simp only [afterL_cons, afterL_nil]
    rw [keep_main_arg1_while0Ops0_11, keep_main_arg1_while0Ops0_10, keep_main_arg1_while0Ops0_9, keep_main_arg1_while0Ops0_8, keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
theorem keep_main_arg2_hostOps0_6 (V : Valuation τ sig (Elt F)) : after hostOps0_6 V (Proc.devRef .tc main_arg2) = V (Proc.devRef .tc main_arg2) :=
  after_of_writes_sub hostOps0_6 V hostOps0_6_writes (by decide +kernel)
theorem keep_main_arg2_hostOps0_7 (V : Valuation τ sig (Elt F)) : after hostOps0_7 V (Proc.devRef .tc main_arg2) = V (Proc.devRef .tc main_arg2) :=
  after_of_writes_sub hostOps0_7 V hostOps0_7_writes (by decide +kernel)
theorem keep_main_arg2_hostOps0_8 (V : Valuation τ sig (Elt F)) : after hostOps0_8 V (Proc.devRef .tc main_arg2) = V (Proc.devRef .tc main_arg2) :=
  after_of_writes_sub hostOps0_8 V hostOps0_8_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_while0Ops0_5 (V : Valuation τ sig (Elt F)) : after while0Ops0_5 V (Proc.devRef .tc main_arg2) = V (Proc.devRef .tc main_arg2) :=
  after_of_writes_sub while0Ops0_5 V while0Ops0_5_writes (by decide +kernel)
theorem keep_main_arg2_while0Ops0_6 (V : Valuation τ sig (Elt F)) : after while0Ops0_6 V (Proc.devRef .tc main_arg2) = V (Proc.devRef .tc main_arg2) :=
  after_of_writes_sub while0Ops0_6 V while0Ops0_6_writes (by decide +kernel)
theorem keep_main_arg2_while0Ops0_7 (V : Valuation τ sig (Elt F)) : after while0Ops0_7 V (Proc.devRef .tc main_arg2) = V (Proc.devRef .tc main_arg2) :=
  after_of_writes_sub while0Ops0_7 V while0Ops0_7_writes (by decide +kernel)
theorem keep_main_arg2_while0Ops0_8 (V : Valuation τ sig (Elt F)) : after while0Ops0_8 V (Proc.devRef .tc main_arg2) = V (Proc.devRef .tc main_arg2) :=
  after_of_writes_sub while0Ops0_8 V while0Ops0_8_writes (by decide +kernel)
theorem keep_main_arg2_while0Ops0_9 (V : Valuation τ sig (Elt F)) : after while0Ops0_9 V (Proc.devRef .tc main_arg2) = V (Proc.devRef .tc main_arg2) :=
  after_of_writes_sub while0Ops0_9 V while0Ops0_9_writes (by decide +kernel)
theorem keep_main_arg2_while0Ops0_10 (V : Valuation τ sig (Elt F)) : after while0Ops0_10 V (Proc.devRef .tc main_arg2) = V (Proc.devRef .tc main_arg2) :=
  after_of_writes_sub while0Ops0_10 V while0Ops0_10_writes (by decide +kernel)
theorem keep_main_arg2_while0Ops0_11 (V : Valuation τ sig (Elt F)) : after while0Ops0_11 V (Proc.devRef .tc main_arg2) = V (Proc.devRef .tc main_arg2) :=
  after_of_writes_sub while0Ops0_11 V while0Ops0_11_writes (by decide +kernel)
theorem keep_main_arg2_hostOps0_9 (V : Valuation τ sig (Elt F)) : after hostOps0_9 V (Proc.devRef .tc main_arg2) = V (Proc.devRef .tc main_arg2) :=
  after_of_writes_sub hostOps0_9 V hostOps0_9_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0_8, keep_main_arg2_hostOps0_7, keep_main_arg2_hostOps0_6, keep_main_arg2_hostOps0_5, keep_main_arg2_hostOps0_4, keep_main_arg2_hostOps0_3, keep_main_arg2_hostOps0_2, keep_main_arg2_hostOps0_1, keep_main_arg2_hostOps0]
  | k + 1 => by
    rw [show atK m (k + 1) c = afterL bodyI (after condOps (atK m k c)) from rfl]
    simp only [afterL_cons, afterL_nil]
    rw [keep_main_arg2_while0Ops0_11, keep_main_arg2_while0Ops0_10, keep_main_arg2_while0Ops0_9, keep_main_arg2_while0Ops0_8, keep_main_arg2_while0Ops0_7, keep_main_arg2_while0Ops0_6, keep_main_arg2_while0Ops0_5, keep_main_arg2_while0Ops0_4, keep_main_arg2_while0Ops0_3, keep_main_arg2_while0Ops0_2, keep_main_arg2_while0Ops0_1, keep_main_arg2_while0Ops0, keep_main_arg2_condOps, atK_main_arg2 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_9]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_9]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_9]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg2 c k
set_option maxRecDepth 8192 in
/-- `main_v59`, which the operations after the loop make, of the contents they start from. -/
def out_main_v59 (V0 : Valuation τ sig (Elt F)) : (Proc.devRef .tc main_v59 : DevRef τ sig).ty.Contents (Elt F) :=
  shapeCast _ (transpose S4x32x529x97 [1, 3, 2, 0] (V0 (Proc.devRef .tc main_v57_3)) transposes_S97x4x529x32_S4x32x529x97_1_3_2_0) shapeCasts_S4x32x529x97_S4x32x23x23x97
set_option maxRecDepth 8192 in
set_option maxHeartbeats 2000000 in
theorem post_main_v59 (V0 : Valuation τ sig (Elt F)) : afterL postI V0 (no_index (Proc.devRef .tc main_v59)) = out_main_v59 V0 := by
  unfold out_main_v59
  simp only [postI, afterL_cons, afterL_nil, hostOps0_9]
  after_results_entrywise []
set_option maxRecDepth 8192 in
theorem out_main_v59_congr {V0 V0' : Valuation τ sig (Elt F)} (h : Agree V0 V0') : out_main_v59 V0 = out_main_v59 V0' := by
  unfold out_main_v59
  rw [h main_v57_3 (by decide)]
/-- THE RUN: on every device, for any float values, from any memory with zero counters, every weakly fair execution
    of @main terminates with each result at its component of `STEP` iterated 97 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v59) = out_main_v59 (STEP^[97] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v59 rfl).trans ((post_main_v59 _).trans (out_main_v59_congr (fun j hj => (cond_keeps _ j hj).trans (atK_agree m c 97 j hj)))),
      (h c main_arg0 rfl).trans ((post_keeps_main_arg0 _).trans ((keep_main_arg0_condOps _).trans (atK_main_arg0 m c 97))),
      (h c main_arg1 rfl).trans ((post_keeps_main_arg1 _).trans ((keep_main_arg1_condOps _).trans (atK_main_arg1 m c 97))),
      (h c main_arg2 rfl).trans ((post_keeps_main_arg2 _).trans ((keep_main_arg2_condOps _).trans (atK_main_arg2 m c 97)))⟩) (run_fold m ρ)

end Cert.ReferenceIdeal.Value

end
-- ==== Proof.RefStep.lean ====
/- One trip of the reference's loop as definitions of its number and of the state it is handed: the values computed before the
   loop, every value of the trip's own operations (`b‹k› j s`, in their order), the state before the first trip (`init`) and
   the state handed on (`step`). -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v57_2 : (⟨S4x529, .i32⟩ : BufTy).Contents (Elt F)
  main_v57_3 : (⟨S97x4x529x32, .f32⟩ : BufTy).Contents (Elt F)
  main_v57_0 : (⟨S97x4x529x32, .f32⟩ : BufTy).Contents (Elt F)

/-! What @main computes before the loop without reading an argument. -/

def K_main_v0 : (⟨S48, .f32⟩ : BufTy).Contents (Elt F) := sitofp .f32 (iotaInDim S48 32 0)
def K_main_v1 : (⟨S32x2x3x3x48, .f32⟩ : BufTy).Contents (Elt F) := broadcastInDim S32x2x3x3x48 ![4] bcast_S48_S32x2x3x3x48_4 ((K_main_v0 (F := F)))
def K_main_cst : (⟨S_, .f32⟩ : BufTy).Contents (Elt F) := constant S_ .f32 0x41800000#32
def K_main_v2 : (⟨S32x2x3x3x48, .f32⟩ : BufTy).Contents (Elt F) := broadcastInDim S32x2x3x3x48 ![] bcast_S_S32x2x3x3x48 ((K_main_cst (F := F)))
def K_main_v3 : (⟨S32x2x3x3x48, .f32⟩ : BufTy).Contents (Elt F) := Host.divf ((K_main_v1 (F := F))) ((K_main_v2 (F := F)))
def K_main_cst_0 : (⟨S_, .f32⟩ : BufTy).Contents (Elt F) := constant S_ .f32 0x41800000#32
def K_main_v5 : (⟨S32x2x3x3x1, .f32⟩ : BufTy).Contents (Elt F) := broadcastInDim S32x2x3x3x1 ![] bcast_S_S32x2x3x3x1 ((K_main_cst_0 (F := F)))
def K_main_cst_1 : (⟨S_, .f32⟩ : BufTy).Contents (Elt F) := constant S_ .f32 0x42000000#32
def K_main_v10 : (⟨S32x2x3x3x48, .f32⟩ : BufTy).Contents (Elt F) := broadcastInDim S32x2x3x3x48 ![] bcast_S_S32x2x3x3x48 ((K_main_cst_1 (F := F)))
def K_main_cst_2 : (⟨S_, .f32⟩ : BufTy).Contents (Elt F) := constant S_ .f32 0x00000000#32
def K_main_v16 : (⟨S32x2x3x3x48, .f32⟩ : BufTy).Contents (Elt F) := broadcastInDim S32x2x3x3x48 ![] bcast_S_S32x2x3x3x48 ((K_main_cst_2 (F := F)))
def K_main_c : (⟨S_, .i32⟩ : BufTy).Contents (Elt F) := constantI S_ 32 0#32
def K_main_call1_v0 : (⟨S_, .f32⟩ : BufTy).Contents (Elt F) := sitofp .f32 ((K_main_c (F := F)))
def K_main_v20 : (⟨S23, .i32⟩ : BufTy).Contents (Elt F) := iotaInDim S23 32 0
def K_main_v21 : (⟨S23x1, .i32⟩ : BufTy).Contents (Elt F) := broadcastInDim S23x1 ![0] bcast_S23_S23x1_0 ((K_main_v20 (F := F)))
def K_main_c_3 : (⟨S_, .i32⟩ : BufTy).Contents (Elt F) := constantI S_ 32 2#32
def K_main_v22 : (⟨S23x1, .i32⟩ : BufTy).Contents (Elt F) := broadcastInDim S23x1 ![] bcast_S_S23x1 ((K_main_c_3 (F := F)))
def K_main_v23 : (⟨S23x1, .i32⟩ : BufTy).Contents (Elt F) := muli ((K_main_v22 (F := F))) ((K_main_v21 (F := F)))
def K_main_v24 : (⟨S3, .i32⟩ : BufTy).Contents (Elt F) := iotaInDim S3 32 0
def K_main_v25 : (⟨S1x3, .i32⟩ : BufTy).Contents (Elt F) := broadcastInDim S1x3 ![1] bcast_S3_S1x3_1 ((K_main_v24 (F := F)))
def K_main_v26 : (⟨S23x3, .i32⟩ : BufTy).Contents (Elt F) := broadcastInDim S23x3 ![0, 1] bcast_S23x1_S23x3_0_1 ((K_main_v23 (F := F)))
def K_main_v27 : (⟨S23x3, .i32⟩ : BufTy).Contents (Elt F) := broadcastInDim S23x3 ![0, 1] bcast_S1x3_S23x3_0_1 ((K_main_v25 (F := F)))
def K_main_v28 : (⟨S23x3, .i32⟩ : BufTy).Contents (Elt F) := addi ((K_main_v26 (F := F))) ((K_main_v27 (F := F)))
def K_main_v29 : (⟨S23, .i32⟩ : BufTy).Contents (Elt F) := iotaInDim S23 32 0
def K_main_v30 : (⟨S23x1, .i32⟩ : BufTy).Contents (Elt F) := broadcastInDim S23x1 ![0] bcast_S23_S23x1_0 ((K_main_v29 (F := F)))
def K_main_c_4 : (⟨S_, .i32⟩ : BufTy).Contents (Elt F) := constantI S_ 32 2#32
def K_main_v31 : (⟨S23x1, .i32⟩ : BufTy).Contents (Elt F) := broadcastInDim S23x1 ![] bcast_S_S23x1 ((K_main_c_4 (F := F)))
def K_main_v32 : (⟨S23x1, .i32⟩ : BufTy).Contents (Elt F) := muli ((K_main_v31 (F := F))) ((K_main_v30 (F := F)))
def K_main_v33 : (⟨S3, .i32⟩ : BufTy).Contents (Elt F) := iotaInDim S3 32 0
def K_main_v34 : (⟨S1x3, .i32⟩ : BufTy).Contents (Elt F) := broadcastInDim S1x3 ![1] bcast_S3_S1x3_1 ((K_main_v33 (F := F)))
def K_main_v35 : (⟨S23x3, .i32⟩ : BufTy).Contents (Elt F) := broadcastInDim S23x3 ![0, 1] bcast_S23x1_S23x3_0_1 ((K_main_v32 (F := F)))
def K_main_v36 : (⟨S23x3, .i32⟩ : BufTy).Contents (Elt F) := broadcastInDim S23x3 ![0, 1] bcast_S1x3_S23x3_0_1 ((K_main_v34 (F := F)))
def K_main_v37 : (⟨S23x3, .i32⟩ : BufTy).Contents (Elt F) := addi ((K_main_v35 (F := F))) ((K_main_v36 (F := F)))
def K_main_v38 : (⟨S97, .i32⟩ : BufTy).Contents (Elt F) := iotaInDim S97 32 0
def K_main_v39 : (⟨S97x1, .i32⟩ : BufTy).Contents (Elt F) := broadcastInDim S97x1 ![0] bcast_S97_S97x1_0 ((K_main_v38 (F := F)))
def K_main_v40 : (⟨S48, .i32⟩ : BufTy).Contents (Elt F) := iotaInDim S48 32 0
def K_main_v41 : (⟨S1x48, .i32⟩ : BufTy).Contents (Elt F) := broadcastInDim S1x48 ![1] bcast_S48_S1x48_1 ((K_main_v40 (F := F)))
def K_main_v42 : (⟨S97x48, .i32⟩ : BufTy).Contents (Elt F) := broadcastInDim S97x48 ![0, 1] bcast_S97x1_S97x48_0_1 ((K_main_v39 (F := F)))
def K_main_v43 : (⟨S97x48, .i32⟩ : BufTy).Contents (Elt F) := broadcastInDim S97x48 ![0, 1] bcast_S1x48_S97x48_0_1 ((K_main_v41 (F := F)))
def K_main_v44 : (⟨S97x48, .i32⟩ : BufTy).Contents (Elt F) := addi ((K_main_v42 (F := F))) ((K_main_v43 (F := F)))
def K_main_call2_v0 : (⟨S23x3x1, .i32⟩ : BufTy).Contents (Elt F) := broadcastInDim S23x3x1 ![0, 1] bcast_S23x3_S23x3x1_0_1 ((K_main_v28 (F := F)))
def K_main_call3_v0 : (⟨S23x3x1, .i32⟩ : BufTy).Contents (Elt F) := broadcastInDim S23x3x1 ![0, 1] bcast_S23x3_S23x3x1_0_1 ((K_main_v37 (F := F)))
def K_main_call4_v0 : (⟨S97x48x1, .i32⟩ : BufTy).Contents (Elt F) := broadcastInDim S97x48x1 ![0, 1] bcast_S97x48_S97x48x1_0_1 ((K_main_v44 (F := F)))
def K_main_c_5 : (⟨S_, .i32⟩ : BufTy).Contents (Elt F) := constantI S_ 32 0#32
def K_main_v55 : (⟨S4x529, .i32⟩ : BufTy).Contents (Elt F) := broadcastInDim S4x529 ![] bcast_S_S4x529 ((K_main_c_5 (F := F)))
def K_main_cst_6 : (⟨S_, .f32⟩ : BufTy).Contents (Elt F) := constant S_ .f32 0x00000000#32
def K_main_v56 : (⟨S97x4x529x32, .f32⟩ : BufTy).Contents (Elt F) := broadcastInDim S97x4x529x32 ![] bcast_S_S97x4x529x32 ((K_main_cst_6 (F := F)))
def K_main_c_7 : (⟨S_, .i32⟩ : BufTy).Contents (Elt F) := constantI S_ 32 0#32

/-! What @main computes before the loop from its arguments, as functions of them. -/

def A_main_v4 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x1, .f32⟩ : BufTy).Contents (Elt F) := broadcastInDim S32x2x3x3x1 ![0, 1, 2, 3] bcast_S32x2x3x3_S32x2x3x3x1_0_1_2_3 (main_arg1)
def A_main_v6 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x1, .f32⟩ : BufTy).Contents (Elt F) := mulf ((A_main_v4 main_arg0 main_arg1 main_arg2)) ((K_main_v5 (F := F)))
def A_main_v7 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := broadcastInDim S32x2x3x3x48 ![0, 1, 2, 3, 4] bcast_S32x2x3x3x1_S32x2x3x3x48_0_1_2_3_4 ((A_main_v6 main_arg0 main_arg1 main_arg2))
def A_main_v8 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := subf ((K_main_v1 (F := F))) ((A_main_v7 main_arg0 main_arg1 main_arg2))
def A_main_v9 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := Host.negf ((A_main_v8 main_arg0 main_arg1 main_arg2))
def A_main_v11 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := Host.divf ((A_main_v9 main_arg0 main_arg1 main_arg2)) ((K_main_v10 (F := F)))
def A_main_v12 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x1, .f32⟩ : BufTy).Contents (Elt F) := broadcastInDim S32x2x3x3x1 ![0, 1, 2, 3] bcast_S32x2x3x3_S32x2x3x3x1_0_1_2_3 (main_arg1)
def A_main_v13 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := broadcastInDim S32x2x3x3x48 ![0, 1, 2, 3, 4] bcast_S32x2x3x3x1_S32x2x3x3x48_0_1_2_3_4 ((A_main_v12 main_arg0 main_arg1 main_arg2))
def A_main_v14 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := addf ((A_main_v11 main_arg0 main_arg1 main_arg2)) ((A_main_v13 main_arg0 main_arg1 main_arg2))
def A_main_v15 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := minimumf ((K_main_v3 (F := F))) ((A_main_v14 main_arg0 main_arg1 main_arg2))
def A_main_v17 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := maximumf ((K_main_v16 (F := F))) ((A_main_v15 main_arg0 main_arg1 main_arg2))
def A_main_v18 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S32x2x3x3x48, .f32⟩ : BufTy).Contents (Elt F) := Host.reverse [4] ((A_main_v17 main_arg0 main_arg1 main_arg2))
def A_main_v19 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x2x48x48x144, .f32⟩ : BufTy).Contents (Elt F) := pad S4x2x48x48x144 ![0, 0, 0, 0, 48] ![0, 0, 0, 0, 48] ![0, 0, 0, 0, 0] (main_arg0) ((K_main_call1_v0 (F := F))) pads_S4x2x48x48x48_S4x2x48x48x144_000_000_000_000_48480 h_S_
def A_main_v45 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x2x23x3x48x144, .f32⟩ : BufTy).Contents (Elt F) := Host.gather gather_S4x2x48x48x144_S23x3x1_S4x2x23x3x48x144_0145_2_n_n_2_2_42148144 ((A_main_v19 main_arg0 main_arg1 main_arg2)) ((K_main_call2_v0 (F := F)))
def A_main_v46 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x2x23x3x23x3x144, .f32⟩ : BufTy).Contents (Elt F) := Host.gather gather_S4x2x23x3x48x144_S23x3x1_S4x2x23x3x23x3x144_01236_4_n_n_4_2_422331144 ((A_main_v45 main_arg0 main_arg1 main_arg2)) ((K_main_call3_v0 (F := F)))
def A_main_v47 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x2x23x3x23x3x97x48, .f32⟩ : BufTy).Contents (Elt F) := Host.gather gather_S4x2x23x3x23x3x144_S97x48x1_S4x2x23x3x23x3x97x48_012345_6_n_n_6_2_422332331 ((A_main_v46 main_arg0 main_arg1 main_arg2)) ((K_main_call4_v0 (F := F)))
def A_main_v48 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x23x23x97x32, .f32⟩ : BufTy).Contents (Elt F) := Host.dotGeneral dot_S4x2x23x3x23x3x97x48_S32x2x3x3x48_S4x23x23x97x32_1357_1234_0246_0_n_n none ((A_main_v47 main_arg0 main_arg1 main_arg2)) ((A_main_v18 main_arg0 main_arg1 main_arg2))
def A_main_v49 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x32x23x23x97, .f32⟩ : BufTy).Contents (Elt F) := transpose S4x32x23x23x97 [0, 4, 1, 2, 3] ((A_main_v48 main_arg0 main_arg1 main_arg2)) transposes_S4x23x23x97x32_S4x32x23x23x97_0_4_1_2_3
def A_main_v50 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S1x32x1x1x1, .f32⟩ : BufTy).Contents (Elt F) := shapeCast _ (main_arg2) shapeCasts_S32_S1x32x1x1x1
def A_main_v51 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x32x23x23x97, .f32⟩ : BufTy).Contents (Elt F) := broadcastInDim S4x32x23x23x97 ![0, 1, 2, 3, 4] bcast_S1x32x1x1x1_S4x32x23x23x97_0_1_2_3_4 ((A_main_v50 main_arg0 main_arg1 main_arg2))
def A_main_v52 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x32x23x23x97, .f32⟩ : BufTy).Contents (Elt F) := addf ((A_main_v49 main_arg0 main_arg1 main_arg2)) ((A_main_v51 main_arg0 main_arg1 main_arg2))
def A_main_v53 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S4x32x529x97, .f32⟩ : BufTy).Contents (Elt F) := shapeCast _ ((A_main_v52 main_arg0 main_arg1 main_arg2)) shapeCasts_S4x32x23x23x97_S4x32x529x97
def A_main_v54 (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : (⟨S97x4x529x32, .f32⟩ : BufTy).Contents (Elt F) := transpose S97x4x529x32 [3, 0, 2, 1] ((A_main_v53 main_arg0 main_arg1 main_arg2)) transposes_S4x32x529x97_S97x4x529x32_3_0_2_1

/-! One trip's values, in the body's order. -/

def b0 (j : ℕ) (s : State F) : (⟨S_, .i32⟩ : BufTy).Contents (Elt F) :=
  constantI S_ 32 0#32
def b1 (j : ℕ) (s : State F) : (⟨S_, .i32⟩ : BufTy).Contents (Elt F) :=
  constantI S_ 32 0#32
def b2 (j : ℕ) (s : State F) : (⟨S_, .i32⟩ : BufTy).Contents (Elt F) :=
  constantI S_ 32 0#32
def b3 (j : ℕ) (s : State F) : (⟨S1x4x529x32, .f32⟩ : BufTy).Contents (Elt F) :=
  Host.dynamicSlice S1x4x529x32 (s.main_v57_0) (fun k => (((![(constantI S_ 32 (BitVec.ofNat 32 j) : (⟨S_, .i32⟩ : BufTy).Contents (Elt F)), (b0 j s), (b1 j s), (b2 j s)] : Fin 4 → (⟨S_, .i32⟩ : BufTy).Contents (Elt F))) k (Shape.Idx.first h_S_)).toInt) sliceFits_S97x4x529x32_S1x4x529x32
def b4 (j : ℕ) (s : State F) : (⟨S4x529x32, .f32⟩ : BufTy).Contents (Elt F) :=
  shapeCast S4x529x32 ((b3 j s)) shapeCasts_S1x4x529x32_S4x529x32
def b5 (j : ℕ) (s : State F) : (⟨S_, .i32⟩ : BufTy).Contents (Elt F) :=
  constantI S_ 32 0#32
def b6 (j : ℕ) (s : State F) : (⟨S4x529, .i32⟩ : BufTy).Contents (Elt F) :=
  broadcastInDim S4x529 ![] bcast_S_S4x529 ((b5 j s))
def b7 (j : ℕ) (s : State F) : (⟨S4x529, .i1⟩ : BufTy).Contents (Elt F) :=
  cmpi .eq (s.main_v57_2) ((b6 j s))
def b8 (j : ℕ) (s : State F) : (⟨S4x529, .f32⟩ : BufTy).Contents (Elt F) :=
  uitofp .f32 ((b7 j s))
def b9 (j : ℕ) (s : State F) : (⟨S4x529x1, .f32⟩ : BufTy).Contents (Elt F) :=
  broadcastInDim S4x529x1 ![0, 1] bcast_S4x529_S4x529x1_0_1 ((b8 j s))
def b10 (j : ℕ) (s : State F) : (⟨S_, .i32⟩ : BufTy).Contents (Elt F) :=
  constantI S_ 32 0#32
def b11 (j : ℕ) (s : State F) : (⟨S4x529, .i32⟩ : BufTy).Contents (Elt F) :=
  broadcastInDim S4x529 ![] bcast_S_S4x529 ((b10 j s))
def b12 (j : ℕ) (s : State F) : (⟨S4x529, .i1⟩ : BufTy).Contents (Elt F) :=
  cmpi .ne (s.main_v57_2) ((b11 j s))
def b13 (j : ℕ) (s : State F) : (⟨S4x529, .i32⟩ : BufTy).Contents (Elt F) :=
  extui 32 ((b12 j s)) natLt_1_32
def b14 (j : ℕ) (s : State F) : (⟨S_, .i32⟩ : BufTy).Contents (Elt F) :=
  constantI S_ 32 0#32
def b15 (j : ℕ) (s : State F) : (⟨S4, .i32⟩ : BufTy).Contents (Elt F) :=
  Host.reduce IntOp.addi ((b13 j s)) ((b14 j s)) reducesTo_S4x529_S4_d1 h_S_
def b16 (j : ℕ) (s : State F) : (⟨S_, .i32⟩ : BufTy).Contents (Elt F) :=
  constantI S_ 32 265#32
def b17 (j : ℕ) (s : State F) : (⟨S4, .i32⟩ : BufTy).Contents (Elt F) :=
  broadcastInDim S4 ![] bcast_S_S4 ((b16 j s))
def b18 (j : ℕ) (s : State F) : (⟨S4, .i1⟩ : BufTy).Contents (Elt F) :=
  cmpi .slt ((b15 j s)) ((b17 j s))
def b19 (j : ℕ) (s : State F) : (⟨S4, .f32⟩ : BufTy).Contents (Elt F) :=
  uitofp .f32 ((b18 j s))
def b20 (j : ℕ) (s : State F) : (⟨S4x1x1, .f32⟩ : BufTy).Contents (Elt F) :=
  shapeCast S4x1x1 ((b19 j s)) shapeCasts_S4_S4x1x1
def b21 (j : ℕ) (s : State F) : (⟨S4x529x32, .f32⟩ : BufTy).Contents (Elt F) :=
  broadcastInDim S4x529x32 ![0, 1, 2] bcast_S4x529x1_S4x529x32_0_1_2 ((b9 j s))
def b22 (j : ℕ) (s : State F) : (⟨S4x529x32, .f32⟩ : BufTy).Contents (Elt F) :=
  mulf ((b4 j s)) ((b21 j s))
def b23 (j : ℕ) (s : State F) : (⟨S4x529x32, .f32⟩ : BufTy).Contents (Elt F) :=
  broadcastInDim S4x529x32 ![0, 1, 2] bcast_S4x1x1_S4x529x32_0_1_2 ((b20 j s))
def b24 (j : ℕ) (s : State F) : (⟨S4x529x32, .f32⟩ : BufTy).Contents (Elt F) :=
  mulf ((b22 j s)) ((b23 j s))
def b25 (j : ℕ) (s : State F) : (⟨S4x529x32, .i32⟩ : BufTy).Contents (Elt F) :=
  iotaInDim S4x529x32 32 2
def b26 (j : ℕ) (s : State F) : (⟨S_, .f32⟩ : BufTy).Contents (Elt F) :=
  constant S_ .f32 0xFF800000#32
def b27 (j : ℕ) (s : State F) : (⟨S_, .i32⟩ : BufTy).Contents (Elt F) :=
  constantI S_ 32 0#32
def b28 (j : ℕ) (s : State F) : (⟨S4x529, .f32⟩ : BufTy).Contents (Elt F) :=
  fun i => (Host.argReduce reducer_argmax_f32_i32 ((b24 j s)) ((b25 j s)) ((b26 j s)) ((b27 j s)) reducesTo_S4x529x32_S4x529_d2 h_S_ i).1
def b29 (j : ℕ) (s : State F) : (⟨S4x529, .i32⟩ : BufTy).Contents (Elt F) :=
  fun i => (Host.argReduce reducer_argmax_f32_i32 ((b24 j s)) ((b25 j s)) ((b26 j s)) ((b27 j s)) reducesTo_S4x529x32_S4x529_d2 h_S_ i).2
def b30 (j : ℕ) (s : State F) : (⟨S4x529x1, .i32⟩ : BufTy).Contents (Elt F) :=
  broadcastInDim S4x529x1 ![0, 1] bcast_S4x529_S4x529x1_0_1 ((b29 j s))
def b31 (j : ℕ) (s : State F) : (⟨S_, .i32⟩ : BufTy).Contents (Elt F) :=
  constantI S_ 32 0#32
def b32 (j : ℕ) (s : State F) : (⟨S4x529x1, .i32⟩ : BufTy).Contents (Elt F) :=
  broadcastInDim S4x529x1 ![] bcast_S_S4x529x1 ((b31 j s))
def b33 (j : ℕ) (s : State F) : (⟨S4x529x1, .i1⟩ : BufTy).Contents (Elt F) :=
  cmpi .slt ((b30 j s)) ((b32 j s))
def b34 (j : ℕ) (s : State F) : (⟨S_, .i32⟩ : BufTy).Contents (Elt F) :=
  constantI S_ 32 32#32
def b35 (j : ℕ) (s : State F) : (⟨S4x529x1, .i32⟩ : BufTy).Contents (Elt F) :=
  broadcastInDim S4x529x1 ![] bcast_S_S4x529x1 ((b34 j s))
def b36 (j : ℕ) (s : State F) : (⟨S4x529x1, .i32⟩ : BufTy).Contents (Elt F) :=
  addi ((b30 j s)) ((b35 j s))
def b37 (j : ℕ) (s : State F) : (⟨S4x529x1, .i32⟩ : BufTy).Contents (Elt F) :=
  select ((b33 j s)) ((b36 j s)) ((b30 j s))
def b38 (j : ℕ) (s : State F) : (⟨S4x529x1x1, .i32⟩ : BufTy).Contents (Elt F) :=
  shapeCast S4x529x1x1 ((b37 j s)) shapeCasts_S4x529x1_S4x529x1x1
def b39 (j : ℕ) (s : State F) : (⟨S1, .i32⟩ : BufTy).Contents (Elt F) :=
  constantI S1 32 31#32
def b40 (j : ℕ) (s : State F) : (⟨S_, .i32⟩ : BufTy).Contents (Elt F) :=
  constantI S_ 32 0#32
def b41 (j : ℕ) (s : State F) : (⟨S4x529x1x1, .i32⟩ : BufTy).Contents (Elt F) :=
  broadcastInDim S4x529x1x1 ![] bcast_S_S4x529x1x1 ((b40 j s))
def b42 (j : ℕ) (s : State F) : (⟨S4x529x1x1, .i1⟩ : BufTy).Contents (Elt F) :=
  cmpi .sge ((b38 j s)) ((b41 j s))
def b43 (j : ℕ) (s : State F) : (⟨S1x1x1x1, .i32⟩ : BufTy).Contents (Elt F) :=
  broadcastInDim S1x1x1x1 ![3] bcast_S1_S1x1x1x1_3 ((b39 j s))
def b44 (j : ℕ) (s : State F) : (⟨S4x529x1x1, .i32⟩ : BufTy).Contents (Elt F) :=
  broadcastInDim S4x529x1x1 ![0, 1, 2, 3] bcast_S1x1x1x1_S4x529x1x1_0_1_2_3 ((b43 j s))
def b45 (j : ℕ) (s : State F) : (⟨S4x529x1x1, .i1⟩ : BufTy).Contents (Elt F) :=
  cmpi .sle ((b38 j s)) ((b44 j s))
def b46 (j : ℕ) (s : State F) : (⟨S4x529x1x1, .i1⟩ : BufTy).Contents (Elt F) :=
  andi ((b42 j s)) ((b45 j s))
def b47 (j : ℕ) (s : State F) : (⟨S_, .i1⟩ : BufTy).Contents (Elt F) :=
  constantI S_ 1 1#1
def b48 (j : ℕ) (s : State F) : (⟨S4x529x1, .i1⟩ : BufTy).Contents (Elt F) :=
  Host.reduce IntOp.andi ((b46 j s)) ((b47 j s)) reducesTo_S4x529x1x1_S4x529x1_d3 h_S_
def b49 (j : ℕ) (s : State F) : (⟨S4x529x1, .f32⟩ : BufTy).Contents (Elt F) :=
  Host.gather gather_S4x529x32_S4x529x1x1_S4x529x1_n_2_01_01_2_3_111 ((b24 j s)) ((b38 j s))
def b50 (j : ℕ) (s : State F) : (⟨S_, .f32⟩ : BufTy).Contents (Elt F) :=
  constant S_ .f32 0x7FC00000#32
def b51 (j : ℕ) (s : State F) : (⟨S4x529x1, .f32⟩ : BufTy).Contents (Elt F) :=
  broadcastInDim S4x529x1 ![] bcast_S_S4x529x1 ((b50 j s))
def b52 (j : ℕ) (s : State F) : (⟨S4x529x1, .f32⟩ : BufTy).Contents (Elt F) :=
  select ((b48 j s)) ((b49 j s)) ((b51 j s))
def b53 (j : ℕ) (s : State F) : (⟨S_, .f32⟩ : BufTy).Contents (Elt F) :=
  constant S_ .f32 0x40ACCCCD#32
def b54 (j : ℕ) (s : State F) : (⟨S4x529x1, .f32⟩ : BufTy).Contents (Elt F) :=
  broadcastInDim S4x529x1 ![] bcast_S_S4x529x1 ((b53 j s))
def b55 (j : ℕ) (s : State F) : (⟨S4x529x1, .i1⟩ : BufTy).Contents (Elt F) :=
  cmpf .ogt ((b52 j s)) ((b54 j s))
def b56 (j : ℕ) (s : State F) : (⟨S4x529x1, .i32⟩ : BufTy).Contents (Elt F) :=
  extui 32 ((b55 j s)) natLt_1_32
def b57 (j : ℕ) (s : State F) : (⟨S4x529x1, .i32⟩ : BufTy).Contents (Elt F) :=
  broadcastInDim S4x529x1 ![0, 1] bcast_S4x529_S4x529x1_0_1 ((b29 j s))
def b58 (j : ℕ) (s : State F) : (⟨S1x1x32, .i32⟩ : BufTy).Contents (Elt F) :=
  iotaInDim S1x1x32 32 2
def b59 (j : ℕ) (s : State F) : (⟨S4x529x32, .i32⟩ : BufTy).Contents (Elt F) :=
  broadcastInDim S4x529x32 ![0, 1, 2] bcast_S4x529x1_S4x529x32_0_1_2 ((b57 j s))
def b60 (j : ℕ) (s : State F) : (⟨S4x529x32, .i32⟩ : BufTy).Contents (Elt F) :=
  broadcastInDim S4x529x32 ![0, 1, 2] bcast_S1x1x32_S4x529x32_0_1_2 ((b58 j s))
def b61 (j : ℕ) (s : State F) : (⟨S4x529x32, .i1⟩ : BufTy).Contents (Elt F) :=
  cmpi .eq ((b59 j s)) ((b60 j s))
def b62 (j : ℕ) (s : State F) : (⟨S4x529x32, .i32⟩ : BufTy).Contents (Elt F) :=
  extui 32 ((b61 j s)) natLt_1_32
def b63 (j : ℕ) (s : State F) : (⟨S4x529x32, .i32⟩ : BufTy).Contents (Elt F) :=
  broadcastInDim S4x529x32 ![0, 1, 2] bcast_S4x529x1_S4x529x32_0_1_2 ((b56 j s))
def b64 (j : ℕ) (s : State F) : (⟨S4x529x32, .i32⟩ : BufTy).Contents (Elt F) :=
  muli ((b62 j s)) ((b63 j s))
def b65 (j : ℕ) (s : State F) : (⟨S_, .i32⟩ : BufTy).Contents (Elt F) :=
  constantI S_ 32 0#32
def b66 (j : ℕ) (s : State F) : (⟨S4x529, .i32⟩ : BufTy).Contents (Elt F) :=
  Host.reduce IntOp.addi ((b64 j s)) ((b65 j s)) reducesTo_S4x529x32_S4x529_d2 h_S_
def b67 (j : ℕ) (s : State F) : (⟨S_, .i32⟩ : BufTy).Contents (Elt F) :=
  constantI S_ 32 48#32
def b68 (j : ℕ) (s : State F) : (⟨S4x529, .i32⟩ : BufTy).Contents (Elt F) :=
  broadcastInDim S4x529 ![] bcast_S_S4x529 ((b67 j s))
def b69 (j : ℕ) (s : State F) : (⟨S4x529, .i32⟩ : BufTy).Contents (Elt F) :=
  muli ((b66 j s)) ((b68 j s))
def b70 (j : ℕ) (s : State F) : (⟨S4x529, .i32⟩ : BufTy).Contents (Elt F) :=
  addi (s.main_v57_2) ((b69 j s))
def b71 (j : ℕ) (s : State F) : (⟨S_, .i32⟩ : BufTy).Contents (Elt F) :=
  constantI S_ 32 1#32
def b72 (j : ℕ) (s : State F) : (⟨S4x529, .i32⟩ : BufTy).Contents (Elt F) :=
  broadcastInDim S4x529 ![] bcast_S_S4x529 ((b71 j s))
def b73 (j : ℕ) (s : State F) : (⟨S4x529, .i32⟩ : BufTy).Contents (Elt F) :=
  subi ((b70 j s)) ((b72 j s))
def b74 (j : ℕ) (s : State F) : (⟨S_, .i32⟩ : BufTy).Contents (Elt F) :=
  constantI S_ 32 0#32
def b75 (j : ℕ) (s : State F) : (⟨S_, .i32⟩ : BufTy).Contents (Elt F) :=
  constantI S_ 32 47#32
def b76 (j : ℕ) (s : State F) : (⟨S_, .i32⟩ : BufTy).Contents (Elt F) := b74 j s
theorem b76_id (j : ℕ) (s : State F) : b76 j s = b74 j s := rfl
def b77 (j : ℕ) (s : State F) : (⟨S4x529, .i32⟩ : BufTy).Contents (Elt F) :=
  broadcastInDim S4x529 ![] bcast_S_S4x529 ((b76 j s))
def b78 (j : ℕ) (s : State F) : (⟨S4x529, .i32⟩ : BufTy).Contents (Elt F) :=
  maxsi ((b77 j s)) ((b73 j s))
def b79 (j : ℕ) (s : State F) : (⟨S_, .i32⟩ : BufTy).Contents (Elt F) := b75 j s
theorem b79_id (j : ℕ) (s : State F) : b79 j s = b75 j s := rfl
def b80 (j : ℕ) (s : State F) : (⟨S4x529, .i32⟩ : BufTy).Contents (Elt F) :=
  broadcastInDim S4x529 ![] bcast_S_S4x529 ((b79 j s))
def b81 (j : ℕ) (s : State F) : (⟨S4x529, .i32⟩ : BufTy).Contents (Elt F) :=
  minsi ((b80 j s)) ((b78 j s))
def b82 (j : ℕ) (s : State F) : (⟨S4x529x32, .f32⟩ : BufTy).Contents (Elt F) :=
  sitofp .f32 ((b64 j s))
def b83 (j : ℕ) (s : State F) : (⟨S1x4x529x32, .f32⟩ : BufTy).Contents (Elt F) :=
  broadcastInDim S1x4x529x32 ![1, 2, 3] bcast_S4x529x32_S1x4x529x32_1_2_3 ((b82 j s))
def b84 (j : ℕ) (s : State F) : (⟨S_, .i32⟩ : BufTy).Contents (Elt F) :=
  constantI S_ 32 0#32
def b85 (j : ℕ) (s : State F) : (⟨S_, .i32⟩ : BufTy).Contents (Elt F) :=
  constantI S_ 32 0#32
def b86 (j : ℕ) (s : State F) : (⟨S_, .i32⟩ : BufTy).Contents (Elt F) :=
  constantI S_ 32 0#32
def b87 (j : ℕ) (s : State F) : (⟨S97x4x529x32, .f32⟩ : BufTy).Contents (Elt F) :=
  Host.dynamicUpdateSlice (s.main_v57_3) ((b83 j s)) (fun k => (((![(constantI S_ 32 (BitVec.ofNat 32 j) : (⟨S_, .i32⟩ : BufTy).Contents (Elt F)), (b84 j s), (b85 j s), (b86 j s)] : Fin 4 → (⟨S_, .i32⟩ : BufTy).Contents (Elt F))) k (Shape.Idx.first h_S_)).toInt) updateFits_S97x4x529x32_S1x4x529x32

/-- The state @main hands the first trip, of the arguments it copies in or computes from. -/
def init (main_arg0 : (⟨S4x2x48x48x48, .f32⟩ : BufTy).Contents (Elt F)) (main_arg1 : (⟨S32x2x3x3, .f32⟩ : BufTy).Contents (Elt F)) (main_arg2 : (⟨S32, .f32⟩ : BufTy).Contents (Elt F)) : State F :=
  { main_v57_2 := K_main_v55 (F := F), main_v57_3 := K_main_v56 (F := F), main_v57_0 := A_main_v54 main_arg0 main_arg1 main_arg2 }

/-- One trip. -/
def step (j : ℕ) (s : State F) : State F :=
  { main_v57_2 := b81 j s, main_v57_3 := b87 j s, main_v57_0 := s.main_v57_0 }

/-- `main_v59`, which the operations after the loop make, of the loop's last state. -/
def R_main_v59 (s : State F) : (⟨S4x32x23x23x97, .f32⟩ : BufTy).Contents (Elt F) :=
  shapeCast _ (transpose S4x32x529x97 [1, 3, 2, 0] (s.main_v57_3) transposes_S97x4x529x32_S4x32x529x97_1_3_2_0) shapeCasts_S4x32x529x97_S4x32x23x23x97

end Cert.ReferenceIdeal.Step

end
-- ==== Proof.RefStepRun.lean ====
/- The reference's run over its step: contents that hold a state hold the next one after a trip, what the operations before the
   loop leave holds the first state, and so the result is a field of the 97th state. -/
module

public import proofs.«01_k».proof.Proof.RefTrip
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_2 : V0 (Proc.devRef .tc main_v57_2) = s.main_v57_2
  f_3 : V0 (Proc.devRef .tc main_v57_3) = s.main_v57_3
  f_0 : V0 (Proc.devRef .tc main_v57_0) = s.main_v57_0
  n_1 : V0 (Proc.devRef .tc main_v57_1) = constantI S_ 32 (BitVec.ofNat 32 j)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call5_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x529x32 (V0 (Proc.devRef .tc main_v57_0)) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) sliceFits_S97x4x529x32_S1x4x529x32 : (Proc.devRef .tc main_while0b_call5_v0 : DevRef τ sig).ty.Contents (Elt F)) = Cert.ReferenceIdeal.Step.b3 j s := by
  unfold Cert.ReferenceIdeal.Step.b3
  rw [← al_0 h, ← al_1 h, ← al_2 h, h.f_0, h.n_1]
  try rfl
set_option maxRecDepth 8192 in
theorem al_4 (h : Holds V0 s j) : (shapeCast S4x529x32 (Host.dynamicSlice S1x4x529x32 (V0 (Proc.devRef .tc main_v57_0)) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) sliceFits_S97x4x529x32_S1x4x529x32) shapeCasts_S1x4x529x32_S4x529x32 : (Proc.devRef .tc main_while0b_v60 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_c_11 : DevRef τ sig).ty.Contents (Elt F)) = Cert.ReferenceIdeal.Step.b5 j s := by
  unfold Cert.ReferenceIdeal.Step.b5
  rfl
set_option maxRecDepth 8192 in
theorem al_6 (h : Holds V0 s j) : (broadcastInDim S4x529 ![] bcast_S_S4x529 (constantI S_ 32 0#32) : (Proc.devRef .tc main_while0b_v61 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (cmpi .eq (V0 (Proc.devRef .tc main_v57_2)) (broadcastInDim S4x529 ![] bcast_S_S4x529 (constantI S_ 32 0#32)) : (Proc.devRef .tc main_while0b_v62 : DevRef τ sig).ty.Contents (Elt F)) = Cert.ReferenceIdeal.Step.b7 j s := by
  unfold Cert.ReferenceIdeal.Step.b7
  rw [← al_6 h, h.f_2]
  try rfl
set_option maxRecDepth 8192 in
theorem al_8 (h : Holds V0 s j) : (uitofp .f32 (cmpi .eq (V0 (Proc.devRef .tc main_v57_2)) (broadcastInDim S4x529 ![] bcast_S_S4x529 (constantI S_ 32 0#32))) : (Proc.devRef .tc main_while0b_v63 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (broadcastInDim S4x529x1 ![0, 1] bcast_S4x529_S4x529x1_0_1 (uitofp .f32 (cmpi .eq (V0 (Proc.devRef .tc main_v57_2)) (broadcastInDim S4x529 ![] bcast_S_S4x529 (constantI S_ 32 0#32)))) : (Proc.devRef .tc main_while0b_v64 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_c_12 : DevRef τ sig).ty.Contents (Elt F)) = Cert.ReferenceIdeal.Step.b10 j s := by
  unfold Cert.ReferenceIdeal.Step.b10
  rfl
set_option maxRecDepth 8192 in
theorem al_11 (h : Holds V0 s j) : (broadcastInDim S4x529 ![] bcast_S_S4x529 (constantI S_ 32 0#32) : (Proc.devRef .tc main_while0b_v65 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (cmpi .ne (V0 (Proc.devRef .tc main_v57_2)) (broadcastInDim S4x529 ![] bcast_S_S4x529 (constantI S_ 32 0#32)) : (Proc.devRef .tc main_while0b_v66 : DevRef τ sig).ty.Contents (Elt F)) = Cert.ReferenceIdeal.Step.b12 j s := by
  unfold Cert.ReferenceIdeal.Step.b12
  rw [← al_11 h, h.f_2]
  try rfl
set_option maxRecDepth 8192 in
theorem al_13 (h : Holds V0 s j) : (extui 32 (cmpi .ne (V0 (Proc.devRef .tc main_v57_2)) (broadcastInDim S4x529 ![] bcast_S_S4x529 (constantI S_ 32 0#32))) natLt_1_32 : (Proc.devRef .tc main_while0b_v67 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_c_13 : DevRef τ sig).ty.Contents (Elt F)) = Cert.ReferenceIdeal.Step.b14 j s := by
  unfold Cert.ReferenceIdeal.Step.b14
  rfl
set_option maxRecDepth 8192 in
theorem al_15 (h : Holds V0 s j) : (Host.reduce IntOp.addi (extui 32 (cmpi .ne (V0 (Proc.devRef .tc main_v57_2)) (broadcastInDim S4x529 ![] bcast_S_S4x529 (constantI S_ 32 0#32))) natLt_1_32) (constantI S_ 32 0#32) reducesTo_S4x529_S4_d1 h_S_ : (Proc.devRef .tc main_while0b_v68 : DevRef τ sig).ty.Contents (Elt F)) = Cert.ReferenceIdeal.Step.b15 j s := by
  unfold Cert.ReferenceIdeal.Step.b15
  rw [← al_13 h, ← al_14 h]
  try rfl
set_option maxRecDepth 8192 in
theorem al_16 (h : Holds V0 s j) : (constantI S_ 32 265#32 : (Proc.devRef .tc main_while0b_c_14 : DevRef τ sig).ty.Contents (Elt F)) = Cert.ReferenceIdeal.Step.b16 j s := by
  unfold Cert.ReferenceIdeal.Step.b16
  rfl
set_option maxRecDepth 8192 in
theorem al_17 (h : Holds V0 s j) : (broadcastInDim S4 ![] bcast_S_S4 (constantI S_ 32 265#32) : (Proc.devRef .tc main_while0b_v69 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (cmpi .slt (Host.reduce IntOp.addi (extui 32 (cmpi .ne (V0 (Proc.devRef .tc main_v57_2)) (broadcastInDim S4x529 ![] bcast_S_S4x529 (constantI S_ 32 0#32))) natLt_1_32) (constantI S_ 32 0#32) reducesTo_S4x529_S4_d1 h_S_) (broadcastInDim S4 ![] bcast_S_S4 (constantI S_ 32 265#32)) : (Proc.devRef .tc main_while0b_v70 : DevRef τ sig).ty.Contents (Elt F)) = Cert.ReferenceIdeal.Step.b18 j s := by
  unfold Cert.ReferenceIdeal.Step.b18
  rw [← al_15 h, ← al_17 h]
  try rfl
set_option maxRecDepth 8192 in
theorem al_19 (h : Holds V0 s j) : (uitofp .f32 (cmpi .slt (Host.reduce IntOp.addi (extui 32 (cmpi .ne (V0 (Proc.devRef .tc main_v57_2)) (broadcastInDim S4x529 ![] bcast_S_S4x529 (constantI S_ 32 0#32))) natLt_1_32) (constantI S_ 32 0#32) reducesTo_S4x529_S4_d1 h_S_) (broadcastInDim S4 ![] bcast_S_S4 (constantI S_ 32 265#32))) : (Proc.devRef .tc main_while0b_v71 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (shapeCast S4x1x1 (uitofp .f32 (cmpi .slt (Host.reduce IntOp.addi (extui 32 (cmpi .ne (V0 (Proc.devRef .tc main_v57_2)) (broadcastInDim S4x529 ![] bcast_S_S4x529 (constantI S_ 32 0#32))) natLt_1_32) (constantI S_ 32 0#32) reducesTo_S4x529_S4_d1 h_S_) (broadcastInDim S4 ![] bcast_S_S4 (constantI S_ 32 265#32)))) shapeCasts_S4_S4x1x1 : (Proc.devRef .tc main_while0b_v72 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (broadcastInDim S4x529x32 ![0, 1, 2] bcast_S4x529x1_S4x529x32_0_1_2 (broadcastInDim S4x529x1 ![0, 1] bcast_S4x529_S4x529x1_0_1 (uitofp .f32 (cmpi .eq (V0 (Proc.devRef .tc main_v57_2)) (broadcastInDim S4x529 ![] bcast_S_S4x529 (constantI S_ 32 0#32))))) : (Proc.devRef .tc main_while0b_v73 : DevRef τ sig).ty.Contents (Elt F)) = Cert.ReferenceIdeal.Step.b21 j s := by
  unfold Cert.ReferenceIdeal.Step.b21
  rw [← al_9 h]
  try rfl
set_option maxRecDepth 8192 in
theorem al_22 (h : Holds V0 s j) : (mulf (shapeCast S4x529x32 (Host.dynamicSlice S1x4x529x32 (V0 (Proc.devRef .tc main_v57_0)) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) sliceFits_S97x4x529x32_S1x4x529x32) shapeCasts_S1x4x529x32_S4x529x32) (broadcastInDim S4x529x32 ![0, 1, 2] bcast_S4x529x1_S4x529x32_0_1_2 (broadcastInDim S4x529x1 ![0, 1] bcast_S4x529_S4x529x1_0_1 (uitofp .f32 (cmpi .eq (V0 (Proc.devRef .tc main_v57_2)) (broadcastInDim S4x529 ![] bcast_S_S4x529 (constantI S_ 32 0#32)))))) : (Proc.devRef .tc main_while0b_v74 : DevRef τ sig).ty.Contents (Elt F)) = Cert.ReferenceIdeal.Step.b22 j s := by
  unfold Cert.ReferenceIdeal.Step.b22
  rw [← al_4 h, ← al_21 h]
  try rfl
set_option maxRecDepth 8192 in
theorem al_23 (h : Holds V0 s j) : (broadcastInDim S4x529x32 ![0, 1, 2] bcast_S4x1x1_S4x529x32_0_1_2 (shapeCast S4x1x1 (uitofp .f32 (cmpi .slt (Host.reduce IntOp.addi (extui 32 (cmpi .ne (V0 (Proc.devRef .tc main_v57_2)) (broadcastInDim S4x529 ![] bcast_S_S4x529 (constantI S_ 32 0#32))) natLt_1_32) (constantI S_ 32 0#32) reducesTo_S4x529_S4_d1 h_S_) (broadcastInDim S4 ![] bcast_S_S4 (constantI S_ 32 265#32)))) shapeCasts_S4_S4x1x1) : (Proc.devRef .tc main_while0b_v75 : DevRef τ sig).ty.Contents (Elt F)) = Cert.ReferenceIdeal.Step.b23 j s := by
  unfold Cert.ReferenceIdeal.Step.b23
  rw [← al_20 h]
  try rfl
set_option maxRecDepth 8192 in
theorem al_24 (h : Holds V0 s j) : (res_main_while0b_v76 V0 : (Proc.devRef .tc main_while0b_v76 : DevRef τ sig).ty.Contents (Elt F)) = Cert.ReferenceIdeal.Step.b24 j s := by
  unfold res_main_while0b_v76 Cert.ReferenceIdeal.Step.b24
  rw [← al_22 h, ← al_23 h]
  try rfl
set_option maxRecDepth 8192 in
theorem al_25 (h : Holds V0 s j) : (res_main_while0b_call6_v0 V0 : (Proc.devRef .tc main_while0b_call6_v0 : DevRef τ sig).ty.Contents (Elt F)) = Cert.ReferenceIdeal.Step.b25 j s := by
  unfold res_main_while0b_call6_v0 Cert.ReferenceIdeal.Step.b25
  rfl
set_option maxRecDepth 8192 in
theorem al_26 (h : Holds V0 s j) : (res_main_while0b_call6_cst V0 : (Proc.devRef .tc main_while0b_call6_cst : DevRef τ sig).ty.Contents (Elt F)) = Cert.ReferenceIdeal.Step.b26 j s := by
  unfold res_main_while0b_call6_cst Cert.ReferenceIdeal.Step.b26
  rfl
set_option maxRecDepth 8192 in
theorem al_27 (h : Holds V0 s j) : (res_main_while0b_call6_c V0 : (Proc.devRef .tc main_while0b_call6_c : DevRef τ sig).ty.Contents (Elt F)) = Cert.ReferenceIdeal.Step.b27 j s := by
  unfold res_main_while0b_call6_c Cert.ReferenceIdeal.Step.b27
  rfl
set_option maxRecDepth 8192 in
theorem al_28 (h : Holds V0 s j) : (fun j => (Host.argReduce reducer_argmax_f32_i32 (res_main_while0b_v76 V0) (res_main_while0b_call6_v0 V0) (res_main_while0b_call6_cst V0) (res_main_while0b_call6_c V0) reducesTo_S4x529x32_S4x529_d2 h_S_ j).1 : (Proc.devRef .tc main_while0b_call6_v1_0 : DevRef τ sig).ty.Contents (Elt F)) = Cert.ReferenceIdeal.Step.b28 j s := by
  unfold Cert.ReferenceIdeal.Step.b28
  rw [← al_24 h, ← al_25 h, ← al_26 h, ← al_27 h]
  try rfl
set_option maxRecDepth 8192 in
theorem al_29 (h : Holds V0 s j) : (res_main_while0b_v77 V0 : (Proc.devRef .tc main_while0b_v77 : DevRef τ sig).ty.Contents (Elt F)) = Cert.ReferenceIdeal.Step.b29 j s := by
  unfold res_main_while0b_v77 Cert.ReferenceIdeal.Step.b29
  rw [← al_24 h, ← al_25 h, ← al_26 h, ← al_27 h]
  try rfl
set_option maxRecDepth 8192 in
theorem al_30 (h : Holds V0 s j) : (res_main_while0b_v78 V0 : (Proc.devRef .tc main_while0b_v78 : DevRef τ sig).ty.Contents (Elt F)) = Cert.ReferenceIdeal.Step.b30 j s := by
  unfold res_main_while0b_v78 Cert.ReferenceIdeal.Step.b30
  rw [← al_29 h]
  try rfl
set_option maxRecDepth 8192 in
theorem al_31 (h : Holds V0 s j) : (constantI S_ 32 0#32 : (Proc.devRef .tc main_while0b_call7_c : DevRef τ sig).ty.Contents (Elt F)) = Cert.ReferenceIdeal.Step.b31 j s := by
  unfold Cert.ReferenceIdeal.Step.b31
  rfl
set_option maxRecDepth 8192 in
theorem al_32 (h : Holds V0 s j) : (broadcastInDim S4x529x1 ![] bcast_S_S4x529x1 (constantI S_ 32 0#32) : (Proc.devRef .tc main_while0b_call7_v0 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (cmpi .slt (res_main_while0b_v78 V0) (broadcastInDim S4x529x1 ![] bcast_S_S4x529x1 (constantI S_ 32 0#32)) : (Proc.devRef .tc main_while0b_call7_v1 : DevRef τ sig).ty.Contents (Elt F)) = Cert.ReferenceIdeal.Step.b33 j s := by
  unfold Cert.ReferenceIdeal.Step.b33
  rw [← al_30 h, ← al_32 h]
  try rfl
set_option maxRecDepth 8192 in
theorem al_34 (h : Holds V0 s j) : (constantI S_ 32 32#32 : (Proc.devRef .tc main_while0b_call7_c_0 : DevRef τ sig).ty.Contents (Elt F)) = Cert.ReferenceIdeal.Step.b34 j s := by
  unfold Cert.ReferenceIdeal.Step.b34
  rfl
set_option maxRecDepth 8192 in
theorem al_35 (h : Holds V0 s j) : (broadcastInDim S4x529x1 ![] bcast_S_S4x529x1 (constantI S_ 32 32#32) : (Proc.devRef .tc main_while0b_call7_v2 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (addi (res_main_while0b_v78 V0) (broadcastInDim S4x529x1 ![] bcast_S_S4x529x1 (constantI S_ 32 32#32)) : (Proc.devRef .tc main_while0b_call7_v3 : DevRef τ sig).ty.Contents (Elt F)) = Cert.ReferenceIdeal.Step.b36 j s := by
  unfold Cert.ReferenceIdeal.Step.b36
  rw [← al_30 h, ← al_35 h]
  try rfl
set_option maxRecDepth 8192 in
theorem al_37 (h : Holds V0 s j) : (select (cmpi .slt (res_main_while0b_v78 V0) (broadcastInDim S4x529x1 ![] bcast_S_S4x529x1 (constantI S_ 32 0#32))) (addi (res_main_while0b_v78 V0) (broadcastInDim S4x529x1 ![] bcast_S_S4x529x1 (constantI S_ 32 32#32))) (res_main_while0b_v78 V0) : (Proc.devRef .tc main_while0b_call7_v4 : DevRef τ sig).ty.Contents (Elt F)) = Cert.ReferenceIdeal.Step.b37 j s := by
  unfold Cert.ReferenceIdeal.Step.b37
  rw [← al_33 h, ← al_36 h, ← al_30 h]
  try rfl
set_option maxRecDepth 8192 in
theorem al_38 (h : Holds V0 s j) : (res_main_while0b_call7_v5 V0 : (Proc.devRef .tc main_while0b_call7_v5 : DevRef τ sig).ty.Contents (Elt F)) = Cert.ReferenceIdeal.Step.b38 j s := by
  unfold res_main_while0b_call7_v5 Cert.ReferenceIdeal.Step.b38
  rw [← al_37 h]
  try rfl
set_option maxRecDepth 8192 in
theorem al_39 (h : Holds V0 s j) : (constantI S1 32 31#32 : (Proc.devRef .tc main_while0b_call7_c_1 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call7_c_2 : DevRef τ sig).ty.Contents (Elt F)) = Cert.ReferenceIdeal.Step.b40 j s := by
  unfold Cert.ReferenceIdeal.Step.b40
  rfl
set_option maxRecDepth 8192 in
theorem al_41 (h : Holds V0 s j) : (broadcastInDim S4x529x1x1 ![] bcast_S_S4x529x1x1 (constantI S_ 32 0#32) : (Proc.devRef .tc main_while0b_call7_v6 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (cmpi .sge (res_main_while0b_call7_v5 V0) (broadcastInDim S4x529x1x1 ![] bcast_S_S4x529x1x1 (constantI S_ 32 0#32)) : (Proc.devRef .tc main_while0b_call7_v7 : DevRef τ sig).ty.Contents (Elt F)) = Cert.ReferenceIdeal.Step.b42 j s := by
  unfold Cert.ReferenceIdeal.Step.b42
  rw [← al_38 h, ← al_41 h]
  try rfl
set_option maxRecDepth 8192 in
theorem al_43 (h : Holds V0 s j) : (broadcastInDim S1x1x1x1 ![3] bcast_S1_S1x1x1x1_3 (constantI S1 32 31#32) : (Proc.devRef .tc main_while0b_call7_v8 : DevRef τ sig).ty.Contents (Elt F)) = Cert.ReferenceIdeal.Step.b43 j s := by
  unfold Cert.ReferenceIdeal.Step.b43
  rw [← al_39 h]
  try rfl
set_option maxRecDepth 8192 in
theorem al_44 (h : Holds V0 s j) : (broadcastInDim S4x529x1x1 ![0, 1, 2, 3] bcast_S1x1x1x1_S4x529x1x1_0_1_2_3 (broadcastInDim S1x1x1x1 ![3] bcast_S1_S1x1x1x1_3 (constantI S1 32 31#32)) : (Proc.devRef .tc main_while0b_call7_v9 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))) : (Proc.devRef .tc main_while0b_call7_v10 : DevRef τ sig).ty.Contents (Elt F)) = Cert.ReferenceIdeal.Step.b45 j s := by
  unfold Cert.ReferenceIdeal.Step.b45
  rw [← al_38 h, ← al_44 h]
  try rfl
set_option maxRecDepth 8192 in
theorem al_46 (h : Holds V0 s j) : (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32)))) : (Proc.devRef .tc main_while0b_call7_v11 : DevRef τ sig).ty.Contents (Elt F)) = Cert.ReferenceIdeal.Step.b46 j s := by
  unfold Cert.ReferenceIdeal.Step.b46
  rw [← al_42 h, ← al_45 h]
  try rfl
set_option maxRecDepth 8192 in
theorem al_47 (h : Holds V0 s j) : (constantI S_ 1 1#1 : (Proc.devRef .tc main_while0b_call7_c_3 : DevRef τ sig).ty.Contents (Elt F)) = Cert.ReferenceIdeal.Step.b47 j s := by
  unfold Cert.ReferenceIdeal.Step.b47
  rfl
set_option maxRecDepth 8192 in
theorem al_48 (h : Holds V0 s j) : (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_ : (Proc.devRef .tc main_while0b_call7_v12 : DevRef τ sig).ty.Contents (Elt F)) = Cert.ReferenceIdeal.Step.b48 j s := by
  unfold Cert.ReferenceIdeal.Step.b48
  rw [← al_46 h, ← al_47 h]
  try rfl
set_option maxRecDepth 8192 in
theorem al_49 (h : Holds V0 s j) : (Host.gather gather_S4x529x32_S4x529x1x1_S4x529x1_n_2_01_01_2_3_111 (res_main_while0b_v76 V0) (res_main_while0b_call7_v5 V0) : (Proc.devRef .tc main_while0b_call7_v13 : DevRef τ sig).ty.Contents (Elt F)) = Cert.ReferenceIdeal.Step.b49 j s := by
  unfold Cert.ReferenceIdeal.Step.b49
  rw [← al_24 h, ← al_38 h]
  try rfl
set_option maxRecDepth 8192 in
theorem al_50 (h : Holds V0 s j) : (constant S_ .f32 0x7FC00000#32 : (Proc.devRef .tc main_while0b_call7_cst : DevRef τ sig).ty.Contents (Elt F)) = Cert.ReferenceIdeal.Step.b50 j s := by
  unfold Cert.ReferenceIdeal.Step.b50
  rfl
set_option maxRecDepth 8192 in
theorem al_51 (h : Holds V0 s j) : (broadcastInDim S4x529x1 ![] bcast_S_S4x529x1 (constant S_ .f32 0x7FC00000#32) : (Proc.devRef .tc main_while0b_call7_v14 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32)) : (Proc.devRef .tc main_while0b_v79 : DevRef τ sig).ty.Contents (Elt F)) = Cert.ReferenceIdeal.Step.b52 j s := by
  unfold Cert.ReferenceIdeal.Step.b52
  rw [← al_48 h, ← al_49 h, ← al_51 h]
  try rfl
set_option maxRecDepth 8192 in
theorem al_53 (h : Holds V0 s j) : (constant S_ .f32 0x40ACCCCD#32 : (Proc.devRef .tc main_while0b_cst_15 : DevRef τ sig).ty.Contents (Elt F)) = Cert.ReferenceIdeal.Step.b53 j s := by
  unfold Cert.ReferenceIdeal.Step.b53
  rfl
set_option maxRecDepth 8192 in
theorem al_54 (h : Holds V0 s j) : (broadcastInDim S4x529x1 ![] bcast_S_S4x529x1 (constant S_ .f32 0x40ACCCCD#32) : (Proc.devRef .tc main_while0b_v80 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (cmpf .ogt (select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32))) (broadcastInDim S4x529x1 ![] bcast_S_S4x529x1 (constant S_ .f32 0x40ACCCCD#32)) : (Proc.devRef .tc main_while0b_v81 : DevRef τ sig).ty.Contents (Elt F)) = Cert.ReferenceIdeal.Step.b55 j s := by
  unfold Cert.ReferenceIdeal.Step.b55
  rw [← al_52 h, ← al_54 h]
  try rfl
set_option maxRecDepth 8192 in
theorem al_56 (h : Holds V0 s j) : (extui 32 (cmpf .ogt (select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32))) (broadcastInDim S4x529x1 ![] bcast_S_S4x529x1 (constant S_ .f32 0x40ACCCCD#32))) natLt_1_32 : (Proc.devRef .tc main_while0b_v82 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (broadcastInDim S4x529x1 ![0, 1] bcast_S4x529_S4x529x1_0_1 (res_main_while0b_v77 V0) : (Proc.devRef .tc main_while0b_call8_v0 : DevRef τ sig).ty.Contents (Elt F)) = Cert.ReferenceIdeal.Step.b57 j s := by
  unfold Cert.ReferenceIdeal.Step.b57
  rw [← al_29 h]
  try rfl
set_option maxRecDepth 8192 in
theorem al_58 (h : Holds V0 s j) : (iotaInDim S1x1x32 32 2 : (Proc.devRef .tc main_while0b_call8_v1 : DevRef τ sig).ty.Contents (Elt F)) = Cert.ReferenceIdeal.Step.b58 j s := by
  unfold Cert.ReferenceIdeal.Step.b58
  rfl
set_option maxRecDepth 8192 in
theorem al_59 (h : Holds V0 s j) : (broadcastInDim S4x529x32 ![0, 1, 2] bcast_S4x529x1_S4x529x32_0_1_2 (broadcastInDim S4x529x1 ![0, 1] bcast_S4x529_S4x529x1_0_1 (res_main_while0b_v77 V0)) : (Proc.devRef .tc main_while0b_call8_v2 : DevRef τ sig).ty.Contents (Elt F)) = Cert.ReferenceIdeal.Step.b59 j s := by
  unfold Cert.ReferenceIdeal.Step.b59
  rw [← al_57 h]
  try rfl
set_option maxRecDepth 8192 in
theorem al_60 (h : Holds V0 s j) : (broadcastInDim S4x529x32 ![0, 1, 2] bcast_S1x1x32_S4x529x32_0_1_2 (iotaInDim S1x1x32 32 2) : (Proc.devRef .tc main_while0b_call8_v3 : DevRef τ sig).ty.Contents (Elt F)) = Cert.ReferenceIdeal.Step.b60 j s := by
  unfold Cert.ReferenceIdeal.Step.b60
  rw [← al_58 h]
  try rfl
set_option maxRecDepth 8192 in
theorem al_61 (h : Holds V0 s j) : (cmpi .eq (broadcastInDim S4x529x32 ![0, 1, 2] bcast_S4x529x1_S4x529x32_0_1_2 (broadcastInDim S4x529x1 ![0, 1] bcast_S4x529_S4x529x1_0_1 (res_main_while0b_v77 V0))) (broadcastInDim S4x529x32 ![0, 1, 2] bcast_S1x1x32_S4x529x32_0_1_2 (iotaInDim S1x1x32 32 2)) : (Proc.devRef .tc main_while0b_call8_v4 : DevRef τ sig).ty.Contents (Elt F)) = Cert.ReferenceIdeal.Step.b61 j s := by
  unfold Cert.ReferenceIdeal.Step.b61
  rw [← al_59 h, ← al_60 h]
  try rfl
set_option maxRecDepth 8192 in
theorem al_62 (h : Holds V0 s j) : (extui 32 (cmpi .eq (broadcastInDim S4x529x32 ![0, 1, 2] bcast_S4x529x1_S4x529x32_0_1_2 (broadcastInDim S4x529x1 ![0, 1] bcast_S4x529_S4x529x1_0_1 (res_main_while0b_v77 V0))) (broadcastInDim S4x529x32 ![0, 1, 2] bcast_S1x1x32_S4x529x32_0_1_2 (iotaInDim S1x1x32 32 2))) natLt_1_32 : (Proc.devRef .tc main_while0b_v83 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (broadcastInDim S4x529x32 ![0, 1, 2] bcast_S4x529x1_S4x529x32_0_1_2 (extui 32 (cmpf .ogt (select (Host.reduce IntOp.andi (andi (cmpi .sge (res_main_while0b_call7_v5 V0) (broadcastInDim S4x529x1x1 ![] bcast_S_S4x529x1x1 (constantI S_ 32 0#32))) (cmpi .sle (res_main_while0b_call7_v5 V0) (broadcastInDim S4x529x1x1 ![0, 1, 2, 3] bcast_S1x1x1x1_S4x529x1x1_0_1_2_3 (broadcastInDim S1x1x1x1 ![3] bcast_S1_S1x1x1x1_3 (constantI S1 32 31#32))))) (constantI S_ 1 1#1) reducesTo_S4x529x1x1_S4x529x1_d3 h_S_) (Host.gather gather_S4x529x32_S4x529x1x1_S4x529x1_n_2_01_01_2_3_111 (res_main_while0b_v76 V0) (res_main_while0b_call7_v5 V0)) (broadcastInDim S4x529x1 ![] bcast_S_S4x529x1 (constant S_ .f32 0x7FC00000#32))) (broadcastInDim S4x529x1 ![] bcast_S_S4x529x1 (constant S_ .f32 0x40ACCCCD#32))) natLt_1_32) : (Proc.devRef .tc main_while0b_v84 : DevRef τ sig).ty.Contents (Elt F)) = Cert.ReferenceIdeal.Step.b63 j s := by
  unfold Cert.ReferenceIdeal.Step.b63
  rw [← al_56 h]
  try rfl
set_option maxRecDepth 8192 in
theorem al_64 (h : Holds V0 s j) : (res_main_while0b_v85 V0 : (Proc.devRef .tc main_while0b_v85 : DevRef τ sig).ty.Contents (Elt F)) = Cert.ReferenceIdeal.Step.b64 j s := by
  unfold res_main_while0b_v85 Cert.ReferenceIdeal.Step.b64
  rw [← al_62 h, ← al_63 h]
  try rfl
set_option maxRecDepth 8192 in
theorem al_65 (h : Holds V0 s j) : (constantI S_ 32 0#32 : (Proc.devRef .tc main_while0b_c_16 : DevRef τ sig).ty.Contents (Elt F)) = Cert.ReferenceIdeal.Step.b65 j s := by
  unfold Cert.ReferenceIdeal.Step.b65
  rfl
set_option maxRecDepth 8192 in
theorem al_66 (h : Holds V0 s j) : (Host.reduce IntOp.addi (res_main_while0b_v85 V0) (constantI S_ 32 0#32) reducesTo_S4x529x32_S4x529_d2 h_S_ : (Proc.devRef .tc main_while0b_v86 : DevRef τ sig).ty.Contents (Elt F)) = Cert.ReferenceIdeal.Step.b66 j s := by
  unfold Cert.ReferenceIdeal.Step.b66
  rw [← al_64 h, ← al_65 h]
  try rfl
set_option maxRecDepth 8192 in
theorem al_67 (h : Holds V0 s j) : (constantI S_ 32 48#32 : (Proc.devRef .tc main_while0b_c_17 : DevRef τ sig).ty.Contents (Elt F)) = Cert.ReferenceIdeal.Step.b67 j s := by
  unfold Cert.ReferenceIdeal.Step.b67
  rfl
set_option maxRecDepth 8192 in
theorem al_68 (h : Holds V0 s j) : (broadcastInDim S4x529 ![] bcast_S_S4x529 (constantI S_ 32 48#32) : (Proc.devRef .tc main_while0b_v87 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (muli (Host.reduce IntOp.addi (res_main_while0b_v85 V0) (constantI S_ 32 0#32) reducesTo_S4x529x32_S4x529_d2 h_S_) (broadcastInDim S4x529 ![] bcast_S_S4x529 (constantI S_ 32 48#32)) : (Proc.devRef .tc main_while0b_v88 : DevRef τ sig).ty.Contents (Elt F)) = Cert.ReferenceIdeal.Step.b69 j s := by
  unfold Cert.ReferenceIdeal.Step.b69
  rw [← al_66 h, ← al_68 h]
  try rfl
set_option maxRecDepth 8192 in
theorem al_70 (h : Holds V0 s j) : (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32))) : (Proc.devRef .tc main_while0b_v89 : DevRef τ sig).ty.Contents (Elt F)) = Cert.ReferenceIdeal.Step.b70 j s := by
  unfold Cert.ReferenceIdeal.Step.b70
  rw [← al_69 h, h.f_2]
  try rfl
set_option maxRecDepth 8192 in
theorem al_71 (h : Holds V0 s j) : (constantI S_ 32 1#32 : (Proc.devRef .tc main_while0b_c_18 : DevRef τ sig).ty.Contents (Elt F)) = Cert.ReferenceIdeal.Step.b71 j s := by
  unfold Cert.ReferenceIdeal.Step.b71
  rfl
set_option maxRecDepth 8192 in
theorem al_72 (h : Holds V0 s j) : (broadcastInDim S4x529 ![] bcast_S_S4x529 (constantI S_ 32 1#32) : (Proc.devRef .tc main_while0b_v90 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)) : (Proc.devRef .tc main_while0b_v91 : DevRef τ sig).ty.Contents (Elt F)) = Cert.ReferenceIdeal.Step.b73 j s := by
  unfold Cert.ReferenceIdeal.Step.b73
  rw [← al_70 h, ← al_72 h]
  try rfl
set_option maxRecDepth 8192 in
theorem al_74 (h : Holds V0 s j) : (constantI S_ 32 0#32 : (Proc.devRef .tc main_while0b_c_19 : DevRef τ sig).ty.Contents (Elt F)) = Cert.ReferenceIdeal.Step.b74 j s := by
  unfold Cert.ReferenceIdeal.Step.b74
  rfl
set_option maxRecDepth 8192 in
theorem al_75 (h : Holds V0 s j) : (constantI S_ 32 47#32 : (Proc.devRef .tc main_while0b_c_20 : DevRef τ sig).ty.Contents (Elt F)) = Cert.ReferenceIdeal.Step.b75 j s := by
  unfold Cert.ReferenceIdeal.Step.b75
  rfl
set_option maxRecDepth 8192 in
theorem al_76 (h : Holds V0 s j) : (id (constantI S_ 32 0#32) : (Proc.devRef .tc main_while0b_call9_v0 : DevRef τ sig).ty.Contents (Elt F)) = Cert.ReferenceIdeal.Step.b76 j s := by
  unfold Cert.ReferenceIdeal.Step.b76
  rw [← al_74 h]
  try rfl
set_option maxRecDepth 8192 in
theorem al_77 (h : Holds V0 s j) : (broadcastInDim S4x529 ![] bcast_S_S4x529 (id (constantI S_ 32 0#32)) : (Proc.devRef .tc main_while0b_call9_v1 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32))) : (Proc.devRef .tc main_while0b_call9_v2 : DevRef τ sig).ty.Contents (Elt F)) = Cert.ReferenceIdeal.Step.b78 j s := by
  unfold Cert.ReferenceIdeal.Step.b78
  rw [← al_77 h, ← al_73 h]
  try rfl
set_option maxRecDepth 8192 in
theorem al_79 (h : Holds V0 s j) : (id (constantI S_ 32 47#32) : (Proc.devRef .tc main_while0b_call9_v3 : DevRef τ sig).ty.Contents (Elt F)) = Cert.ReferenceIdeal.Step.b79 j s := by
  unfold Cert.ReferenceIdeal.Step.b79
  rw [← al_75 h]
  try rfl
set_option maxRecDepth 8192 in
theorem al_80 (h : Holds V0 s j) : (broadcastInDim S4x529 ![] bcast_S_S4x529 (id (constantI S_ 32 47#32)) : (Proc.devRef .tc main_while0b_call9_v4 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (minsi (broadcastInDim S4x529 ![] bcast_S_S4x529 (id (constantI S_ 32 47#32))) (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)))) : (Proc.devRef .tc main_while0b_v92 : DevRef τ sig).ty.Contents (Elt F)) = Cert.ReferenceIdeal.Step.b81 j s := by
  unfold Cert.ReferenceIdeal.Step.b81
  rw [← al_80 h, ← al_78 h]
  try rfl
set_option maxRecDepth 8192 in
theorem al_82 (h : Holds V0 s j) : (sitofp .f32 (res_main_while0b_v85 V0) : (Proc.devRef .tc main_while0b_v93 : DevRef τ sig).ty.Contents (Elt F)) = Cert.ReferenceIdeal.Step.b82 j s := by
  unfold Cert.ReferenceIdeal.Step.b82
  rw [← al_64 h]
  try rfl
set_option maxRecDepth 8192 in
theorem al_83 (h : Holds V0 s j) : (broadcastInDim S1x4x529x32 ![1, 2, 3] bcast_S4x529x32_S1x4x529x32_1_2_3 (sitofp .f32 (res_main_while0b_v85 V0)) : (Proc.devRef .tc main_while0b_call10_v0 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (constantI S_ 32 0#32 : (Proc.devRef .tc main_while0b_call10_c : DevRef τ sig).ty.Contents (Elt F)) = Cert.ReferenceIdeal.Step.b84 j s := by
  unfold Cert.ReferenceIdeal.Step.b84
  rfl
set_option maxRecDepth 8192 in
theorem al_85 (h : Holds V0 s j) : (constantI S_ 32 0#32 : (Proc.devRef .tc main_while0b_call10_c_0 : DevRef τ sig).ty.Contents (Elt F)) = Cert.ReferenceIdeal.Step.b85 j s := by
  unfold Cert.ReferenceIdeal.Step.b85
  rfl
set_option maxRecDepth 8192 in
theorem al_86 (h : Holds V0 s j) : (constantI S_ 32 0#32 : (Proc.devRef .tc main_while0b_call10_c_1 : DevRef τ sig).ty.Contents (Elt F)) = Cert.ReferenceIdeal.Step.b86 j s := by
  unfold Cert.ReferenceIdeal.Step.b86
  rfl
set_option maxRecDepth 8192 in
theorem al_87 (h : Holds V0 s j) : (Host.dynamicUpdateSlice (V0 (Proc.devRef .tc main_v57_3)) (broadcastInDim S1x4x529x32 ![1, 2, 3] bcast_S4x529x32_S1x4x529x32_1_2_3 (sitofp .f32 (res_main_while0b_v85 V0))) (fun k => (((![V0 (Proc.devRef .tc main_v57_1), constantI S_ 32 0#32, constantI S_ 32 0#32, constantI S_ 32 0#32] : Fin 4 → (⟨S_, .i32⟩ : BufTy).Contents (Elt F))) k (Shape.Idx.first h_S_)).toInt) updateFits_S97x4x529x32_S1x4x529x32 : (Proc.devRef .tc main_while0b_v94 : DevRef τ sig).ty.Contents (Elt F)) = Cert.ReferenceIdeal.Step.b87 j s := by
  unfold Cert.ReferenceIdeal.Step.b87
  rw [← al_83 h, ← al_84 h, ← al_85 h, ← al_86 h, h.f_3, h.n_1]
  try rfl

/-! One trip's step of the carried values is `step`, field by field; a counter steps to the next number. -/

theorem step_dep : (step j s).main_v57_2 = Step.b81 j s := by
  dsimp only [step]
theorem step_out : (step j s).main_v57_3 = Step.b87 j s := by
  dsimp only [step]
theorem step_pots : (step j s).main_v57_0 = s.main_v57_0 := by
  dsimp only [step]
theorem step_main_v57_2_eq : step_main_v57_2 V0 =
    (minsi (broadcastInDim S4x529 ![] bcast_S_S4x529 (id (constantI S_ 32 47#32))) (maxsi (broadcastInDim S4x529 ![] bcast_S_S4x529 (id (constantI S_ 32 0#32))) (subi (addi (V0 (Proc.devRef .tc main_v57_2)) (muli (Host.reduce IntOp.addi (res_main_while0b_v85 V0) (constantI S_ 32 0#32) reducesTo_S4x529x32_S4x529_d2 h_S_) (broadcastInDim S4x529 ![] bcast_S_S4x529 (constantI S_ 32 48#32)))) (broadcastInDim S4x529 ![] bcast_S_S4x529 (constantI S_ 32 1#32)))) : (Proc.devRef .tc main_while0b_v92 : DevRef τ sig).ty.Contents (Elt F)) := by
  chain_rfl
theorem step_2 (h : Holds V0 s j) : step_main_v57_2 V0 = (step j s).main_v57_2 :=
  step_main_v57_2_eq.trans ((al_81 h).trans step_dep.symm)
theorem step_3 (h : Holds V0 s j) : step_main_v57_3 V0 = (step j s).main_v57_3 := by
  rw [step_out]
  exact al_87 h
theorem step_1 (h : Holds V0 s j) : step_main_v57_1 V0 = constantI S_ 32 (BitVec.ofNat 32 (j + 1)) := by
  unfold step_main_v57_1
  rw [h.n_1]
  funext i
  show BitVec.ofNat 32 j + 1#32 = BitVec.ofNat 32 (j + 1)
  simp only [BitVec.ofNat_add]

set_option maxRecDepth 8192 in
theorem out_main_v59_holds (h : Holds V0 s j) : out_main_v59 V0 = Cert.ReferenceIdeal.Step.R_main_v59 s := by
  unfold out_main_v59 Cert.ReferenceIdeal.Step.R_main_v59
  rw [h.f_3]
  try rfl

/-- One trip keeps the valuation holding: `step` of the state, the same set-up values, the next number. -/
theorem holds_step (h : Holds V0 s j) : Holds (STEP V0) (step j s) (j + 1) where
  f_2 := (STEP_main_v57_2 V0).trans (step_2 h)
  f_3 := (STEP_main_v57_3 V0).trans (step_3 h)
  n_1 := (STEP_main_v57_1 V0).trans (step_1 h)
  f_0 := (STEP_main_v57_0 V0).trans (h.f_0.trans step_pots.symm)

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 97 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v59) = Cert.ReferenceIdeal.Step.R_main_v59 (it c 97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 97
    ⟨(h c).1.trans (out_main_v59_holds hk), (h c).2.1, (h c).2.2.1, (h c).2.2.2⟩) (Value.run m ρ)

end Cert.ReferenceIdeal.StepRun

end
-- ==== Proof.RefFrame.lean ====
/- The reference ends with its arguments unchanged and, as it declares no semaphore, with every counter at zero. -/
module

public import proofs.«01_k».proof.Proof.RefStepRun
public import Idealize.ShloMosaic.Lib.Quiescent
public import Idealize.ShloMosaic.PureOps.Ideal

@[expose] public section

noncomputable section

namespace Cert.ReferenceIdeal.Frame

open Idealize.ShloMosaic Cert.ReferenceIdeal Cert.ReferenceIdeal.Gen Idealize.SL.Sem

theorem frame (m : (l : Loc nD τ sig) → Buf (Elt Ideal) l) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩)
    (Value.run (F := Ideal) m ρ)

end Cert.ReferenceIdeal.Frame

end
-- ==== Proof.Spec.lean ====
/- One step of the winner-takes-all over one batch, in plain terms: which lanes fire, which channel of a lane wins, what depression
   is handed on; and the steps iterated over the times. Both programs are compared with this. -/
module

public import Idealize.ShloMosaic.Lib.Pointwise

@[expose] public section

noncomputable section

namespace Cert.Spec

open Idealize.ShloMosaic

/-- The threshold, the float both programs hold. -/
def θ : EReal := Ideal.ofBits .f32 0x40ACCCCD#32

/-- 1 for a lane that is not depressed, else 0. -/
def alive (d : BitVec 32) : EReal := if d = 0#32 then 1 else 0

/-- 1 for a batch with fewer than 265 depressed lanes, else 0. -/
def free (n : ℕ) : EReal := if n < 265 then 1 else 0

/-- The number of depressed lanes. -/
def depressed {L : Type} [Fintype L] (d : L → BitVec 32) : ℕ := (Finset.univ.filter fun l => d l ≠ 0#32).card

/-- The potentials the channels of a lane compete with. -/
def masked {L : Type} [Fintype L] (P : L → Fin 32 → EReal) (d : L → BitVec 32) (l : L) (o : Fin 32) : EReal :=
  P l o * alive (d l) * free (depressed d)

/-- A lane fires when some channel is above the threshold. -/
def Fires (f : Fin 32 → EReal) : Prop := ∃ o, θ < f o

/-- The winner of a lane: the first channel that attains the largest potential. -/
def Wins (f : Fin 32 → EReal) (o : Fin 32) : Prop := (∀ o', f o' ≤ f o) ∧ ∀ o' < o, f o' < f o

open Classical in
/-- The depression a lane hands on. -/
def handed (f : Fin 32 → EReal) (d : BitVec 32) : BitVec 32 :=
  IntOp.minsi 47#32 (IntOp.maxsi 0#32 (IntOp.subi (IntOp.addi d (if Fires f then 48#32 else 0#32)) 1#32))

/-- The depressions before time `τ`. -/
def dep {L : Type} [Fintype L] (P : ℕ → L → Fin 32 → EReal) : ℕ → L → BitVec 32
  | 0 => fun _ => 0#32
  | τ + 1 => fun l => handed (masked (P τ) (dep P τ) l) (dep P τ l)

open Classical in
/-- The result at time `τ`: 1 at the winner of a lane that fires, else 0. -/
def out {L : Type} [Fintype L] (P : ℕ → L → Fin 32 → EReal) (τ : ℕ) (l : L) (o : Fin 32) : EReal :=
  if Fires (masked (P τ) (dep P τ) l) ∧ Wins (masked (P τ) (dep P τ) l) o then 1 else 0

/-- The response to a spike `s` steps ago, for the weight `w`. -/
def resp (s : ℤ) (w : EReal) : EReal :=
  if 0 ≤ s then max (min ((s / 16 : ℝ) : EReal) (((3 / 2 : ℝ) : EReal) * w - ((s / 32 : ℝ) : EReal))) 0 else 0

/-! ## Winners -/

theorem exists_wins (f : Fin 32 → EReal) : ∃ o, Wins f o := by
  classical
  obtain ⟨m, -, hm⟩ := Finset.exists_max_image Finset.univ f ⟨0, Finset.mem_univ _⟩
  let S := Finset.univ.filter fun o => f o = f m
  have hS : S.Nonempty := ⟨m, by simp [S]⟩
  refine ⟨S.min' hS, ?_, ?_⟩
  · intro o'
    have h := S.min'_mem hS
    have h' : f (S.min' hS) = f m := (Finset.mem_filter.mp h).2
    rw [h']; exact hm o' (Finset.mem_univ _)
  · intro o' ho
    have h := S.min'_mem hS
    have h' : f (S.min' hS) = f m := (Finset.mem_filter.mp h).2
    rw [h']
    refine lt_of_le_of_ne (hm o' (Finset.mem_univ _)) fun he => ?_
    have := S.min'_le o' (Finset.mem_filter.mpr ⟨Finset.mem_univ _, he⟩)
    exact absurd ho (not_lt.mpr this)

theorem wins_unique {f : Fin 32 → EReal} {o o' : Fin 32} (h : Wins f o) (h' : Wins f o') : o = o' := by
  rcases lt_trichotomy o o' with hl | hl | hl
  · exact absurd (h'.2 o hl) (not_lt.mpr (h.1 o'))
  · exact hl
  · exact absurd (h.2 o' hl) (not_lt.mpr (h'.1 o))

/-- A lane fires when its winner is above the threshold. -/
theorem fires_iff {f : Fin 32 → EReal} {o : Fin 32} (h : Wins f o) : Fires f ↔ θ < f o :=
  ⟨fun ⟨o', ho⟩ => lt_of_lt_of_le ho (h.1 o'), fun ho => ⟨o, ho⟩⟩

/-- The fold of `max` from `⊥` is the winner's potential. -/
theorem fold_max {f : Fin 32 → EReal} {o : Fin 32} (h : Wins f o) : Finset.univ.fold max ⊥ f = f o :=
  le_antisymm (Finset.fold_max_le (f o) |>.mpr ⟨bot_le, fun o' _ => h.1 o'⟩)
    (Finset.le_fold_max (f o) |>.mpr (.inr ⟨o, Finset.mem_univ _, le_rfl⟩))

theorem toInt_minsi (a b : BitVec 32) : (IntOp.minsi a b).toInt = min a.toInt b.toInt := by
  unfold IntOp.minsi
  rw [BitVec.slt_eq_decide]
  by_cases h : a.toInt < b.toInt <;> simp [h] <;> omega

/-- The smallest word of the channels that attain the maximum, 64 standing for the others, is the winner. -/
theorem fold_min {f : Fin 32 → EReal} {o : Fin 32} (h : Wins f o) :
    Finset.univ.fold IntOp.minsi 2147483647#32 (fun x : Fin 32 => if f x = f o then BitVec.ofNat 32 x.val else 64#32)
      = BitVec.ofNat 32 o.val := by
  apply BitVec.eq_of_toInt_eq
  have small : ∀ x : Fin 32, (BitVec.ofNat 32 x.val).toInt = (x.val : ℤ) := by decide
  rw [← Finset.fold_hom (op' := min) (m := BitVec.toInt) (fun x y => toInt_minsi x y), small]
  apply le_antisymm
  · rw [Finset.fold_min_le]
    exact .inr ⟨o, Finset.mem_univ _, by simp [small]⟩
  · rw [Finset.le_fold_min]
    refine ⟨?_, fun x _ => ?_⟩
    · have : (2147483647#32).toInt = 2147483647 := by decide
      rw [this]; omega
    · by_cases hx : f x = f o
      · rw [if_pos hx, small]
        have : ¬ x < o := fun hl => absurd hx (ne_of_lt (h.2 x hl))
        have : o ≤ x := not_lt.mp this
        exact_mod_cast this
      · rw [if_neg hx]
        have : (64#32).toInt = 64 := by decide
        rw [this]; omega

end Cert.Spec

end
-- ==== Proof.Drawn.lean ====
/- What the precondition says: every weight is at most 1, and every bias is at most the threshold. -/
module

public import proofs.«01_k».proof.Pre_drawn
public import proofs.«01_k».proof.Proof.Spec
public import Idealize.ShloMosaic.Lib.ReduceAll
public import Idealize.ShloMosaic.Lib.Pointwise
public import Idealize.ShloMosaic.Lib.IdealHost

@[expose] public section

set_option maxRecDepth 16384

noncomputable section

namespace Cert.Drawn

open Idealize.ShloMosaic Cert.Pre_drawn
open Cert.Spec (θ)

/-- The side conditions of the precondition's operations. -/
theorem facts : Cert.Pre_drawn.Facts := ⟨by decide, by decide, by decide, by decide, by decide⟩

instance : Subsingleton S_.Idx := ⟨fun i j => funext fun a => a.elim0⟩

variable {x : FVec Ideal S4x2x48x48x48 .f32} {w : FVec Ideal S32x2x3x3 .f32} {b : FVec Ideal S32 .f32}

/-- At the index of a scalar the precondition is the `and` of two reductions, each 1. -/
theorem both (h : (@fn facts Ideal _ x w b) = fun _ => 1#1) :
    (∀ i, cmpf .ole w (broadcastInDim S32x2x3x3 ![] facts.bcast_S_S32x2x3x3 (constant S_ .f32 0x3F800000#32)) i = 1#1) ∧
    (∀ i, cmpf .ole b (broadcastInDim S32 ![] facts.bcast_S_S32 (constant S_ .f32 0x40ACCCCD#32)) i = 1#1) := by
  obtain ⟨h1, h2⟩ := IntOp.andi_eq_one.1 (congrFun h (fun a => a.elim0))
  exact ⟨Host.reduce_andi_all _ _ _ _ _ h1, Host.reduce_andi_all _ _ _ _ _ h2⟩

theorem le_of_ole {a c : EReal} (h : BitVec.ofBool (decide (a ≤ c)) = 1#1) : a ≤ c := by
  by_contra hn
  rw [decide_eq_false hn] at h
  exact absurd h (by decide)

theorem weights (h : (@fn facts Ideal _ x w b) = fun _ => 1#1) (o : Fin 32) (i : Fin 2) (kx ky : Fin 3) :
    (w (ix4 o i kx ky) : EReal) ≤ 1 := by
  have := le_of_ole ((both h).1 (ix4 o i kx ky))
  rwa [show (broadcastInDim S32x2x3x3 ![] facts.bcast_S_S32x2x3x3 (constant (F := Ideal) S_ .f32 0x3F800000#32) (ix4 o i kx ky) : EReal) = 1 from Ideal.ofBits_one_f32] at this

theorem biases (h : (@fn facts Ideal _ x w b) = fun _ => 1#1) (o : Fin 32) : (b (ix1 o) : EReal) ≤ θ :=
  le_of_ole ((both h).2 (ix1 o))

end Cert.Drawn

end
-- ==== Proof.Potentials.lean ====
/- The potentials in plain terms: at channel `o` of position `r`, the responses to all spikes of the window, summed, and the bias. -/
module

public import proofs.«01_k».proof.Proof.Spec

@[expose] public section

noncomputable section

namespace Cert.Spec

open Idealize.ShloMosaic

/-- The potential before time `τ`: a spike at time `t` under the tap `(i, kx, ky)` of the window answers `τ - 1 - t` steps later. -/
def pot (x : Fin 4 → Fin 2 → Fin 48 → Fin 48 → Fin 48 → EReal) (w : Fin 32 → Fin 2 → Fin 3 → Fin 3 → EReal) (b : Fin 32 → EReal)
    (n : Fin 4) (τ : ℕ) (r : Fin 529) (o : Fin 32) : EReal :=
  (∑ i : Fin 2, ∑ kx : Fin 3, ∑ ky : Fin 3, ∑ t : Fin 48, resp (τ - 1 - t.val) (w o i kx ky)
    * x n i ⟨2 * (r.val / 23) + kx.val, by omega⟩ ⟨2 * (r.val % 23) + ky.val, by omega⟩ t) + b o

/-- A sum over the taps and times in one index is the sum over each of them. -/
theorem sum_taps (g : Fin 2 → Fin 3 → Fin 3 → Fin 48 → EReal) :
    (∑ k : Fin 864, g ⟨k.val / 48 / 9, by omega⟩ ⟨k.val / 48 / 3 % 3, by omega⟩ ⟨k.val / 48 % 3, by omega⟩ ⟨k.val % 48, by omega⟩)
      = ∑ i : Fin 2, ∑ kx : Fin 3, ∑ ky : Fin 3, ∑ t : Fin 48, g i kx ky t := by
  rw [← Fintype.sum_prod_type', ← Fintype.sum_prod_type', ← Fintype.sum_prod_type']
  let e : Fin 864 ≃ ((Fin 2 × Fin 3) × Fin 3) × Fin 48 :=
    { toFun := fun k => (((⟨k.val / 48 / 9, by omega⟩, ⟨k.val / 48 / 3 % 3, by omega⟩), ⟨k.val / 48 % 3, by omega⟩), ⟨k.val % 48, by omega⟩)
      invFun := fun p => ⟨48 * (9 * p.1.1.1.val + 3 * p.1.1.2.val + p.1.2.val) + p.2.val, by omega⟩
      left_inv := fun k => Fin.ext (by dsimp only; omega)
      right_inv := fun p => by
        obtain ⟨⟨⟨i, kx⟩, ky⟩, t⟩ := p
        simp only [Prod.mk.injEq, Fin.ext_iff]
        omega }
  exact Fintype.sum_equiv e _ _ fun k => rfl

end Cert.Spec

end
-- ==== Proof.KernelHost.lean ====
/- What the kernel's operands hold: the input regrouped by the parities of its rows and columns, the weights and biases as matrices,
   and the time of each tap. -/
module

public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Host

open Idealize.ShloMosaic Idealize.ShloMosaic.TcCoe Cert.KernelIdeal Cert.KernelIdeal.Gen Idealize.SL.Sem

variable (m : (l : Loc nD τ sig) → l.ty.Contents (Elt Ideal)) (c : Dev nD)

/-- The input's rows and columns are split into half and parity. -/
theorem input_apply (n : Fin 4) (i px : Fin 2) (X Y : Fin 24) (e : Fin 96) :
    V m c main_v2 (ix6 n i px X Y e)
      = m (c, Proc.tc.devRef main_arg0) (ix5 n i ⟨X.val * 2 + px.val, by omega⟩ ⟨Y.val * 2 + e.val / 48, by omega⟩ ⟨e.val % 48, by omega⟩) := by
  simp only [V, hostOps0, hostOps0_1, hostOps0_2, List.flatten_cons, List.flatten_nil, List.append_nil, List.cons_append, List.nil_append]
  entry_read
  pointwise []

/-- Column `k` of the weights belongs to the spike time `k % 48` of the tap `k / 48`. -/
theorem weight_apply (o : Fin 32) (k : Fin 864) :
    V m c main_v5 (ix2 o k)
      = m (c, Proc.tc.devRef main_arg1) (ix4 o ⟨k.val / 48 / 9, by omega⟩ ⟨k.val / 48 / 3 % 3, by omega⟩ ⟨k.val / 48 % 3, by omega⟩) := by
  simp only [V, hostOps0, hostOps0_1, hostOps0_2, List.flatten_cons, List.flatten_nil, List.append_nil, List.cons_append, List.nil_append]
  entry_read
  pointwise []

theorem bias_apply (o : Fin 32) : V m c main_v6 (ix2 o 0) = m (c, Proc.tc.devRef main_arg2) (ix1 o) := by
  simp only [V, hostOps0, hostOps0_1, hostOps0_2, List.flatten_cons, List.flatten_nil, List.append_nil, List.cons_append, List.nil_append]
  entry_read
  pointwise []

theorem sitofp_ofNat (k : ℕ) (hk : k < 864) : (FloatOps.sitofp FTy.f32 (BitVec.ofNat 32 k) : Ideal .f32) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  norm_cast

/-- The remainder of two natural numbers read as reals. -/
theorem remf_nat (k : ℕ) : Ideal.remf ((k : ℝ) : EReal) ((48 : ℝ) : EReal) = (((k % 48 : ℕ) : ℝ) : EReal) := by
  rw [Ideal.remf_coe, if_neg (by norm_num)]
  have h1 := Nat.div_add_mod k 48
  have h2 := Nat.mod_lt k (show 0 < 48 by norm_num)
  generalize k / 48 = q at h1
  generalize k % 48 = r at h1 h2
  subst h1
  have h4 : (r : ℝ) < 48 := by exact_mod_cast h2
  have h5 : (0 : ℝ) ≤ r := by positivity
  have h : Ideal.truncInt (((48 * q + r : ℕ) : ℝ) / 48) = (q : ℤ) := by
    unfold Ideal.truncInt
    rw [if_pos (by positivity), Int.floor_eq_iff]
    push_cast
    constructor
    · rw [le_div_iff₀ (by norm_num)]; linarith
    · rw [div_lt_iff₀ (by norm_num)]; linarith
  rw [h]
  congr 1
  push_cast
  linarith

/-- The time of column `k`. -/
theorem time_apply (k : Fin 864) : (V m c main_v9 (ix2 0 k) : EReal) = (((k.val % 48 : ℕ) : ℝ) : EReal) := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise []
  have h48 : (FloatOps.sitofp FTy.f32 48#32 : Ideal .f32) = ((48 : ℝ) : EReal) := by
    have := sitofp_ofNat 48 (by norm_num)
    exact_mod_cast this
  have hn : ¬ (((k.val % 48 : ℕ) : ℝ) : EReal) < 0 := by
    rw [← EReal.coe_zero, EReal.coe_lt_coe_iff]
    exact not_lt.mpr (by positivity)
  have hm : ¬ (((48 : ℝ) : EReal)) < 0 := by
    rw [← EReal.coe_zero, EReal.coe_lt_coe_iff]
    norm_num
  rw [h48, sitofp_ofNat k.val k.isLt, remf_nat, decide_eq_false hn, decide_eq_false hm]
  cases decide ((((k.val % 48 : ℕ) : ℝ) : EReal) ≠ 0) <;> rfl

/-! ## The operands' blocks: each window is its whole array -/

theorem index0 : ∀ t : Fin cfg0.N, win0_0.index t = ![0, 0, 0, 0, 0, 0] := by decide +kernel

theorem block0 (t : Fin cfg0.N) (y : S4x2x2x24x24x96.Idx) : iblk m c 0 t y = V m c main_v2 y := by
  blk_simp [iblk]
  congr 1
  blk_ext [index0 t]

theorem index1 : ∀ t : Fin cfg0.N, win0_1.index t = ![0, 0] := by decide +kernel

theorem block1 (t : Fin cfg0.N) (y : S32x864.Idx) : iblk m c 1 t y = V m c main_v5 y := by
  blk_simp [iblk]
  congr 1
  blk_ext [index1 t]

theorem index2 : ∀ t : Fin cfg0.N, win0_2.index t = ![0, 0] := by decide +kernel

theorem block2 (t : Fin cfg0.N) (y : S32x1.Idx) : iblk m c 2 t y = V m c main_v6 y := by
  blk_simp [iblk]
  congr 1
  blk_ext [index2 t]

theorem index3 : ∀ t : Fin cfg0.N, win0_3.index t = ![0, 0] := by decide +kernel

theorem block3 (t : Fin cfg0.N) (y : S1x864.Idx) : iblk m c 3 t y = V m c main_v9 y := by
  blk_simp [iblk]
  congr 1
  blk_ext [index3 t]

end Cert.KernelIdeal.Host
-- ==== Proof.KernelSteps.lean ====
/- The kernel's 97 steps as ONE step iterated. The printed body writes every step out; here a step is two functions of the
   potentials of its time and of the depression before it: the row of winners it stores, and the depression it hands on. -/
module

public import proofs.«01_k».proof.Proof.Gen.KernelIdeal.Value

@[expose] public section

noncomputable section

namespace Cert.KernelIdeal.Steps

open Idealize.ShloMosaic Idealize.ShloMosaic.TcCoe Cert.KernelIdeal Cert.KernelIdeal.Gen Idealize.SL.Sem

variable {F : FTy → Type} [FloatOps F]

/-! ## One step -/

/-- The number of depressed lanes among one batch's 576, starting at lane `o`. -/
def count (o : ℕ) (h : S1x2304.Slices ![0, o] S1x576) (dep : IVec S1x2304 32) : F .f32 :=
  extractAt ![0, 0, 0] (shapeCast S1x1x1
    (multiReduction .add [1, 2] S1 (shapeCast S1x1x576 (sitofp .f32 (extui 32
        (cmpi .ne (extractStridedSlice S1x576 ![0, o] dep h) (broadcast S1x576 0#32)) natLt_1_32) : FVec F S1x576 .f32)
      shapeCasts_S1x576_S1x1x576) 0x00000000#32 reduces_S1x1x576_S1 (.inl rfl) rfl)
    shapeCasts_S1_S1x1x1) inpos_S1x1x1_p0_0_0

/-- 1 in all of the batch's lanes when fewer than 265 of them are depressed, else 0. -/
def free (o : ℕ) (h : S1x2304.Slices ![0, o] S1x576) (dep : IVec S1x2304 32) : FVec F S1x576 .f32 :=
  broadcastTo S1x576 (shapeCast S1x1 (broadcast S1x1 (Scalar.sitofp .f32 (Scalar.extui
    (Scalar.cmpf .olt (count (F := F) o h dep) (Scalar.ofBits .f32 0x43848000#32)) : BitVec 32) : F .f32)) shapeCasts_S1x1_S1x1)
    broadcasts_S1x1_S1x576

/-- The factor of each lane: 1 when the lane is not depressed and its batch is not full, else 0. -/
def factor (dep : IVec S1x2304 32) : FVec F S1x2304 .f32 :=
  mulf (sitofp .f32 (extui 32 (cmpi .eq dep (broadcast S1x2304 0#32)) natLt_1_32))
    (concatenate S1x2304 1 [⟨S1x576, free 0 slices_S1x2304_o0_0_S1x576 dep⟩, ⟨S1x576, free 576 slices_S1x2304_o0_576_S1x576 dep⟩,
      ⟨S1x576, free 1152 slices_S1x2304_o0_1152_S1x576 dep⟩, ⟨S1x576, free 1728 slices_S1x2304_o0_1728_S1x576 dep⟩]
      concatenates_S1x576_S1x576_S1x576_S1x576_S1x2304_d1)

/-- The potentials a lane's channels compete with. -/
def masked (pt : FVec F S32x2304 .f32) (dep : IVec S1x2304 32) : FVec F S32x2304 .f32 :=
  mulf pt (broadcastTo S32x2304 (factor dep) broadcasts_S1x2304_S32x2304)

/-- The largest of each lane. -/
def top (pt : FVec F S32x2304 .f32) (dep : IVec S1x2304 32) : FVec F S1x2304 .f32 :=
  shapeCast S1x2304 (multiReduction .maximumf [0] S2304 (masked pt dep) 0xFF800000#32 reduces_S32x2304_S2304 (.inl rfl) rfl)
    shapeCasts_S2304_S1x2304

/-- The first channel that attains it. -/
def winner (pt : FVec F S32x2304 .f32) (dep : IVec S1x2304 32) : IVec S1x2304 32 :=
  shapeCast S1x2304 (multiReductionI .minsi [0] S2304
      (select (cmpf .oeq (masked pt dep) (broadcastTo S32x2304 (top pt dep) broadcasts_S1x2304_S32x2304))
        (iota .tc S32x2304 32 [0] iota_S32x2304_d0_w32) (broadcast S32x2304 64#32))
      2147483647#32 reduces_S32x2304_S2304 rfl)
    shapeCasts_S2304_S1x2304

/-- Whether the lane spikes: its largest potential is above the threshold. -/
def spike (pt : FVec F S32x2304 .f32) (dep : IVec S1x2304 32) : IVec S1x2304 1 :=
  cmpf .ogt (top pt dep) (broadcast S1x2304 (Scalar.ofBits .f32 0x40ACCCCD#32))

/-- The row stored for the step: the winner of a lane that spikes, else −1. -/
def code (pt : FVec F S32x2304 .f32) (dep : IVec S1x2304 32) : IVec S1x2304 32 :=
  shapeCast S1x2304 (select (spike pt dep) (winner pt dep) (broadcast S1x2304 4294967295#32)) shapeCasts_S1x2304_S1x2304

/-- The depression handed on: 48 more for a lane that spikes, one less for all, within 0 and 47. -/
def next (pt : FVec F S32x2304 .f32) (dep : IVec S1x2304 32) : IVec S1x2304 32 :=
  minsi (broadcast S1x2304 47#32) (maxsi (broadcast S1x2304 0#32)
    (subi (addi dep (select (spike pt dep) (broadcast S1x2304 48#32) (broadcast S1x2304 0#32))) (broadcast S1x2304 1#32)))

/-! ## The potentials -/

/-- The word of the float `8 c - 1`, for the `c`-th chunk of eight times. -/
def startWord (c : ℕ) : BitVec 32 :=
  [0xBF800000#32, 0x40E00000#32, 0x41700000#32, 0x41B80000#32, 0x41F80000#32, 0x421C0000#32, 0x423C0000#32, 0x425C0000#32,
    0x427C0000#32, 0x428E0000#32, 0x429E0000#32, 0x42AE0000#32, 0x42BE0000#32].getD c 0#32

/-- The response `f` to a spike `s` steps ago, for the weight `w`. -/
def response {S : Shape} (s w : FVec F S .f32) : FVec F S .f32 :=
  select (cmpf .oge s (broadcast S (Scalar.ofBits .f32 0x00000000#32)))
    (maximumf (minimumf (mulf s (broadcast S (Scalar.ofBits .f32 0x3D800000#32)))
        (subf (mulf (broadcast S (Scalar.ofBits .f32 0x3FC00000#32)) w) (mulf s (broadcast S (Scalar.ofBits .f32 0x3D000000#32)))))
      (broadcast S (Scalar.ofBits .f32 0x00000000#32)))
    (broadcast S (Scalar.ofBits .f32 0x00000000#32))

/-- Eight times' responses against all lanes: row `32 j + o` is channel `o` at the chunk's `j`-th time. -/
def chunk (w : Vec F S32x864 .f32) (t : Vec F S1x864 .f32) (u : Vec F S4x24x24x864 .f32) (c : ℕ) : FVec F S256x2304 .f32 :=
  matmul dot_S256x864_S2304x864_S256x2304_1_1_0_0_n_n none
    (response
      (subf (broadcastTo S256x864 (addf (broadcast S256x1 (Scalar.ofBits .f32 (startWord c)))
          (sitofp .f32 (shapeCast S256x1 (iota .tc S8x32x1 32 [0] iota_S8x32x1_d0_w32) shapeCasts_S8x32x1_S256x1)))
          broadcasts_S256x1_S256x864)
        (broadcastTo S256x864 (shapeCast S1x864 t shapeCasts_S1x864_S1x864) broadcasts_S1x864_S256x864))
      (shapeCast S256x864 (broadcastTo S8x32x864 (shapeCast S1x32x864 (shapeCast S1x32x864
        (shapeCast S32x864 w shapeCasts_S32x864_S32x864) shapeCasts_S32x864_S1x32x864) shapeCasts_S1x32x864_S1x32x864)
        broadcasts_S1x32x864_S8x32x864) shapeCasts_S8x32x864_S256x864))
    (shapeCast S2304x864 u shapeCasts_S4x24x24x864_S2304x864) (constant S256x2304 .f32 0x00000000#32)

/-- The one time of the last chunk. -/
def lastChunk (w : Vec F S32x864 .f32) (t : Vec F S1x864 .f32) (u : Vec F S4x24x24x864 .f32) : FVec F S32x2304 .f32 :=
  matmul dot_S32x864_S2304x864_S32x2304_1_1_0_0_n_n none
    (response
      (subf (broadcastTo S32x864 (addf (broadcast S32x1 (Scalar.ofBits .f32 (startWord 12)))
          (sitofp .f32 (shapeCast S32x1 (iota .tc S1x32x1 32 [0] iota_S1x32x1_d0_w32) shapeCasts_S1x32x1_S32x1)))
          broadcasts_S32x1_S32x864)
        (broadcastTo S32x864 (shapeCast S1x864 t shapeCasts_S1x864_S1x864) broadcasts_S1x864_S32x864))
      (shapeCast S32x864 (shapeCast S1x32x864
        (shapeCast S32x864 w shapeCasts_S32x864_S32x864) shapeCasts_S32x864_S1x32x864) shapeCasts_S1x32x864_S32x864))
    (shapeCast S2304x864 u shapeCasts_S4x24x24x864_S2304x864) (constant S32x2304 .f32 0x00000000#32)

/-- The rows of one time lie in its chunk. -/
theorem slices_time (j : ℕ) (h : j < 8) : S256x2304.Slices ![32 * j, 0] S32x2304 := by
  have all : ∀ j : Fin 8, S256x2304.Slices ![32 * j.1, 0] S32x2304 := by decide
  exact all ⟨j, h⟩

/-- The potentials at time `τ`, the bias included. -/
def pots (w : Vec F S32x864 .f32) (b : Vec F S32x1 .f32) (t : Vec F S1x864 .f32) (u : Vec F S4x24x24x864 .f32) (τ : ℕ) :
    FVec F S32x2304 .f32 :=
  addf (if τ = 96 then lastChunk w t u
      else extractStridedSlice S32x2304 ![32 * (τ % 8), 0] (chunk w t u (τ / 8)) (slices_time (τ % 8) (Nat.mod_lt _ (by decide))))
    (broadcastTo S32x2304 (shapeCast S32x1 b shapeCasts_S32x1_S32x1) broadcasts_S32x1_S32x2304)

/-! ## The steps -/

variable (w : Vec F S32x864 .f32) (b : Vec F S32x1 .f32) (t : Vec F S1x864 .f32) (u : Vec F S4x24x24x864 .f32)

/-- The depression before time `τ`. -/
def dep (τ : ℕ) : IVec S1x2304 32 :=
  Nat.rec (motive := fun _ => IVec S1x2304 32) (broadcast S1x2304 0#32) (fun n d => next (pots w b t u n) d) τ

theorem dep_zero : dep w b t u 0 = broadcast S1x2304 0#32 := rfl
theorem dep_succ (τ : ℕ) : dep w b t u (τ + 1) = next (pots w b t u τ) (dep w b t u τ) := rfl

theorem inb_row (τ : ℕ) (h : τ < 97) : ∀ a, (![τ, 0] : Fin 2 → ℕ) a + S1x2304.size a ≤ S97x2304.size a := by
  intro a; fin_cases a
  · show τ + 1 ≤ 97; omega
  · show 0 + 2304 ≤ 2304; omega

end Cert.KernelIdeal.Steps

end
-- ==== Proof.KernelRows.lean ====
/- The rows the kernel stores into the winners' array are those of the iterated step. -/
module

public import proofs.«01_k».proof.Proof.KernelSteps
public import Idealize.ShloMosaic.Lib.Pipeline.Regions

@[expose] public section

noncomputable section

namespace Cert.KernelIdeal.Steps

open Idealize.ShloMosaic Idealize.ShloMosaic.TcCoe Cert.KernelIdeal Cert.KernelIdeal.Gen Idealize.SL.Sem

variable {F : FTy → Type} [FloatOps F]
variable (c : Dev nD) (arg0 : Memref sig .tc .vmem S4x2x2x24x24x96 .f32) (harg0 : arg0.IsWhole) (arg1 : Memref sig .tc .vmem S32x864 .f32) (harg1 : arg1.IsWhole) (arg2 : Memref sig .tc .vmem S32x1 .f32) (harg2 : arg2.IsWhole) (arg3 : Memref sig .tc .vmem S1x864 .f32) (harg3 : arg3.IsWhole) (arg5 : Memref sig .tc .vmem S4x24x24x864 .f32)
  (x0 : Vec F S4x2x2x24x24x96 .f32) (x1 : Vec F S32x864 .f32) (x2 : Vec F S32x1 .f32) (x3 : Vec F S1x864 .f32)

/-- The potentials of the 97 times, as the body names them. -/
def potNames : List (FVec F S32x2304 .f32) :=
    [
     kernelRun0_A.sl.r_4 c arg0 harg0 arg1 harg1 arg2 harg2 arg3 harg3 arg5 x0 x1 x2 x3,
     kernelRun0_A.sl.r_6 c arg0 harg0 arg1 harg1 arg2 harg2 arg3 harg3 arg5 x0 x1 x2 x3,
     kernelRun0_A.sl.r_15 c arg0 harg0 arg1 harg1 arg2 harg2 arg3 harg3 arg5 x0 x1 x2 x3,
     kernelRun0_A.sl.r_22 c arg0 harg0 arg1 harg1 arg2 harg2 arg3 harg3 arg5 x0 x1 x2 x3,
     kernelRun0_A.sl.r_29 c arg0 harg0 arg1 harg1 arg2 harg2 arg3 harg3 arg5 x0 x1 x2 x3,
     kernelRun0_A.sl.r_36 c arg0 harg0 arg1 harg1 arg2 harg2 arg3 harg3 arg5 x0 x1 x2 x3,
     kernelRun0_A.sl.r_42 c arg0 harg0 arg1 harg1 arg2 harg2 arg3 harg3 arg5 x0 x1 x2 x3,
     kernelRun0_A.sl.r_49 c arg0 harg0 arg1 harg1 arg2 harg2 arg3 harg3 arg5 x0 x1 x2 x3,
     kernelRun0_A.sl.r_57 c arg0 harg0 arg1 harg1 arg2 harg2 arg3 harg3 arg5 x0 x1 x2 x3,
     kernelRun0_A.sl.r_65 c arg0 harg0 arg1 harg1 arg2 harg2 arg3 harg3 arg5 x0 x1 x2 x3,
     kernelRun0_A.sl.r_73 c arg0 harg0 arg1 harg1 arg2 harg2 arg3 harg3 arg5 x0 x1 x2 x3,
     kernelRun0_A.sl.r_80 c arg0 harg0 arg1 harg1 arg2 harg2 arg3 harg3 arg5 x0 x1 x2 x3,
     kernelRun0_A.sl.r_88 c arg0 harg0 arg1 harg1 arg2 harg2 arg3 harg3 arg5 x0 x1 x2 x3,
     kernelRun0_A.sl.r_96 c arg0 harg0 arg1 harg1 arg2 harg2 arg3 harg3 arg5 x0 x1 x2 x3,
     kernelRun0_A.sl.r_103 c arg0 harg0 arg1 harg1 arg2 harg2 arg3 harg3 arg5 x0 x1 x2 x3,
     kernelRun0_A.sl.r_110 c arg0 harg0 arg1 harg1 arg2 harg2 arg3 harg3 arg5 x0 x1 x2 x3,
     kernelRun0_A.sl.r_117 c arg0 harg0 arg1 harg1 arg2 harg2 arg3 harg3 arg5 x0 x1 x2 x3,
     kernelRun0_A.sl.r_125 c arg0 harg0 arg1 harg1 arg2 harg2 arg3 harg3 arg5 x0 x1 x2 x3,
     kernelRun0_A.sl.r_133 c arg0 harg0 arg1 harg1 arg2 harg2 arg3 harg3 arg5 x0 x1 x2 x3,
     kernelRun0_A.sl.r_141 c arg0 harg0 arg1 harg1 arg2 harg2 arg3 harg3 arg5 x0 x1 x2 x3,
     kernelRun0_A.sl.r_148 c arg0 harg0 arg1 harg1 arg2 harg2 arg3 harg3 arg5 x0 x1 x2 x3,
     kernelRun0_A.sl.r_157 c arg0 harg0 arg1 harg1 arg2 harg2 arg3 harg3 arg5 x0 x1 x2 x3,
     kernelRun0_A.sl.r_164 c arg0 harg0 arg1 harg1 arg2 harg2 arg3 harg3 arg5 x0 x1 x2 x3,
     kernelRun0_A.sl.r_171 c arg0 harg0 arg1 harg1 arg2 harg2 arg3 harg3 arg5 x0 x1 x2 x3,
     kernelRun0_A.sl.r_179 c arg0 harg0 arg1 harg1 arg2 harg2 arg3 harg3 arg5 x0 x1 x2 x3,
     kernelRun0_A.sl.r_187 c arg0 harg0 arg1 harg1 arg2 harg2 arg3 harg3 arg5 x0 x1 x2 x3,
     kernelRun0_A.sl.r_194 c arg0 harg0 arg1 harg1 arg2 harg2 arg3 harg3 arg5 x0 x1 x2 x3,
     kernelRun0_A.sl.r_202 c arg0 harg0 arg1 harg1 arg2 harg2 arg3 harg3 arg5 x0 x1 x2 x3,
     kernelRun0_A.sl.r_210 c arg0 harg0 arg1 harg1 arg2 harg2 arg3 harg3 arg5 x0 x1 x2 x3,
     kernelRun0_A.sl.r_218 c arg0 harg0 arg1 harg1 arg2 harg2 arg3 harg3 arg5 x0 x1 x2 x3,
     kernelRun0_A.sl.r_225 c arg0 harg0 arg1 harg1 arg2 harg2 arg3 harg3 arg5 x0 x1 x2 x3,
     kernelRun0_A.sl.r_233 c arg0 harg0 arg1 harg1 arg2 harg2 arg3 harg3 arg5 x0 x1 x2 x3,
     kernelRun0_A.sl.r_242 c arg0 harg0 arg1 harg1 arg2 harg2 arg3 harg3 arg5 x0 x1 x2 x3,
     kernelRun0_A.sl.r_250 c arg0 harg0 arg1 harg1 arg2 harg2 arg3 harg3 arg5 x0 x1 x2 x3,
     kernelRun0_A.sl.r_258 c arg0 harg0 arg1 harg1 arg2 harg2 arg3 harg3 arg5 x0 x1 x2 x3,
     kernelRun0_A.sl.r_265 c arg0 harg0 arg1 harg1 arg2 harg2 arg3 harg3 arg5 x0 x1 x2 x3,
     kernelRun0_A.sl.r_273 c arg0 harg0 arg1 harg1 arg2 harg2 arg3 harg3 arg5 x0 x1 x2 x3,
     kernelRun0_A.sl.r_281 c arg0 harg0 arg1 harg1 arg2 harg2 arg3 harg3 arg5 x0 x1 x2 x3,
     kernelRun0_A.sl.r_289 c arg0 harg0 arg1 harg1 arg2 harg2 arg3 harg3 arg5 x0 x1 x2 x3,
     kernelRun0_A.sl.r_296 c arg0 harg0 arg1 harg1 arg2 harg2 arg3 harg3 arg5 x0 x1 x2 x3,
     kernelRun0_A.sl.r_304 c arg0 harg0 arg1 harg1 arg2 harg2 arg3 harg3 arg5 x0 x1 x2 x3,
     kernelRun0_A.sl.r_310 c arg0 harg0 arg1 harg1 arg2 harg2 arg3 harg3 arg5 x0 x1 x2 x3,
     kernelRun0_A.sl.r_318 c arg0 harg0 arg1 harg1 arg2 harg2 arg3 harg3 arg5 x0 x1 x2 x3,
     kernelRun0_A.sl.r_326 c arg0 harg0 arg1 harg1 arg2 harg2 arg3 harg3 arg5 x0 x1 x2 x3,
     kernelRun0_A.sl.r_334 c arg0 harg0 arg1 harg1 arg2 harg2 arg3 harg3 arg5 x0 x1 x2 x3,
     kernelRun0_A.sl.r_341 c arg0 harg0 arg1 harg1 arg2 harg2 arg3 harg3 arg5 x0 x1 x2 x3,
     kernelRun0_A.sl.r_349 c arg0 harg0 arg1 harg1 arg2 harg2 arg3 harg3 arg5 x0 x1 x2 x3,
     kernelRun0_A.sl.r_357 c arg0 harg0 arg1 harg1 arg2 harg2 arg3 harg3 arg5 x0 x1 x2 x3,
     kernelRun0_A.sl.r_366 c arg0 harg0 arg1 harg1 arg2 harg2 arg3 harg3 arg5 x0 x1 x2 x3,
     kernelRun0_A.sl.r_371 c arg0 harg0 arg1 harg1 arg2 harg2 arg3 harg3 arg5 x0 x1 x2 x3,
     kernelRun0_A.sl.r_376 c arg0 harg0 arg1 harg1 arg2 harg2 arg3 harg3 arg5 x0 x1 x2 x3,
     kernelRun0_A.sl.r_384 c arg0 harg0 arg1 harg1 arg2 harg2 arg3 harg3 arg5 x0 x1 x2 x3,
     kernelRun0_A.sl.r_392 c arg0 harg0 arg1 harg1 arg2 harg2 arg3 harg3 arg5 x0 x1 x2 x3,
     kernelRun0_A.sl.r_400 c arg0 harg0 arg1 harg1 arg2 harg2 arg3 harg3 arg5 x0 x1 x2 x3,
     kernelRun0_A.sl.r_407 c arg0 harg0 arg1 harg1 arg2 harg2 arg3 harg3 arg5 x0 x1 x2 x3,
     kernelRun0_A.sl.r_415 c arg0 harg0 arg1 harg1 arg2 harg2 arg3 harg3 arg5 x0 x1 x2 x3,
     kernelRun0_A.sl.r_425 c arg0 harg0 arg1 harg1 arg2 harg2 arg3 harg3 arg5 x0 x1 x2 x3,
     kernelRun0_A.sl.r_432 c arg0 harg0 arg1 harg1 arg2 harg2 arg3 harg3 arg5 x0 x1 x2 x3,
     kernelRun0_A.sl.r_438 c arg0 harg0 arg1 harg1 arg2 harg2 arg3 harg3 arg5 x0 x1 x2 x3,
     kernelRun0_A.sl.r_443 c arg0 harg0 arg1 harg1 arg2 harg2 arg3 harg3 arg5 x0 x1 x2 x3,
     kernelRun0_A.sl.r_449 c arg0 harg0 arg1 harg1 arg2 harg2 arg3 harg3 arg5 x0 x1 x2 x3,
     kernelRun0_A.sl.r_457 c arg0 harg0 arg1 harg1 arg2 harg2 arg3 harg3 arg5 x0 x1 x2 x3,
     kernelRun0_A.sl.r_465 c arg0 harg0 arg1 harg1 arg2 harg2 arg3 harg3 arg5 x0 x1 x2 x3,
     kernelRun0_A.sl.r_473 c arg0 harg0 arg1 harg1 arg2 harg2 arg3 harg3 arg5 x0 x1 x2 x3,
     kernelRun0_A.sl.r_483 c arg0 harg0 arg1 harg1 arg2 harg2 arg3 harg3 arg5 x0 x1 x2 x3,
     kernelRun0_A.sl.r_490 c arg0 harg0 arg1 harg1 arg2 harg2 arg3 harg3 arg5 x0 x1 x2 x3,
     kernelRun0_A.sl.r_498 c arg0 harg0 arg1 harg1 arg2 harg2 arg3 harg3 arg5 x0 x1 x2 x3,
     kernelRun0_A.sl.r_505 c arg0 harg0 arg1 harg1 arg2 harg2 arg3 harg3 arg5 x0 x1 x2 x3,
     kernelRun0_A.sl.r_510 c arg0 harg0 arg1 harg1 arg2 harg2 arg3 harg3 arg5 x0 x1 x2 x3,
     kernelRun0_A.sl.r_515 c arg0 harg0 arg1 harg1 arg2 harg2 arg3 harg3 arg5 x0 x1 x2 x3,
     kernelRun0_A.sl.r_523 c arg0 harg0 arg1 harg1 arg2 harg2 arg3 harg3 arg5 x0 x1 x2 x3,
     kernelRun0_A.sl.r_531 c arg0 harg0 arg1 harg1 arg2 harg2 arg3 harg3 arg5 x0 x1 x2 x3,
     kernelRun0_A.sl.r_542 c arg0 harg0 arg1 harg1 arg2 harg2 arg3 harg3 arg5 x0 x1 x2 x3,
     kernelRun0_A.sl.r_549 c arg0 harg0 arg1 harg1 arg2 harg2 arg3 harg3 arg5 x0 x1 x2 x3,
     kernelRun0_A.sl.r_556 c arg0 harg0 arg1 harg1 arg2 harg2 arg3 harg3 arg5 x0 x1 x2 x3,
     kernelRun0_A.sl.r_563 c arg0 harg0 arg1 harg1 arg2 harg2 arg3 harg3 arg5 x0 x1 x2 x3,
     kernelRun0_A.sl.r_570 c arg0 harg0 arg1 harg1 arg2 harg2 arg3 harg3 arg5 x0 x1 x2 x3,
     kernelRun0_A.sl.r_576 c arg0 harg0 arg1 harg1 arg2 harg2 arg3 harg3 arg5 x0 x1 x2 x3,
     kernelRun0_A.sl.r_581 c arg0 harg0 arg1 harg1 arg2 harg2 arg3 harg3 arg5 x0 x1 x2 x3,
     kernelRun0_A.sl.r_587 c arg0 harg0 arg1 harg1 arg2 harg2 arg3 harg3 arg5 x0 x1 x2 x3,
     kernelRun0_A.sl.r_599 c arg0 harg0 arg1 harg1 arg2 harg2 arg3 harg3 arg5 x0 x1 x2 x3,
     kernelRun0_A.sl.r_606 c arg0 harg0 arg1 harg1 arg2 harg2 arg3 harg3 arg5 x0 x1 x2 x3,
     kernelRun0_A.sl.r_613 c arg0 harg0 arg1 harg1 arg2 harg2 arg3 harg3 arg5 x0 x1 x2 x3,
     kernelRun0_A.sl.r_620 c arg0 harg0 arg1 harg1 arg2 harg2 arg3 harg3 arg5 x0 x1 x2 x3,
     kernelRun0_A.sl.r_627 c arg0 harg0 arg1 harg1 arg2 harg2 arg3 harg3 arg5 x0 x1 x2 x3,
     kernelRun0_A.sl.r_635 c arg0 harg0 arg1 harg1 arg2 harg2 arg3 harg3 arg5 x0 x1 x2 x3,
     kernelRun0_A.sl.r_642 c arg0 harg0 arg1 harg1 arg2 harg2 arg3 harg3 arg5 x0 x1 x2 x3,
     kernelRun0_A.sl.r_647 c arg0 harg0 arg1 harg1 arg2 harg2 arg3 harg3 arg5 x0 x1 x2 x3,
     kernelRun0_A.sl.r_656 c arg0 harg0 arg1 harg1 arg2 harg2 arg3 harg3 arg5 x0 x1 x2 x3,
     kernelRun0_A.sl.r_663 c arg0 harg0 arg1 harg1 arg2 harg2 arg3 harg3 arg5 x0 x1 x2 x3,
     kernelRun0_A.sl.r_669 c arg0 harg0 arg1 harg1 arg2 harg2 arg3 harg3 arg5 x0 x1 x2 x3,
     kernelRun0_A.sl.r_676 c arg0 harg0 arg1 harg1 arg2 harg2 arg3 harg3 arg5 x0 x1 x2 x3,
     kernelRun0_A.sl.r_683 c arg0 harg0 arg1 harg1 arg2 harg2 arg3 harg3 arg5 x0 x1 x2 x3,
     kernelRun0_A.sl.r_690 c arg0 harg0 arg1 harg1 arg2 harg2 arg3 harg3 arg5 x0 x1 x2 x3,
     kernelRun0_A.sl.r_697 c arg0 harg0 arg1 harg1 arg2 harg2 arg3 harg3 arg5 x0 x1 x2 x3,
     kernelRun0_A.sl.r_704 c arg0 harg0 arg1 harg1 arg2 harg2 arg3 harg3 arg5 x0 x1 x2 x3,
     kernelRun0_A.sl.r_712 c arg0 harg0 arg1 harg1 arg2 harg2 arg3 harg3 arg5 x0 x1 x2 x3]

/-- The depressions before the 97 times, as the body names them. -/
def depNames : List (IVec S1x2304 32) :=
    [k0_pay27,
     kernelRun0_A.sl.r_5 c arg0 harg0 arg1 harg1 arg2 harg2 arg3 harg3 arg5 x0 x1 x2 x3,
     kernelRun0_A.sl.r_12 c arg0 harg0 arg1 harg1 arg2 harg2 arg3 harg3 arg5 x0 x1 x2 x3,
     kernelRun0_A.sl.r_21 c arg0 harg0 arg1 harg1 arg2 harg2 arg3 harg3 arg5 x0 x1 x2 x3,
     kernelRun0_A.sl.r_28 c arg0 harg0 arg1 harg1 arg2 harg2 arg3 harg3 arg5 x0 x1 x2 x3,
     kernelRun0_A.sl.r_35 c arg0 harg0 arg1 harg1 arg2 harg2 arg3 harg3 arg5 x0 x1 x2 x3,
     kernelRun0_A.sl.r_41 c arg0 harg0 arg1 harg1 arg2 harg2 arg3 harg3 arg5 x0 x1 x2 x3,
     kernelRun0_A.sl.r_48 c arg0 harg0 arg1 harg1 arg2 harg2 arg3 harg3 arg5 x0 x1 x2 x3,
     kernelRun0_A.sl.r_55 c arg0 harg0 arg1 harg1 arg2 harg2 arg3 harg3 arg5 x0 x1 x2 x3,
     kernelRun0_A.sl.r_64 c arg0 harg0 arg1 harg1 arg2 harg2 arg3 harg3 arg5 x0 x1 x2 x3,
     kernelRun0_A.sl.r_72 c arg0 harg0 arg1 harg1 arg2 harg2 arg3 harg3 arg5 x0 x1 x2 x3,
     kernelRun0_A.sl.r_79 c arg0 harg0 arg1 harg1 arg2 harg2 arg3 harg3 arg5 x0 x1 x2 x3,
     kernelRun0_A.sl.r_86 c arg0 harg0 arg1 harg1 arg2 harg2 arg3 harg3 arg5 x0 x1 x2 x3,
     kernelRun0_A.sl.r_95 c arg0 harg0 arg1 harg1 arg2 harg2 arg3 harg3 arg5 x0 x1 x2 x3,
     kernelRun0_A.sl.r_102 c arg0 harg0 arg1 harg1 arg2 harg2 arg3 harg3 arg5 x0 x1 x2 x3,
     kernelRun0_A.sl.r_109 c arg0 harg0 arg1 harg1 arg2 harg2 arg3 harg3 arg5 x0 x1 x2 x3,
     kernelRun0_A.sl.r_115 c arg0 harg0 arg1 harg1 arg2 harg2 arg3 harg3 arg5 x0 x1 x2 x3,
     kernelRun0_A.sl.r_124 c arg0 harg0 arg1 harg1 arg2 harg2 arg3 harg3 arg5 x0 x1 x2 x3,
     kernelRun0_A.sl.r_132 c arg0 harg0 arg1 harg1 arg2 harg2 arg3 harg3 arg5 x0 x1 x2 x3,
     kernelRun0_A.sl.r_140 c arg0 harg0 arg1 harg1 arg2 harg2 arg3 harg3 arg5 x0 x1 x2 x3,
     kernelRun0_A.sl.r_147 c arg0 harg0 arg1 harg1 arg2 harg2 arg3 harg3 arg5 x0 x1 x2 x3,
     kernelRun0_A.sl.r_154 c arg0 harg0 arg1 harg1 arg2 harg2 arg3 harg3 arg5 x0 x1 x2 x3,
     kernelRun0_A.sl.r_163 c arg0 harg0 arg1 harg1 arg2 harg2 arg3 harg3 arg5 x0 x1 x2 x3,
     kernelRun0_A.sl.r_170 c arg0 harg0 arg1 harg1 arg2 harg2 arg3 harg3 arg5 x0 x1 x2 x3,
     kernelRun0_A.sl.r_177 c arg0 harg0 arg1 harg1 arg2 harg2 arg3 harg3 arg5 x0 x1 x2 x3,
     kernelRun0_A.sl.r_186 c arg0 harg0 arg1 harg1 arg2 harg2 arg3 harg3 arg5 x0 x1 x2 x3,
     kernelRun0_A.sl.r_193 c arg0 harg0 arg1 harg1 arg2 harg2 arg3 harg3 arg5 x0 x1 x2 x3,
     kernelRun0_A.sl.r_201 c arg0 harg0 arg1 harg1 arg2 harg2 arg3 harg3 arg5 x0 x1 x2 x3,
     kernelRun0_A.sl.r_209 c arg0 harg0 arg1 harg1 arg2 harg2 arg3 harg3 arg5 x0 x1 x2 x3,
     kernelRun0_A.sl.r_217 c arg0 harg0 arg1 harg1 arg2 harg2 arg3 harg3 arg5 x0 x1 x2 x3,
     kernelRun0_A.sl.r_224 c arg0 harg0 arg1 harg1 arg2 harg2 arg3 harg3 arg5 x0 x1 x2 x3,
     kernelRun0_A.sl.r_231 c arg0 harg0 arg1 harg1 arg2 harg2 arg3 harg3 arg5 x0 x1 x2 x3,
     kernelRun0_A.sl.r_240 c arg0 harg0 arg1 harg1 arg2 harg2 arg3 harg3 arg5 x0 x1 x2 x3,
     kernelRun0_A.sl.r_249 c arg0 harg0 arg1 harg1 arg2 harg2 arg3 harg3 arg5 x0 x1 x2 x3,
     kernelRun0_A.sl.r_257 c arg0 harg0 arg1 harg1 arg2 harg2 arg3 harg3 arg5 x0 x1 x2 x3,
     kernelRun0_A.sl.r_264 c arg0 harg0 arg1 harg1 arg2 harg2 arg3 harg3 arg5 x0 x1 x2 x3,
     kernelRun0_A.sl.r_272 c arg0 harg0 arg1 harg1 arg2 harg2 arg3 harg3 arg5 x0 x1 x2 x3,
     kernelRun0_A.sl.r_280 c arg0 harg0 arg1 harg1 arg2 harg2 arg3 harg3 arg5 x0 x1 x2 x3,
     kernelRun0_A.sl.r_288 c arg0 harg0 arg1 harg1 arg2 harg2 arg3 harg3 arg5 x0 x1 x2 x3,
     kernelRun0_A.sl.r_295 c arg0 harg0 arg1 harg1 arg2 harg2 arg3 harg3 arg5 x0 x1 x2 x3,
     kernelRun0_A.sl.r_302 c arg0 harg0 arg1 harg1 arg2 harg2 arg3 harg3 arg5 x0 x1 x2 x3,
     kernelRun0_A.sl.r_309 c arg0 harg0 arg1 harg1 arg2 harg2 arg3 harg3 arg5 x0 x1 x2 x3,
     kernelRun0_A.sl.r_317 c arg0 harg0 arg1 harg1 arg2 harg2 arg3 harg3 arg5 x0 x1 x2 x3,
     kernelRun0_A.sl.r_325 c arg0 harg0 arg1 harg1 arg2 harg2 arg3 harg3 arg5 x0 x1 x2 x3,
     kernelRun0_A.sl.r_333 c arg0 harg0 arg1 harg1 arg2 harg2 arg3 harg3 arg5 x0 x1 x2 x3,
     kernelRun0_A.sl.r_340 c arg0 harg0 arg1 harg1 arg2 harg2 arg3 harg3 arg5 x0 x1 x2 x3,
     kernelRun0_A.sl.r_348 c arg0 harg0 arg1 harg1 arg2 harg2 arg3 harg3 arg5 x0 x1 x2 x3,
     kernelRun0_A.sl.r_356 c arg0 harg0 arg1 harg1 arg2 harg2 arg3 harg3 arg5 x0 x1 x2 x3,
     kernelRun0_A.sl.r_364 c arg0 harg0 arg1 harg1 arg2 harg2 arg3 harg3 arg5 x0 x1 x2 x3,
     kernelRun0_A.sl.r_370 c arg0 harg0 arg1 harg1 arg2 harg2 arg3 harg3 arg5 x0 x1 x2 x3,
     kernelRun0_A.sl.r_375 c arg0 harg0 arg1 harg1 arg2 harg2 arg3 harg3 arg5 x0 x1 x2 x3,
     kernelRun0_A.sl.r_383 c arg0 harg0 arg1 harg1 arg2 harg2 arg3 harg3 arg5 x0 x1 x2 x3,
     kernelRun0_A.sl.r_391 c arg0 harg0 arg1 harg1 arg2 harg2 arg3 harg3 arg5 x0 x1 x2 x3,
     kernelRun0_A.sl.r_399 c arg0 harg0 arg1 harg1 arg2 harg2 arg3 harg3 arg5 x0 x1 x2 x3,
     kernelRun0_A.sl.r_406 c arg0 harg0 arg1 harg1 arg2 harg2 arg3 harg3 arg5 x0 x1 x2 x3,
     kernelRun0_A.sl.r_414 c arg0 harg0 arg1 harg1 arg2 harg2 arg3 harg3 arg5 x0 x1 x2 x3,
     kernelRun0_A.sl.r_422 c arg0 harg0 arg1 harg1 arg2 harg2 arg3 harg3 arg5 x0 x1 x2 x3,
     kernelRun0_A.sl.r_431 c arg0 harg0 arg1 harg1 arg2 harg2 arg3 harg3 arg5 x0 x1 x2 x3,
     kernelRun0_A.sl.r_437 c arg0 harg0 arg1 harg1 arg2 harg2 arg3 harg3 arg5 x0 x1 x2 x3,
     kernelRun0_A.sl.r_442 c arg0 harg0 arg1 harg1 arg2 harg2 arg3 harg3 arg5 x0 x1 x2 x3,
     kernelRun0_A.sl.r_448 c arg0 harg0 arg1 harg1 arg2 harg2 arg3 harg3 arg5 x0 x1 x2 x3,
     kernelRun0_A.sl.r_456 c arg0 harg0 arg1 harg1 arg2 harg2 arg3 harg3 arg5 x0 x1 x2 x3,
     kernelRun0_A.sl.r_464 c arg0 harg0 arg1 harg1 arg2 harg2 arg3 harg3 arg5 x0 x1 x2 x3,
     kernelRun0_A.sl.r_472 c arg0 harg0 arg1 harg1 arg2 harg2 arg3 harg3 arg5 x0 x1 x2 x3,
     kernelRun0_A.sl.r_479 c arg0 harg0 arg1 harg1 arg2 harg2 arg3 harg3 arg5 x0 x1 x2 x3,
     kernelRun0_A.sl.r_489 c arg0 harg0 arg1 harg1 arg2 harg2 arg3 harg3 arg5 x0 x1 x2 x3,
     kernelRun0_A.sl.r_497 c arg0 harg0 arg1 harg1 arg2 harg2 arg3 harg3 arg5 x0 x1 x2 x3,
     kernelRun0_A.sl.r_504 c arg0 harg0 arg1 harg1 arg2 harg2 arg3 harg3 arg5 x0 x1 x2 x3,
     kernelRun0_A.sl.r_509 c arg0 harg0 arg1 harg1 arg2 harg2 arg3 harg3 arg5 x0 x1 x2 x3,
     kernelRun0_A.sl.r_514 c arg0 harg0 arg1 harg1 arg2 harg2 arg3 harg3 arg5 x0 x1 x2 x3,
     kernelRun0_A.sl.r_522 c arg0 harg0 arg1 harg1 arg2 harg2 arg3 harg3 arg5 x0 x1 x2 x3,
     kernelRun0_A.sl.r_530 c arg0 harg0 arg1 harg1 arg2 harg2 arg3 harg3 arg5 x0 x1 x2 x3,
     kernelRun0_A.sl.r_538 c arg0 harg0 arg1 harg1 arg2 harg2 arg3 harg3 arg5 x0 x1 x2 x3,
     kernelRun0_A.sl.r_548 c arg0 harg0 arg1 harg1 arg2 harg2 arg3 harg3 arg5 x0 x1 x2 x3,
     kernelRun0_A.sl.r_555 c arg0 harg0 arg1 harg1 arg2 harg2 arg3 harg3 arg5 x0 x1 x2 x3,
     kernelRun0_A.sl.r_562 c arg0 harg0 arg1 harg1 arg2 harg2 arg3 harg3 arg5 x0 x1 x2 x3,
     kernelRun0_A.sl.r_569 c arg0 harg0 arg1 harg1 arg2 harg2 arg3 harg3 arg5 x0 x1 x2 x3,
     kernelRun0_A.sl.r_575 c arg0 harg0 arg1 harg1 arg2 harg2 arg3 harg3 arg5 x0 x1 x2 x3,
     kernelRun0_A.sl.r_580 c arg0 harg0 arg1 harg1 arg2 harg2 arg3 harg3 arg5 x0 x1 x2 x3,
     kernelRun0_A.sl.r_586 c arg0 harg0 arg1 harg1 arg2 harg2 arg3 harg3 arg5 x0 x1 x2 x3,
     kernelRun0_A.sl.r_594 c arg0 harg0 arg1 harg1 arg2 harg2 arg3 harg3 arg5 x0 x1 x2 x3,
     kernelRun0_A.sl.r_605 c arg0 harg0 arg1 harg1 arg2 harg2 arg3 harg3 arg5 x0 x1 x2 x3,
     kernelRun0_A.sl.r_612 c arg0 harg0 arg1 harg1 arg2 harg2 arg3 harg3 arg5 x0 x1 x2 x3,
     kernelRun0_A.sl.r_619 c arg0 harg0 arg1 harg1 arg2 harg2 arg3 harg3 arg5 x0 x1 x2 x3,
     kernelRun0_A.sl.r_626 c arg0 harg0 arg1 harg1 arg2 harg2 arg3 harg3 arg5 x0 x1 x2 x3,
     kernelRun0_A.sl.r_634 c arg0 harg0 arg1 harg1 arg2 harg2 arg3 harg3 arg5 x0 x1 x2 x3,
     kernelRun0_A.sl.r_641 c arg0 harg0 arg1 harg1 arg2 harg2 arg3 harg3 arg5 x0 x1 x2 x3,
     kernelRun0_A.sl.r_646 c arg0 harg0 arg1 harg1 arg2 harg2 arg3 harg3 arg5 x0 x1 x2 x3,
     kernelRun0_A.sl.r_651 c arg0 harg0 arg1 harg1 arg2 harg2 arg3 harg3 arg5 x0 x1 x2 x3,
     kernelRun0_A.sl.r_662 c arg0 harg0 arg1 harg1 arg2 harg2 arg3 harg3 arg5 x0 x1 x2 x3,
     kernelRun0_A.sl.r_668 c arg0 harg0 arg1 harg1 arg2 harg2 arg3 harg3 arg5 x0 x1 x2 x3,
     kernelRun0_A.sl.r_675 c arg0 harg0 arg1 harg1 arg2 harg2 arg3 harg3 arg5 x0 x1 x2 x3,
     kernelRun0_A.sl.r_682 c arg0 harg0 arg1 harg1 arg2 harg2 arg3 harg3 arg5 x0 x1 x2 x3,
     kernelRun0_A.sl.r_689 c arg0 harg0 arg1 harg1 arg2 harg2 arg3 harg3 arg5 x0 x1 x2 x3,
     kernelRun0_A.sl.r_696 c arg0 harg0 arg1 harg1 arg2 harg2 arg3 harg3 arg5 x0 x1 x2 x3,
     kernelRun0_A.sl.r_703 c arg0 harg0 arg1 harg1 arg2 harg2 arg3 harg3 arg5 x0 x1 x2 x3,
     kernelRun0_A.sl.r_709 c arg0 harg0 arg1 harg1 arg2 harg2 arg3 harg3 arg5 x0 x1 x2 x3]

/-- The named potentials are those of the 97 times. -/
theorem potNames_eq : potNames c arg0 harg0 arg1 harg1 arg2 harg2 arg3 harg3 arg5 x0 x1 x2 x3 = (List.range 97).map (pots
      (View.readAt (Elt F) arg1.view (Rect.unit ![0, 0] S32x864.size inb_S32x864_S32x864_0_0).toLoadRect (harg1.unread x1))
      (View.readAt (Elt F) arg2.view (Rect.unit ![0, 0] S32x1.size inb_S32x1_S32x1_0_0).toLoadRect (harg2.unread x2))
      (View.readAt (Elt F) arg3.view (Rect.unit ![0, 0] S1x864.size inb_S1x864_S1x864_0_0).toLoadRect (harg3.unread x3))
      (kernelRun0_A.sl.v128 c arg0 harg0 arg5 x0)) := by
  chain_rfl

/-- Every named depression is the step's, of the potentials and the depression before it. -/
theorem depNames_eq : (depNames c arg0 harg0 arg1 harg1 arg2 harg2 arg3 harg3 arg5 x0 x1 x2 x3).tail = (List.zipWith next (potNames c arg0 harg0 arg1 harg1 arg2 harg2 arg3 harg3 arg5 x0 x1 x2 x3)
    (depNames c arg0 harg0 arg1 harg1 arg2 harg2 arg3 harg3 arg5 x0 x1 x2 x3)).take 96 := by
  chain_rfl

/-- The pieces of the first `n` rows of the winners' array, the last first, for potentials `p` and depressions `d`. -/
def pieces (p : ℕ → FVec F S32x2304 .f32) (d : ℕ → IVec S1x2304 32) (n : ℕ) (h : n ≤ 97) :
    List (View.Piece (Elt F) S97x2304 .i32) :=
  Nat.rec (motive := fun n => n ≤ 97 → List (View.Piece (Elt F) S97x2304 .i32)) (fun _ => [])
    (fun n l h => ⟨Rect.unit (s := S97x2304) ![n, 0] S1x2304.size (inb_row n h), code (p n) (d n)⟩ :: l (Nat.le_of_succ_le h)) n h

/-- The body's stores into the winners' array are the 97 rows of the named potentials and depressions. -/
theorem stores_eq : kernelRun0_A.sl.HS1_97 c arg0 harg0 arg1 harg1 arg2 harg2 arg3 harg3 arg5 x0 x1 x2 x3 =
    pieces (fun n => (potNames c arg0 harg0 arg1 harg1 arg2 harg2 arg3 harg3 arg5 x0 x1 x2 x3).getD n (k0_pay29 x1 x2 x3 (kernelRun0_A.sl.v128 c arg0 harg0 arg5 x0)))
      (fun n => (depNames c arg0 harg0 arg1 harg1 arg2 harg2 arg3 harg3 arg5 x0 x1 x2 x3).getD n k0_pay27) 97 le_rfl := by
  chain_rfl

end Cert.KernelIdeal.Steps

end
-- ==== Proof.KernelScratch.lean ====
/- The scratch the kernel's products read: for each of the 18 taps (a channel of the input, a row and a column of the window) the
   input's field at the tap's offset, next to one another along the last axis; zero at the padded places. -/
module

public import proofs.«01_k».proof.Proof.KernelRows
public import Idealize.ShloMosaic.Lib.Pointwise
public import Idealize.ShloMosaic.Lib.WritesUnit
public import Idealize.ShloMosaic.Lib.VecWindow
public import Idealize.ShloMosaic.Lib.WholeRead

@[expose] public section

set_option maxRecDepth 16384

noncomputable section

namespace Cert.KernelIdeal.Steps

open Idealize.ShloMosaic Idealize.ShloMosaic.TcCoe Cert.KernelIdeal Cert.KernelIdeal.Gen Idealize.SL.Sem

variable {F : FTy → Type} [FloatOps F]

/-- Where tap `c` starts in the input, which the host has split by the parities of row and column. -/
def source (c : ℕ) : Fin 6 → ℕ := ![0, c / 9, c / 3 % 3 % 2, c / 3 % 3 / 2, c % 3 / 2, 48 * (c % 3 % 2)]

theorem inb_source (c : ℕ) (h : c < 18) : ∀ a, source c a + S4x1x1x23x23x48.size a ≤ S4x2x2x24x24x96.size a := by
  have all : ∀ c : Fin 18, ∀ a, source c.1 a + S4x1x1x23x23x48.size a ≤ S4x2x2x24x24x96.size a := by decide
  exact all ⟨c, h⟩

theorem inb_target (c : ℕ) (h : c < 18) : ∀ a, (![0, 0, 0, 48 * c] : Fin 4 → ℕ) a + S4x23x23x48.size a ≤ S4x24x24x864.size a := by
  have all : ∀ c : Fin 18, ∀ a, (![0, 0, 0, 48 * c.1] : Fin 4 → ℕ) a + S4x23x23x48.size a ≤ S4x24x24x864.size a := by decide
  exact all ⟨c, h⟩

variable (arg0 : Memref sig .tc .vmem S4x2x2x24x24x96 .f32) (harg0 : arg0.IsWhole) (x0 : Vec F S4x2x2x24x24x96 .f32)

/-- The stores into the scratch: the fill with zeros and after it the first `n` taps, the last first. -/
def taps (n : ℕ) (h : n ≤ 18) : List (View.Piece (Elt F) S4x24x24x864 .f32) :=
  Nat.rec (motive := fun n => n ≤ 18 → List (View.Piece (Elt F) S4x24x24x864 .f32))
    (fun _ => [⟨Rect.unit (s := S4x24x24x864) ![0, 0, 0, 0] S4x24x24x864.size inb_S4x24x24x864_S4x24x24x864_0_0_0_0, k0_pay3⟩])
    (fun c l h => ⟨Rect.unit (s := S4x24x24x864) ![0, 0, 0, 48 * c] S4x23x23x48.size (inb_target c h),
      k0_pay4 (View.readAt (Elt F) arg0.view (Rect.unit (s := S4x2x2x24x24x96) (source c) S4x1x1x23x23x48.size (inb_source c h)).toLoadRect (harg0.unread x0))⟩
        :: l (Nat.le_of_succ_le h)) n h

theorem taps_eq (c : Dev nD) : kernelRun0_A.sl.HS0_19 c arg0 harg0 x0 = taps arg0 harg0 x0 18 le_rfl := by
  chain_rfl

/-- One tap at one place and one time. -/
theorem tap_apply (c : ℕ) (h : c < 18) (b : Fin 4) (x y : Fin 23) (t : Fin 48) :
    k0_pay4 (View.readAt (Elt F) arg0.view (Rect.unit (s := S4x2x2x24x24x96) (source c) S4x1x1x23x23x48.size (inb_source c h)).toLoadRect (harg0.unread x0))
        (ix4 b x y t)
      = x0 (ix6 b ⟨c / 9, by omega⟩ ⟨c / 3 % 3 % 2, by omega⟩ ⟨c / 3 % 3 / 2 + x.val, by omega⟩ ⟨c % 3 / 2 + y.val, by omega⟩
          ⟨48 * (c % 3 % 2) + t.val, by omega⟩) := by
  pointwise [k0_pay4]
  refine (harg0.readAt_unread x0 _ _).trans (congrArg x0 (funext fun a => Fin.ext ?_))
  match a with
  | ⟨0, _⟩ => show 0 + 1 * b.val = b.val; omega
  | ⟨1, _⟩ => show c / 9 + 1 * 0 = c / 9; omega
  | ⟨2, _⟩ => show c / 3 % 3 % 2 + 1 * 0 = c / 3 % 3 % 2; omega
  | ⟨3, _⟩ => show c / 3 % 3 / 2 + 1 * x.val = c / 3 % 3 / 2 + x.val; omega
  | ⟨4, _⟩ => show c % 3 / 2 + 1 * y.val = c % 3 / 2 + y.val; omega
  | ⟨5, _⟩ => show 48 * (c % 3 % 2) + 1 * t.val = 48 * (c % 3 % 2) + t.val; omega

/-- The stores at one element: the tap's value at a place that is a position, the fill elsewhere. -/
theorem taps_apply (v : View sig .tc .vmem S4x24x24x864 .f32) (n : ℕ) (h : n ≤ 18) (b : Fin 4) (x y : Fin 24) (k : Fin 864) :
    v.read (Elt F) (v.writes (Elt F) v.junk (taps arg0 harg0 x0 n h)) (ix4 b x y k)
      = if g : x.val < 23 ∧ y.val < 23 ∧ k.val < 48 * n then
          x0 (ix6 b ⟨k.val / 48 / 9, by omega⟩ ⟨k.val / 48 / 3 % 3 % 2, by omega⟩ ⟨k.val / 48 / 3 % 3 / 2 + x.val, by omega⟩
            ⟨k.val / 48 % 3 / 2 + y.val, by omega⟩ ⟨48 * (k.val / 48 % 3 % 2) + k.val % 48, by omega⟩)
        else FloatOps.ofBits .f32 0x00000000#32 := by
  induction n with
  | zero =>
    rw [dif_neg (by omega)]
    refine (View.read_writes_cons_unit_of_mem v v.junk _ _ _ _ (ix4 b x y k) rfl ?_).trans ?_
    · intro a
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
    · pointwise [k0_pay3]
  | succ n ih =>
    have e : taps arg0 harg0 x0 (n + 1) h = ⟨Rect.unit (s := S4x24x24x864) ![0, 0, 0, 48 * n] S4x23x23x48.size (inb_target n h),
      k0_pay4 (View.readAt (Elt F) arg0.view (Rect.unit (s := S4x2x2x24x24x96) (source n) S4x1x1x23x23x48.size (inb_source n h)).toLoadRect
        (harg0.unread x0))⟩ :: taps arg0 harg0 x0 n (Nat.le_of_succ_le h) := rfl
    rw [e]
    by_cases g : x.val < 23 ∧ y.val < 23 ∧ 48 * n ≤ k.val ∧ k.val < 48 * n + 48
    · rw [dif_pos ⟨g.1, g.2.1, by omega⟩]
      refine (View.read_writes_cons_unit_of_mem v v.junk _ _ _ _
        (ix4 b ⟨x.val, g.1⟩ ⟨y.val, g.2.1⟩ (⟨k.val - 48 * n, by omega⟩ : Fin 48) : S4x23x23x48.Idx) rfl ?_).trans ?_
      · intro a
        match a with
        | ⟨0, _⟩ => exact (Nat.zero_add _).symm
        | ⟨1, _⟩ => exact (Nat.zero_add _).symm
        | ⟨2, _⟩ => exact (Nat.zero_add _).symm
        | ⟨3, _⟩ => show k.val = 48 * n + (k.val - 48 * n); omega
      · refine (tap_apply arg0 harg0 x0 n h b ⟨x.val, g.1⟩ ⟨y.val, g.2.1⟩ ⟨k.val - 48 * n, by omega⟩).trans ?_
        have hn : n = k.val / 48 := by omega
        subst hn
        congr 2
        exact Fin.ext (by show _ + (k.val - 48 * (k.val / 48)) = _ + k.val % 48; omega)
    · have out : v.read (Elt F) (v.writes (Elt F) v.junk
          (⟨Rect.unit (s := S4x24x24x864) ![0, 0, 0, 48 * n] S4x23x23x48.size (inb_target n h),
            k0_pay4 (View.readAt (Elt F) arg0.view (Rect.unit (s := S4x2x2x24x24x96) (source n) S4x1x1x23x23x48.size (inb_source n h)).toLoadRect
              (harg0.unread x0))⟩ :: taps arg0 harg0 x0 n (Nat.le_of_succ_le h))) (ix4 b x y k)
          = v.read (Elt F) (v.writes (Elt F) v.junk (taps arg0 harg0 x0 n (Nat.le_of_succ_le h))) (ix4 b x y k) := by
        by_cases hx : x.val < 23
        · by_cases hy : y.val < 23
          · refine View.read_writes_cons_unit_of_not_mem v v.junk _ _ _ _ rfl 3 ?_
            show k.val < 48 * n ∨ 48 * n + 48 ≤ k.val
            omega
          · refine View.read_writes_cons_unit_of_not_mem v v.junk _ _ _ _ rfl 2 (.inr ?_)
            show 0 + 23 ≤ y.val
            omega
        · refine View.read_writes_cons_unit_of_not_mem v v.junk _ _ _ _ rfl 1 (.inr ?_)
          show 0 + 23 ≤ x.val
          omega
      rw [out, ih]
      by_cases g' : x.val < 23 ∧ y.val < 23 ∧ k.val < 48 * n
      · rw [dif_pos g', dif_pos ⟨g'.1, g'.2.1, by omega⟩]
      · rw [dif_neg g', dif_neg (by omega)]

/-- The scratch at one place and one time of one tap. -/
theorem scratch_apply (c : Dev nD) (arg5 : Memref sig .tc .vmem S4x24x24x864 .f32) (b : Fin 4) (x y : Fin 24) (k : Fin 864) :
    kernelRun0_A.sl.v128 c arg0 harg0 arg5 x0 (ix4 b x y k)
      = if g : x.val < 23 ∧ y.val < 23 then
          x0 (ix6 b ⟨k.val / 48 / 9, by omega⟩ ⟨k.val / 48 / 3 % 3 % 2, by omega⟩ ⟨k.val / 48 / 3 % 3 / 2 + x.val, by omega⟩
            ⟨k.val / 48 % 3 / 2 + y.val, by omega⟩ ⟨48 * (k.val / 48 % 3 % 2) + k.val % 48, by omega⟩)
        else FloatOps.ofBits .f32 0x00000000#32 := by
  unfold kernelRun0_A.sl.v128
  rw [taps_eq]
  unfold View.readCov
  rw [View.readAt_full]
  refine (taps_apply arg0 harg0 x0 arg5.view 18 le_rfl b x y k).trans ?_
  by_cases g : x.val < 23 ∧ y.val < 23
  · rw [dif_pos g, dif_pos ⟨g.1, g.2, by omega⟩]
  · rw [dif_neg g, dif_neg (by omega)]

end Cert.KernelIdeal.Steps

end
-- ==== Proof.KernelCodes.lean ====
/- What the winners' array holds after the kernel's stores, and so the result the body stores: at each time the codes of the
   iterated step. -/
module

public import proofs.«01_k».proof.Proof.KernelScratch

@[expose] public section

set_option maxRecDepth 16384

noncomputable section

namespace Cert.KernelIdeal.Steps

open Idealize.ShloMosaic Idealize.ShloMosaic.TcCoe Cert.KernelIdeal Cert.KernelIdeal.Gen Idealize.SL.Sem

variable {F : FTy → Type} [FloatOps F]

/-- Two lists of rows with the same potentials and depressions at their times are the same. -/
theorem pieces_congr {p p' : ℕ → FVec F S32x2304 .f32} {d d' : ℕ → IVec S1x2304 32} (n : ℕ) (h : n ≤ 97)
    (hp : ∀ i < n, p i = p' i) (hd : ∀ i < n, d i = d' i) : pieces p d n h = pieces p' d' n h := by
  induction n with
  | zero => rfl
  | succ n ih =>
    show (⟨Rect.unit (s := S97x2304) ![n, 0] S1x2304.size (inb_row n h), code (p n) (d n)⟩ : View.Piece (Elt F) S97x2304 .i32)
        :: pieces p d n (Nat.le_of_succ_le h) = ⟨Rect.unit (s := S97x2304) ![n, 0] S1x2304.size (inb_row n h), code (p' n) (d' n)⟩
        :: pieces p' d' n (Nat.le_of_succ_le h)
    rw [hp n (Nat.lt_succ_self n), hd n (Nat.lt_succ_self n),
      ih (Nat.le_of_succ_le h) (fun i hi => hp i (Nat.lt_succ_of_lt hi)) (fun i hi => hd i (Nat.lt_succ_of_lt hi))]

/-- A row of the stored rows at one lane. -/
theorem pieces_apply (v : View sig .tc .vmem S97x2304 .i32) (p : ℕ → FVec F S32x2304 .f32) (d : ℕ → IVec S1x2304 32) (n : ℕ) (h : n ≤ 97)
    (τ : Fin 97) (hτ : τ.val < n) (l : Fin 2304) :
    v.read (Elt F) (v.writes (Elt F) v.junk (pieces p d n h)) (ix2 τ l) = code (p τ.val) (d τ.val) (ix2 0 l) := by
  induction n with
  | zero => omega
  | succ n ih =>
    have e : pieces p d (n + 1) h = (⟨Rect.unit (s := S97x2304) ![n, 0] S1x2304.size (inb_row n h), code (p n) (d n)⟩ :
      View.Piece (Elt F) S97x2304 .i32) :: pieces p d n (Nat.le_of_succ_le h) := rfl
    rw [e]
    by_cases g : τ.val = n
    · subst g
      refine View.read_writes_cons_unit_of_mem v v.junk _ _ _ _ (ix2 0 l : S1x2304.Idx) rfl ?_
      intro a
      match a with
      | ⟨0, _⟩ => rfl
      | ⟨1, _⟩ => exact (Nat.zero_add _).symm
    · refine (View.read_writes_cons_unit_of_not_mem v v.junk _ _ _ _ rfl 0 (.inl ?_)).trans (ih (Nat.le_of_succ_le h) (by omega))
      show τ.val < n
      omega

variable (c : Dev nD) (arg0 : Memref sig .tc .vmem S4x2x2x24x24x96 .f32) (harg0 : arg0.IsWhole) (arg1 : Memref sig .tc .vmem S32x864 .f32) (harg1 : arg1.IsWhole) (arg2 : Memref sig .tc .vmem S32x1 .f32) (harg2 : arg2.IsWhole) (arg3 : Memref sig .tc .vmem S1x864 .f32) (harg3 : arg3.IsWhole) (arg5 : Memref sig .tc .vmem S4x24x24x864 .f32)
  (x0 : Vec F S4x2x2x24x24x96 .f32) (x1 : Vec F S32x864 .f32) (x2 : Vec F S32x1 .f32) (x3 : Vec F S1x864 .f32)

/-- The named potentials are those of the iterated step, -/
theorem pots_named (τ : ℕ) (h : τ < 97) (z : FVec F S32x2304 .f32) :
    (potNames c arg0 harg0 arg1 harg1 arg2 harg2 arg3 harg3 arg5 x0 x1 x2 x3).getD τ z
      = pots x1 x2 x3 (kernelRun0_A.sl.v128 c arg0 harg0 arg5 x0) τ := by
  rw [potNames_eq]
  have e1 : View.readAt (Elt F) arg1.view (Rect.unit ![0, 0] S32x864.size inb_S32x864_S32x864_0_0).toLoadRect (harg1.unread x1) = x1 :=
    (View.readAt_full _ _ _).trans (harg1.read_unread x1)
  have e2 : View.readAt (Elt F) arg2.view (Rect.unit ![0, 0] S32x1.size inb_S32x1_S32x1_0_0).toLoadRect (harg2.unread x2) = x2 :=
    (View.readAt_full _ _ _).trans (harg2.read_unread x2)
  have e3 : View.readAt (Elt F) arg3.view (Rect.unit ![0, 0] S1x864.size inb_S1x864_S1x864_0_0).toLoadRect (harg3.unread x3) = x3 :=
    (View.readAt_full _ _ _).trans (harg3.read_unread x3)
  rw [e1, e2, e3, List.getD_eq_getElem?_getD, List.getElem?_map, List.getElem?_range h]
  rfl

/-- and so are the named depressions. -/
theorem dep_named (τ : ℕ) (h : τ < 97) :
    (depNames c arg0 harg0 arg1 harg1 arg2 harg2 arg3 harg3 arg5 x0 x1 x2 x3).getD τ k0_pay27
      = dep x1 x2 x3 (kernelRun0_A.sl.v128 c arg0 harg0 arg5 x0) τ := by
  have hl : (depNames c arg0 harg0 arg1 harg1 arg2 harg2 arg3 harg3 arg5 x0 x1 x2 x3).length = 97 := rfl
  have hp : (potNames c arg0 harg0 arg1 harg1 arg2 harg2 arg3 harg3 arg5 x0 x1 x2 x3).length = 97 := rfl
  induction τ with
  | zero => rfl
  | succ τ ih =>
    have ih' := ih (by omega)
    have e := congrArg (fun L => L.getD τ k0_pay27) (depNames_eq c arg0 harg0 arg1 harg1 arg2 harg2 arg3 harg3 arg5 x0 x1 x2 x3)
    have hq := pots_named c arg0 harg0 arg1 harg1 arg2 harg2 arg3 harg3 arg5 x0 x1 x2 x3 τ (by omega) (k0_pay29 x1 x2 x3 (kernelRun0_A.sl.v128 c arg0 harg0 arg5 x0))
    simp only [List.getD_eq_getElem?_getD, List.getElem?_tail, List.getElem?_take, List.getElem?_zipWith] at e ih' hq ⊢
    rw [if_pos (by omega), List.getElem?_eq_getElem (by omega : τ < (depNames c arg0 harg0 arg1 harg1 arg2 harg2 arg3 harg3 arg5 x0 x1 x2 x3).length),
      List.getElem?_eq_getElem (by omega : τ < (potNames c arg0 harg0 arg1 harg1 arg2 harg2 arg3 harg3 arg5 x0 x1 x2 x3).length)] at e
    rw [List.getElem?_eq_getElem (by omega : τ < (depNames c arg0 harg0 arg1 harg1 arg2 harg2 arg3 harg3 arg5 x0 x1 x2 x3).length)] at ih'
    rw [List.getElem?_eq_getElem (by omega : τ < (potNames c arg0 harg0 arg1 harg1 arg2 harg2 arg3 harg3 arg5 x0 x1 x2 x3).length)] at hq
    rw [e, dep_succ, ← ih', ← hq]
    rfl

/-- The winners' array at time `τ`, lane `l`. -/
theorem codes_apply (arg6 : Memref sig .tc .vmem S97x2304 .i32) (τ : Fin 97) (l : Fin 2304) :
    kernelRun0_A.sl.v9778 c arg0 harg0 arg1 harg1 arg2 harg2 arg3 harg3 arg5 arg6 x0 x1 x2 x3 (ix2 τ l)
      = code (pots x1 x2 x3 (kernelRun0_A.sl.v128 c arg0 harg0 arg5 x0) τ.val) (dep x1 x2 x3 (kernelRun0_A.sl.v128 c arg0 harg0 arg5 x0) τ.val)
          (ix2 0 l) := by
  unfold kernelRun0_A.sl.v9778
  rw [stores_eq, pieces_congr 97 le_rfl (fun i hi => pots_named c arg0 harg0 arg1 harg1 arg2 harg2 arg3 harg3 arg5 x0 x1 x2 x3 i hi _)
    (fun i hi => dep_named c arg0 harg0 arg1 harg1 arg2 harg2 arg3 harg3 arg5 x0 x1 x2 x3 i hi)]
  exact (congrFun (View.readAt_full (s := S97x2304) arg6.view _ inb_S97x2304_S97x2304_0_0) _).trans
    (pieces_apply arg6.view _ _ 97 le_rfl τ τ.isLt l)

end Cert.KernelIdeal.Steps

end
-- ==== Proof.Lanes.lean ====
/- The lanes of the kernel: four batches of a 24 by 24 field each, in whose last row and last column no position of the 23 by 23
   field of results lies. -/
module

public import proofs.«01_k».proof.Proof.Spec

@[expose] public section

namespace Cert.Lanes

open Idealize.ShloMosaic

/-- The place of position `p` of the 23 by 23 field in the 24 by 24 field. -/
def place (p : Fin 529) : Fin 576 := ⟨24 * (p.val / 23) + p.val % 23, by omega⟩

/-- The lane of place `q` of batch `n`. -/
def lane (n : Fin 4) (q : Fin 576) : Fin 2304 := ⟨576 * n.val + q.val, by omega⟩

theorem place_injective : Function.Injective place := by
  intro p p' h
  have h' := congrArg Fin.val h
  simp only [place] at h'
  exact Fin.ext (by omega)

/-- A place that is not one of a position. -/
def Padded (q : Fin 576) : Prop := ∀ p, place p ≠ q

theorem padded_of {q : Fin 576} (h : Padded q) : q.val / 24 = 23 ∨ q.val % 24 = 23 := by
  by_contra hc
  refine h ⟨23 * (q.val / 24) + q.val % 24, by omega⟩ (Fin.ext ?_)
  simp only [place]
  omega

/-- Depressed places of a batch are depressed positions when the padded places are not depressed. -/
theorem depressed_place (d : Fin 576 → BitVec 32) (h : ∀ q, Padded q → d q = 0#32) :
    Spec.depressed d = Spec.depressed fun p => d (place p) := by
  classical
  unfold Spec.depressed
  rw [← Finset.card_image_of_injective _ place_injective]
  congr 1
  ext q
  simp only [Finset.mem_filter, Finset.mem_univ, true_and, Finset.mem_image]
  constructor
  · intro hq
    by_contra hc
    refine hq (h q fun p hp => hc ⟨p, ?_, hp⟩)
    rw [hp]; exact hq
  · rintro ⟨p, hp, rfl⟩
    exact hp

end Cert.Lanes
-- ==== Proof.Literals.lean ====
/- The float literals of both programs, as numbers. -/
module

public import Idealize.ShloMosaic.Lib.Pointwise

@[expose] public section

noncomputable section

namespace Cert.Literals

open Idealize.ShloMosaic

theorem bound : Ideal.ofBits .f32 1132756992#32 = ((265 : ℝ) : EReal) := by
  simp [Ideal.ofBits, Ideal.ieee, ← EReal.coe_mul]
  norm_num

theorem bottom : Ideal.ofBits .f32 4286578688#32 = ⊥ := by
  simp [Ideal.ofBits, Ideal.ieee]

theorem threshold : Ideal.ofBits .f32 1085066445#32 = ((11324621 / 2097152 : ℝ) : EReal) := by
  simp [Ideal.ofBits, Ideal.ieee, ← EReal.coe_mul]
  norm_num

theorem sixteenth : Ideal.ofBits .f32 1031798784#32 = ((1 / 16 : ℝ) : EReal) := by
  simp [Ideal.ofBits, Ideal.ieee, ← EReal.coe_mul]
  norm_num

theorem half_again : Ideal.ofBits .f32 1069547520#32 = ((3 / 2 : ℝ) : EReal) := by
  simp [Ideal.ofBits, Ideal.ieee, ← EReal.coe_mul]
  norm_num

theorem thirtysecond : Ideal.ofBits .f32 1023410176#32 = ((1 / 32 : ℝ) : EReal) := by
  simp [Ideal.ofBits, Ideal.ieee, ← EReal.coe_mul]
  norm_num

theorem sixteen : Ideal.ofBits .f32 1098907648#32 = ((16 : ℝ) : EReal) := by
  simp [Ideal.ofBits, Ideal.ieee, ← EReal.coe_mul]
  norm_num

theorem thirtytwo : Ideal.ofBits .f32 1107296256#32 = ((32 : ℝ) : EReal) := by
  simp [Ideal.ofBits, Ideal.ieee, ← EReal.coe_mul]
  norm_num

end Cert.Literals

end
-- ==== Proof.KernelLanes.lean ====
/- One step of the kernel at one lane: the step of `Spec` at the lanes that are positions, and no depression at the padded lanes. -/
module

public import proofs.«01_k».proof.Proof.KernelSteps
public import proofs.«01_k».proof.Proof.Lanes
public import proofs.«01_k».proof.Proof.Literals

@[expose] public section

set_option maxRecDepth 16384

noncomputable section

namespace Cert.KernelIdeal.Steps

open Idealize.ShloMosaic Idealize.ShloMosaic.TcCoe Cert.KernelIdeal Cert.KernelIdeal.Gen Idealize.SL.Sem
open Cert.Lanes
open Cert.Spec (alive depressed θ Fires Wins handed)

variable (p : FVec Ideal S32x2304 .f32) (d : IVec S1x2304 32)

theorem sitofp_bit (b : Bool) :
    (FloatOps.sitofp FTy.f32 (BitVec.setWidth 32 (BitVec.ofBool b)) : Ideal .f32) = if b then (1 : EReal) else 0 := by
  cases b <;> simp [FloatOps.sitofp]

theorem toInt_bit (b : Bool) :
    (((Scalar.extui (BitVec.ofBool b) : BitVec 32).toInt : ℝ) : EReal) = if b then (1 : EReal) else 0 := by
  cases b <;> simp [Scalar.extui]

/-- The kernel's count of one batch. -/
theorem count_eq (n : Fin 4) (o : ℕ) (ho : o = 576 * n.val) (h : S1x2304.Slices ![0, o] S1x576) :
    count (F := Ideal) o h d = ((depressed fun q => d (ix2 0 (lane n q)) : ℕ) : EReal) := by
  subst ho
  pointwise [count]
  simp only [Finset.univ_unique, Finset.sum_singleton]
  unfold depressed
  classical
  rw [Finset.card_filter, Nat.cast_sum]
  refine Finset.sum_congr rfl fun q _ => ?_
  refine (sitofp_bit _).trans ?_
  show (if (d (ix2 0 (lane n q)) != 0#32) then (1 : EReal) else 0) = _
  by_cases hq : d (ix2 0 (lane n q)) = 0#32 <;> simp [hq]

/-- The factor of a lane: alive, in a batch that is free. -/
theorem factor_eq (n : Fin 4) (q : Fin 576) :
    factor (F := Ideal) d (ix2 0 (lane n q))
      = alive (d (ix2 0 (lane n q))) * Spec.free (depressed fun q => d (ix2 0 (lane n q))) := by
  pointwise [factor, Steps.free]
  congr 1
  · refine (sitofp_bit _).trans ?_
    show (if (d (ix2 0 (lane n q)) == 0#32) then (1 : EReal) else 0) = _
    by_cases hq : d (ix2 0 (lane n q)) = 0#32 <;> simp [hq, alive]
  · have key : ∀ o (ho : o = 576 * n.val) (h : S1x2304.Slices ![0, o] S1x576),
        (((Scalar.extui (BitVec.ofBool (decide (count (F := Ideal) o h d < Ideal.ofBits FTy.f32 1132756992#32))) : BitVec 32).toInt : ℝ) : EReal)
          = Spec.free (depressed fun q => d (ix2 0 (lane n q))) := by
      intro o ho h
      rw [toInt_bit, count_eq d n o ho h, Literals.bound, show ((265 : ℝ) : EReal) = ((265 : ℕ) : EReal) by norm_cast]
      unfold Spec.free
      simp only [decide_eq_true_eq, Nat.cast_lt]
    have hl : (lane n q).val = 576 * n.val + q.val := rfl
    have hn := n.isLt
    have hq := q.isLt
    split_ifs with h1 h2 h3
    · exact key _ (by omega) _
    · exact key _ (by omega) _
    · exact key _ (by omega) _
    · exact key _ (by omega) _

variable {p d}

/-- What a step starts from: `P` at the positions and no more than the threshold at the padded lanes, for the potentials; `D` at the
    positions and zero at the padded lanes, for the depressions. -/
structure Holds (p : FVec Ideal S32x2304 .f32) (P : Fin 4 → Fin 529 → Fin 32 → EReal) : Prop where
  real : ∀ n r o, p (ix2 o (lane n (place r))) = P n r o
  padded : ∀ n q o, Padded q → p (ix2 o (lane n q)) ≤ θ

structure Depressed (d : IVec S1x2304 32) (D : Fin 4 → Fin 529 → BitVec 32) : Prop where
  real : ∀ n r, d (ix2 0 (lane n (place r))) = D n r
  padded : ∀ n q, Padded q → d (ix2 0 (lane n q)) = 0#32

variable {P : Fin 4 → Fin 529 → Fin 32 → EReal} {D : Fin 4 → Fin 529 → BitVec 32}

theorem Depressed.card (hD : Depressed d D) (n : Fin 4) : (depressed fun q => d (ix2 0 (lane n q))) = depressed (D n) := by
  rw [depressed_place (fun q => d (ix2 0 (lane n q))) fun q hq => hD.padded n q hq]
  congr 1
  funext r
  exact hD.real n r

theorem masked_apply (o : Fin 32) (l : Fin 2304) :
    masked p d (ix2 o l) = (p (ix2 o l) * factor (F := Ideal) d (ix2 0 l) : EReal) := by
  pointwise [masked]

theorem masked_real (hP : Holds p P) (hD : Depressed d D) (n : Fin 4) (r : Fin 529) (o : Fin 32) :
    masked p d (ix2 o (lane n (place r))) = Spec.masked (P n) (D n) r o := by
  rw [masked_apply, factor_eq, hP.real, hD.real, hD.card]
  exact (mul_assoc _ _ _).symm

theorem θ_pos : 0 < θ := by
  rw [show θ = ((11324621 / 2097152 : ℝ) : EReal) from Literals.threshold, EReal.coe_pos]
  norm_num

theorem masked_padded (hP : Holds p P) (n : Fin 4) (q : Fin 576) (hq : Padded q) (o : Fin 32) :
    (masked p d (ix2 o (lane n q)) : EReal) ≤ θ := by
  rw [masked_apply, factor_eq]
  have h := hP.padded n q o hq
  unfold alive Spec.free
  split_ifs <;> simp [h, θ_pos.le]

theorem top_apply (l : Fin 2304) : top p d (ix2 0 l) = Finset.univ.fold max ⊥ fun o => (masked p d (ix2 o l) : EReal) := by
  pointwise [top]
  rw [Literals.bottom]

theorem winner_apply (l : Fin 2304) : winner p d (ix2 0 l) = Finset.univ.fold IntOp.minsi 2147483647#32
    fun o : Fin 32 => if (masked p d (ix2 o l) : EReal) = top p d (ix2 0 l) then BitVec.ofNat 32 o.val else 64#32 := by
  pointwise [winner]

/-- The code a lane stores: the word of the winner if the lane fires, else the word of −1. -/
theorem code_apply (l : Fin 2304) (o : Fin 32) (ho : Wins (fun o => masked p d (ix2 o l)) o) :
    code p d (ix2 0 l) = if θ < (masked p d (ix2 o l) : EReal) then BitVec.ofNat 32 o.val else 4294967295#32 := by
  have ht := (top_apply (p := p) (d := d) l).trans (Spec.fold_max ho)
  have hw := winner_apply (p := p) (d := d) l
  rw [ht, Spec.fold_min ho] at hw
  have : code p d (ix2 0 l) = if Ideal.ofBits .f32 1085066445#32 < (top p d (ix2 0 l) : EReal) then winner p d (ix2 0 l) else 4294967295#32 := by
    pointwise [code, spike]
  rw [this, ht, hw]
  rfl

open Classical in
theorem next_apply (l : Fin 2304) : next p d (ix2 0 l) = handed (fun o => masked p d (ix2 o l)) (d (ix2 0 l)) := by
  obtain ⟨o, ho⟩ := Spec.exists_wins fun o => masked p d (ix2 o l)
  have ht := (top_apply (p := p) (d := d) l).trans (Spec.fold_max ho)
  have : next p d (ix2 0 l) = IntOp.minsi 47#32 (IntOp.maxsi 0#32 (IntOp.subi (IntOp.addi (d (ix2 0 l))
      (if Ideal.ofBits .f32 1085066445#32 < (top p d (ix2 0 l) : EReal) then 48#32 else 0#32)) 1#32)) := by
    pointwise [next, spike]
  rw [this, ht]
  unfold handed
  simp only [Spec.fires_iff ho]
  rfl

/-- A step hands on the depressions of `Spec`. -/
theorem next_depressed (hP : Holds p P) (hD : Depressed d D) :
    Depressed (next p d) fun n r => handed (Spec.masked (P n) (D n) r) (D n r) where
  real n r := by
    rw [next_apply, hD.real]
    congr 1
    funext o
    exact masked_real hP hD n r o
  padded n q hq := by
    rw [next_apply, hD.padded n q hq]
    unfold handed
    rw [if_neg]
    · decide
    · rintro ⟨o, ho⟩
      exact absurd ho (not_lt.mpr (masked_padded hP n q hq o))

open Classical in
/-- The code says which channel's result is 1. -/
theorem code_real (hP : Holds p P) (hD : Depressed d D) (n : Fin 4) (r : Fin 529) (o : Fin 32) :
    (if code p d (ix2 0 (lane n (place r))) = BitVec.ofNat 32 o.val then (1 : EReal) else 0)
      = if Fires (Spec.masked (P n) (D n) r) ∧ Wins (Spec.masked (P n) (D n) r) o then 1 else 0 := by
  have hm : (fun o => (masked p d (ix2 o (lane n (place r))) : EReal)) = Spec.masked (P n) (D n) r :=
    funext fun o => masked_real hP hD n r o
  obtain ⟨o', ho'⟩ := Spec.exists_wins (Spec.masked (P n) (D n) r)
  rw [code_apply _ o' (by rw [hm]; exact ho'), masked_real hP hD, Spec.fires_iff ho']
  have inj : ∀ a b : Fin 32, BitVec.ofNat 32 a.val = BitVec.ofNat 32 b.val → a = b := by decide
  have neg : ∀ a : Fin 32, 4294967295#32 ≠ BitVec.ofNat 32 a.val := by decide
  by_cases hf : θ < Spec.masked (P n) (D n) r o'
  · simp only [hf, true_and, if_true]
    by_cases hw : Wins (Spec.masked (P n) (D n) r) o
    · rw [Spec.wins_unique hw ho', if_pos rfl, if_pos ho']
    · rw [if_neg hw, if_neg fun he => hw (by rw [← inj _ _ he]; exact ho')]
  · rw [if_neg hf, if_neg (neg o), if_neg fun h => hf h.1]

end Cert.KernelIdeal.Steps

end
-- ==== Proof.KernelPots.lean ====
/- The kernel's potentials at one channel and one lane: the responses to all spikes of the window, summed, and the bias. -/
module

public import proofs.«01_k».proof.Proof.KernelLanes

@[expose] public section

set_option maxRecDepth 16384

noncomputable section

namespace Cert.KernelIdeal.Steps

open Idealize.ShloMosaic Idealize.ShloMosaic.TcCoe Cert.KernelIdeal Cert.KernelIdeal.Gen Idealize.SL.Sem
open Cert.Lanes
open Cert.Spec (resp)

theorem startWord_eq (c : ℕ) (hc : c ≤ 12) : Ideal.ofBits .f32 (startWord c) = ((8 * c - 1 : ℝ) : EReal) := by
  interval_cases c <;> simp [startWord, Ideal.ofBits, Ideal.ieee, ← EReal.coe_mul, ← EReal.coe_sub] <;>
    first | done | (rw [← EReal.coe_one, ← EReal.coe_sub]; norm_num) | norm_num

/-- The age of a spike, from the chunk's first time, the time in the chunk and the spike's time. -/
theorem age_eq (c j k : ℕ) (hc : c ≤ 12) (hj : j < 8) :
    Ideal.ofBits .f32 (startWord c) + (FloatOps.sitofp FTy.f32 (BitVec.ofNat 32 j) : Ideal .f32) - ((k : ℝ) : EReal)
      = (((8 * c + j - 1 - k : ℤ) : ℝ) : EReal) := by
  have hi : (BitVec.ofNat 32 j).toInt = j := by
    interval_cases j <;> decide
  have hs : (FloatOps.sitofp FTy.f32 (BitVec.ofNat 32 j) : Ideal .f32) = ((j : ℝ) : EReal) := by
    show (((BitVec.ofNat 32 j).toInt : ℝ) : EReal) = _
    rw [hi]; norm_cast
  rw [hs, startWord_eq c hc, ← EReal.coe_add, ← EReal.coe_sub]
  congr 1
  push_cast
  linarith

theorem response_eq (s : ℤ) (w : EReal) :
    (if (0 : EReal) ≤ ((s : ℝ) : EReal) then
        max (min (((s : ℝ) : EReal) * Ideal.ofBits FTy.f32 1031798784#32)
          (Ideal.ofBits FTy.f32 1069547520#32 * w - ((s : ℝ) : EReal) * Ideal.ofBits FTy.f32 1023410176#32)) 0
      else 0) = resp s w := by
  rw [Literals.sixteenth, Literals.half_again, Literals.thirtysecond, ← EReal.coe_mul, ← EReal.coe_mul]
  unfold resp
  have h : (0 : EReal) ≤ ((s : ℝ) : EReal) ↔ 0 ≤ s := by
    rw [EReal.coe_nonneg]; norm_cast
  simp only [h, mul_one_div]

/-- One summand of a potential. -/
theorem term_eq {S W U w u : EReal} {s : ℤ} (hS : S = ((s : ℝ) : EReal)) (hW : W = w) (hU : U = u) :
    (if (0 : EReal) ≤ S then
        max (min (S * Ideal.ofBits FTy.f32 1031798784#32)
          (Ideal.ofBits FTy.f32 1069547520#32 * W - S * Ideal.ofBits FTy.f32 1023410176#32)) 0
      else 0) * U = resp s w * u := by
  subst hS hW hU
  rw [response_eq]

variable (w : Vec Ideal S32x864 .f32) (b : Vec Ideal S32x1 .f32) (t : Vec Ideal S1x864 .f32) (u : Vec Ideal S4x24x24x864 .f32)

/-- The potential of channel `o` in lane `l` at time `τ`. -/
theorem pots_apply (ht : ∀ k : Fin 864, (t (ix2 0 k) : EReal) = (((k.val % 48 : ℕ) : ℝ) : EReal)) (τ : ℕ) (hτ : τ ≤ 96) (o : Fin 32)
    (n : Fin 4) (q : Fin 576) :
    (pots w b t u τ (ix2 o (lane n q)) : EReal)
      = (∑ k : Fin 864, resp (τ - 1 - (k.val % 48 : ℕ)) (w (ix2 o k))
          * (u (ix4 n ⟨q.val / 24, by omega⟩ ⟨q.val % 24, by omega⟩ k) : EReal)) + b (ix2 o 0) := by
  have hl : (lane n q).val = 576 * n.val + q.val := rfl
  have hn := n.isLt
  have hq := q.isLt
  have hu : ∀ (k : Fin 864) h1 h2 h3, (u (ix4 ⟨(lane n q).val / 576, h1⟩ ⟨(lane n q).val / 24 % 24, h2⟩ ⟨(lane n q).val % 24, h3⟩ k) : EReal)
      = u (ix4 n ⟨q.val / 24, by omega⟩ ⟨q.val % 24, by omega⟩ k) := by
    intro k h1 h2 h3
    congr 1
    refine congr (congr (congr (congrArg _ ?_) ?_) ?_) rfl <;> refine Fin.ext ?_ <;> simp only [hl] <;> omega
  by_cases h : τ = 96
  · subst h
    unfold pots
    rw [if_pos rfl]
    pointwise [lastChunk, response]
    congr 1
    refine Finset.sum_congr rfl fun k _ => term_eq ?_ rfl (hu _ _ _ _)
    rw [ht k]
    exact age_eq 12 0 _ (by omega) (by omega)
  · unfold pots
    rw [if_neg h]
    have hc : ∀ (i : Fin 256), i.val = 32 * (τ % 8) + o.val → (chunk w t u (τ / 8) (ix2 i (lane n q)) : EReal)
        = ∑ k : Fin 864, resp (τ - 1 - (k.val % 48 : ℕ)) (w (ix2 o k))
          * (u (ix4 n ⟨q.val / 24, by omega⟩ ⟨q.val % 24, by omega⟩ k) : EReal) := by
      intro i hi
      have hj : i.val / 32 = τ % 8 := by omega
      have ho : ∀ h, (⟨i.val % 32, h⟩ : Fin 32) = o := fun h => Fin.ext (by simp only [hi]; omega)
      pointwise [chunk, response]
      refine Finset.sum_congr rfl fun k _ => term_eq ?_ (by rw [ho]) (hu _ _ _ _)
      rw [ht k]
      refine (age_eq (τ / 8) (i.val / 32) _ (by omega) (by omega)).trans ?_
      rw [hj]
      congr 2
      omega
    pointwise []
    rw [hc _ rfl]

end Cert.KernelIdeal.Steps

end
-- ==== Proof.KernelOut.lean ====
/- The array the kernel leaves: 1 at each time a channel of a position wins and its potential is above the threshold, else 0. -/
module

public import proofs.«01_k».proof.Proof.Potentials
public import proofs.«01_k».proof.Proof.KernelHost
public import proofs.«01_k».proof.Proof.KernelCodes
public import proofs.«01_k».proof.Proof.KernelPots
public import proofs.«01_k».proof.Proof.Gen.KernelIdeal.Value

@[expose] public section

set_option maxRecDepth 16384

noncomputable section

namespace Cert.KernelIdeal.Out

open Idealize.ShloMosaic Idealize.ShloMosaic.TcCoe Cert.KernelIdeal Cert.KernelIdeal.Gen Idealize.SL.Sem
open Cert.KernelIdeal.Steps Cert.Lanes
open Cert.Spec (θ resp pot)

/-! ## The operands as functions of their coordinates -/

variable (m : (l : Loc nD τ sig) → l.ty.Contents (Elt Ideal)) (c : Dev nD)

/-- The input spikes. -/
def spikes (n : Fin 4) (i : Fin 2) (X Y t : Fin 48) : EReal := m (c, Proc.tc.devRef main_arg0) (ix5 n i X Y t)

def weights (o : Fin 32) (i : Fin 2) (kx ky : Fin 3) : EReal := m (c, Proc.tc.devRef main_arg1) (ix4 o i kx ky)

def biases (o : Fin 32) : EReal := m (c, Proc.tc.devRef main_arg2) (ix1 o)

/-- The result in plain terms. -/
def result : S4x32x23x23x97.Idx → EReal := fun y =>
  Spec.out (pot (spikes m c) (weights m c) (biases m c) (y 0)) (y 4).val ⟨23 * (y 2).val + (y 3).val, by
    have := (y 2).isLt; have := (y 3).isLt
    change (y 2).val < 23 at *; change (y 3).val < 23 at *; omega⟩ (y 1)

/-! ## The steps -/

variable (t : Fin cfg0.N) (arg0 : Memref sig .tc .vmem S4x2x2x24x24x96 .f32) (harg0 : arg0.IsWhole)
  (arg5 : Memref sig .tc .vmem S4x24x24x864 .f32)

/-- The gathered windows. -/
abbrev windows : Vec Ideal S4x24x24x864 .f32 := kernelRun0_A.sl.v128 c arg0 harg0 arg5 (iblk m c 0 t)

theorem windows_inside (n : Fin 4) (x y : Fin 24) (k : Fin 864) (hx : x.val < 23) (hy : y.val < 23) :
    windows m c t arg0 harg0 arg5 (ix4 n x y k)
      = spikes m c n ⟨k.val / 48 / 9, by omega⟩ ⟨2 * x.val + k.val / 48 / 3 % 3, by omega⟩ ⟨2 * y.val + k.val / 48 % 3, by omega⟩
          ⟨k.val % 48, by omega⟩ := by
  unfold windows
  rw [scratch_apply, dif_pos ⟨hx, hy⟩, Host.block0, Host.input_apply]
  unfold spikes
  congr 1
  blk_ext

theorem windows_outside (n : Fin 4) (x y : Fin 24) (k : Fin 864) (h : x.val = 23 ∨ y.val = 23) :
    (windows m c t arg0 harg0 arg5 (ix4 n x y k) : EReal) = 0 := by
  unfold windows
  rw [scratch_apply, dif_neg (by omega)]
  exact Ideal.ofBits_zero .f32

/-- The kernel's potentials are the potentials of the positions; at the padded places they are the biases. -/
theorem holds (hb : ∀ o, biases m c o ≤ θ) (τ : ℕ) (hτ : τ ≤ 96) :
    Holds (pots (iblk m c 1 t) (iblk m c 2 t) (iblk m c 3 t) (windows m c t arg0 harg0 arg5) τ)
      fun n r o => pot (spikes m c) (weights m c) (biases m c) n τ r o where
  real n r o := by
    have h1 : (place r).val / 24 = r.val / 23 := by simp only [place]; omega
    have h2 : (place r).val % 24 = r.val % 23 := by simp only [place]; omega
    refine (pots_apply _ _ _ _ (fun k => (Host.block3 m c t _).trans (Host.time_apply m c k)) τ hτ o n (place r)).trans ?_
    refine congrArg₂ (· + ·) ?_ ((Host.block2 m c t _).trans (Host.bias_apply m c o))
    refine Eq.trans (Finset.sum_congr rfl fun k _ => ?_) (Spec.sum_taps fun i kx ky t' => resp (τ - 1 - t'.val) (weights m c o i kx ky)
      * spikes m c n i ⟨2 * (r.val / 23) + kx.val, by omega⟩ ⟨2 * (r.val % 23) + ky.val, by omega⟩ t')
    refine congrArg₂ (· * ·) ?_ ?_
    · exact congrArg _ ((Host.block1 m c t _).trans (Host.weight_apply m c o k))
    · refine (windows_inside m c t arg0 harg0 arg5 n _ _ k (by dsimp only; omega) (by dsimp only; omega)).trans ?_
      simp only [h1, h2]
  padded n q o hq := by
    rw [pots_apply _ _ _ _ (fun k => (Host.block3 m c t _).trans (Host.time_apply m c k)) τ hτ o n q, Finset.sum_eq_zero, zero_add,
      Host.block2, Host.bias_apply]
    · exact hb o
    · intro k _
      rw [windows_outside m c t arg0 harg0 arg5 n _ _ k (padded_of hq), mul_zero]

/-- So the kernel's depressions are the depressions of the positions. -/
theorem depressed (hb : ∀ o, biases m c o ≤ θ) (τ : ℕ) (hτ : τ ≤ 97) :
    Depressed (dep (iblk m c 1 t) (iblk m c 2 t) (iblk m c 3 t) (windows m c t arg0 harg0 arg5) τ)
      fun n => Spec.dep (pot (spikes m c) (weights m c) (biases m c) n) τ := by
  induction τ with
  | zero => exact ⟨fun _ _ => rfl, fun _ _ _ => rfl⟩
  | succ τ ih => exact next_depressed (holds m c t arg0 harg0 arg5 hb τ (by omega)) (ih (by omega))

/-! ## The array -/

/-- What one run of the body leaves: the codes compared with each channel. -/
theorem out_eq (arg1 : Memref sig .tc .vmem S32x864 .f32) (harg1 : arg1.IsWhole) (arg2 : Memref sig .tc .vmem S32x1 .f32)
    (harg2 : arg2.IsWhole) (arg3 : Memref sig .tc .vmem S1x864 .f32) (harg3 : arg3.IsWhole)
    (arg4 : Memref sig .tc .vmem S4x32x23x23x97 .f32) (harg4 : arg4.IsWhole) (harg5 : arg5.IsWhole)
    (arg6 : Memref sig .tc .vmem S97x2304 .i32) (harg6 : arg6.IsWhole)
    (x0 : Vec Ideal S4x2x2x24x24x96 .f32) (x1 : Vec Ideal S32x864 .f32) (x2 : Vec Ideal S32x1 .f32) (x3 : Vec Ideal S1x864 .f32) :
    out0_A_4 c arg0 harg0 arg1 harg1 arg2 harg2 arg3 harg3 arg4 harg4 arg5 harg5 arg6 harg6 x0 x1 x2 x3
      = k0_pay2 (kernelRun0_A.sl.v9778 c arg0 harg0 arg1 harg1 arg2 harg2 arg3 harg3 arg5 arg6 x0 x1 x2 x3) := by
  unfold out0_A_4
  exact View.read_writes_full (s := S4x32x23x23x97) VO0_4 VO0_4.junk (off := ![0, 0, 0, 0, 0]) inb_S4x32x23x23x97_S4x32x23x23x97_0_0_0_0_0 _ []

theorem pay_apply (v : IVec S97x2304 32) (n : Fin 4) (o : Fin 32) (p q : Fin 23) (τ : Fin 97) :
    (k0_pay2 (F := Ideal) v (ix5 n o p q τ) : EReal)
      = if v (ix2 τ (lane n (place ⟨23 * p.val + q.val, by omega⟩))) = BitVec.ofNat 32 o.val then 1 else 0 := by
  have hl : lane n (place ⟨23 * p.val + q.val, by omega⟩) = ⟨n.val * 576 + p.val * 24 + q.val, by omega⟩ := by
    apply Fin.ext
    simp only [lane, place]
    omega
  rw [hl]
  pointwise [k0_pay2]
  refine (sitofp_bit _).trans ?_
  show (if (v _ == BitVec.ofNat 32 o.val) then (1 : EReal) else 0) = _
  by_cases h : v (ix2 τ ⟨n.val * 576 + p.val * 24 + q.val, by omega⟩) = BitVec.ofNat 32 o.val <;> simp [h]

theorem outs_apply (hb : ∀ o, biases m c o ≤ θ) (y : S4x32x23x23x97.Idx) : (outsAt0 m c t y : EReal) = result m c y := by
  obtain ⟨n, o, p, q, τ, rfl⟩ : ∃ (n : Fin 4) (o : Fin 32) (p q : Fin 23) (τ : Fin 97), y = ix5 n o p q τ :=
    ⟨y 0, y 1, y 2, y 3, y 4, by funext a; fin_cases a <;> rfl⟩
  unfold outsAt0
  rw [out_eq, pay_apply, codes_apply]
  exact code_real (holds m c t _ _ _ hb τ.val (by omega)) (depressed m c t _ _ _ hb τ.val (by omega)) n _ o

theorem index4 : ∀ t : Fin cfg0.N, win0_4.index t = ![0, 0, 0, 0, 0] := by decide +kernel

theorem final (hb : ∀ o, biases m c o ≤ θ) : (dats m 0 c).arrAt 4 cfg0.N = result m c := by
  refine (dats m 0 c).arrAt_eq_of_covers 4 _ (by decide +kernel) fun t hf y => ?_
  blk_simp
  rw [after0_4]
  refine (outs_apply m c t hb y).trans ?_
  congr 1
  blk_ext [index4 t]

end Cert.KernelIdeal.Out

end
-- ==== Proof.RefSlice.lean ====
/- The slices one trip of the reference's loop reads and writes: trip `j` reads the potentials of time `j` and writes the results of
   time `j`. -/
module

public import proofs.«01_k».proof.Proof.RefStep
public import Idealize.ShloMosaic.Lib.Pointwise

@[expose] public section

set_option maxRecDepth 16384

noncomputable section

namespace Cert.ReferenceIdeal.Lanes

open Idealize.ShloMosaic Cert.ReferenceIdeal Cert.ReferenceIdeal.Gen Cert.ReferenceIdeal.Step

theorem toInt_ofNat (k : ℕ) (hk : k < 864) : (BitVec.ofNat 32 k).toInt = k := by
  rw [BitVec.toInt_eq_toNat_of_lt (by rw [BitVec.toNat_ofNat]; omega), BitVec.toNat_ofNat, Nat.mod_eq_of_lt (by omega)]

section
variable (j : ℕ) (hj : j < 97) (ht : S1x4x529x32.rank = S97x4x529x32.rank) (z : Fin 4 → IVec S_ 32)

theorem start_time (h0 : z 0 = constantI S_ 32 (BitVec.ofNat 32 j)) (hj : j < 97) :
    Host.clampedStart S97x4x529x32 S1x4x529x32 ht (fun k => (z k (Shape.Idx.first h_S_)).toInt) (0 : Fin 4) = j := by
  refine Host.clampedStart_of_le ht _ (0 : Fin 4) j ?_ ?_
  · rw [h0]
    exact toInt_ofNat j (by omega)
  · show j + 1 ≤ 97
    omega

theorem start_other (a : Fin 4) (ha : z a = constantI S_ 32 0#32) :
    Host.clampedStart S97x4x529x32 S1x4x529x32 ht (fun k => (z k (Shape.Idx.first h_S_)).toInt) a = 0 := by
  refine Host.clampedStart_of_le ht _ a 0 ?_ ?_
  · rw [ha]
    rfl
  · fin_cases a
    · show 0 + 1 ≤ 97; omega
    · exact le_rfl
    · exact le_rfl
    · exact le_rfl
end

theorem ix4_congr {α : Type} (f : S97x4x529x32.Idx → α) {a a' : Fin 97} {b b' : Fin 4} {c c' : Fin 529} {d d' : Fin 32}
    (ha : a = a') (hb : b = b') (hc : c = c') (hd : d = d') : f (ix4 a b c d) = f (ix4 a' b' c' d') := by
  subst ha hb hc hd; rfl

/-- An update laid over time `j` alone. -/
theorem placed {α : Type} (j : ℕ) (τ : Fin 97) (n : Fin 4) (r : Fin 529) (o : Fin 32) (c0 c1 c2 c3 : ℕ) (h0 : c0 = j) (h1 : c1 = 0)
    (h2 : c2 = 0) (h3 : c3 = 0) (f : S4x529x32.Idx → α) (g : α)
    (p1 : (c0 ≤ τ.val ∧ τ.val < c0 + 1) ∧ c1 ≤ n.val ∧ c2 ≤ r.val ∧ c3 ≤ o.val → n.val - c1 < 4)
    (p2 : (c0 ≤ τ.val ∧ τ.val < c0 + 1) ∧ c1 ≤ n.val ∧ c2 ≤ r.val ∧ c3 ≤ o.val → r.val - c2 < 529)
    (p3 : (c0 ≤ τ.val ∧ τ.val < c0 + 1) ∧ c1 ≤ n.val ∧ c2 ≤ r.val ∧ c3 ≤ o.val → o.val - c3 < 32) :
    (if h : (c0 ≤ τ.val ∧ τ.val < c0 + 1) ∧ c1 ≤ n.val ∧ c2 ≤ r.val ∧ c3 ≤ o.val then
      f (ix3 ⟨n.val - c1, p1 h⟩ ⟨r.val - c2, p2 h⟩ ⟨o.val - c3, p3 h⟩) else g) = if τ.val = j then f (ix3 n r o) else g := by
  subst h0 h1 h2 h3
  by_cases h : τ.val = c0
  · rw [if_pos h, dif_pos (by omega)]
    rfl
  · rw [if_neg h, dif_neg (by omega)]

variable {F : FTy → Type} [FloatOps F] (j : ℕ) (s : State F)

/-- Trip `j` reads the potentials of time `j`. -/
theorem read_apply (hj : j < 97) (n : Fin 4) (r : Fin 529) (o : Fin 32) :
    b4 j s (ix3 n r o) = s.main_v57_0 (ix4 ⟨j, hj⟩ n r o) := by
  pointwise [b4, b3]
  refine ix4_congr s.main_v57_0 (Fin.ext ?_) (Fin.ext ?_) (Fin.ext ?_) (Fin.ext ?_)
  · exact start_time j rfl ![constantI S_ 32 (BitVec.ofNat 32 j), b0 j s, b1 j s, b2 j s] rfl hj
  · refine (congrArg (· + n.val) (start_other rfl ![constantI S_ 32 (BitVec.ofNat 32 j), b0 j s, b1 j s, b2 j s] 1 rfl)).trans (Nat.zero_add _)
  · refine (congrArg (· + r.val) (start_other rfl ![constantI S_ 32 (BitVec.ofNat 32 j), b0 j s, b1 j s, b2 j s] 2 rfl)).trans (Nat.zero_add _)
  · refine (congrArg (· + o.val) (start_other rfl ![constantI S_ 32 (BitVec.ofNat 32 j), b0 j s, b1 j s, b2 j s] 3 rfl)).trans (Nat.zero_add _)

/-- Trip `j` writes the results of time `j` and leaves the other times. -/
theorem write_apply (hj : j < 97) (τ : Fin 97) (n : Fin 4) (r : Fin 529) (o : Fin 32) :
    b87 j s (ix4 τ n r o) = if τ.val = j then b82 j s (ix3 n r o) else s.main_v57_3 (ix4 τ n r o) := by
  have h0 := start_time j rfl ![constantI S_ 32 (BitVec.ofNat 32 j), b84 j s, b85 j s, b86 j s] rfl hj
  have h1 := start_other rfl ![constantI S_ 32 (BitVec.ofNat 32 j), b84 j s, b85 j s, b86 j s] 1 rfl
  have h2 := start_other rfl ![constantI S_ 32 (BitVec.ofNat 32 j), b84 j s, b85 j s, b86 j s] 2 rfl
  have h3 := start_other rfl ![constantI S_ 32 (BitVec.ofNat 32 j), b84 j s, b85 j s, b86 j s] 3 rfl
  pointwise [b87, b83]
  exact placed j τ n r o _ _ _ _ h0 h1 h2 h3 _ _ _ _ _

end Cert.ReferenceIdeal.Lanes

end
-- ==== Proof.RefArgmax.lean ====
/- The reference's arg-max over the channels of a lane: the winner. -/
module

public import proofs.«01_k».proof.Proof.RefStep
public import proofs.«01_k».proof.Proof.Spec
public import proofs.«01_k».proof.Proof.Literals
public import Idealize.ShloMosaic.Lib.Pointwise

@[expose] public section

set_option maxRecDepth 16384

noncomputable section

namespace Cert.ReferenceIdeal.Argmax

open Idealize.ShloMosaic Cert.ReferenceIdeal Cert.ReferenceIdeal.Gen
open Cert.Spec (Wins)

/-- Pair `a` of value and index beats pair `b`: a larger value, or the same value at a smaller index. -/
def Beats (a b : Ideal .f32 × BitVec 32) : Prop := (b.1 : EReal) < a.1 ∨ ((a.1 : EReal) = b.1 ∧ a.2.slt b.2 = true)

open Classical in
/-- The body of the arg-max keeps the pair that beats the other. -/
theorem reducer_eq (a b : Ideal .f32 × BitVec 32) : reducer_argmax_f32_i32 a b = if Beats a b then a else b := by
  obtain ⟨x, i⟩ := a
  obtain ⟨y, j⟩ := b
  have h1 : (FloatOps.cmpf .ogt x y : BitVec 1) = BitVec.ofBool (decide ((y : EReal) < x)) := rfl
  have h2 : (FloatOps.cmpf .une x x : BitVec 1) = 0#1 := by simp [Ideal.cmpf_def, Ideal.cmp]
  have h3 : (FloatOps.cmpf .oeq x y : BitVec 1) = BitVec.ofBool (decide ((x : EReal) = y)) := rfl
  have h4 : IntOp.cmpi .slt i j = BitVec.ofBool (i.slt j) := rfl
  unfold reducer_argmax_f32_i32 Beats
  simp only [h1, h2, h3, h4]
  rcases lt_trichotomy (y : EReal) x with h | h | h
  · have h' : (x : EReal) ≠ y := h.ne'
    simp [h, h', IntOp.ori, IntOp.andi, Scalar.select]
  · subst h
    cases hs : i.slt j <;> simp [hs, IntOp.ori, IntOp.andi, Scalar.select]
  · have h' : (x : EReal) ≠ y := h.ne
    simp [h, h', h.le, not_lt.mpr h.le, IntOp.ori, IntOp.andi, Scalar.select]

/-- A fold that keeps the better pair ends at the pair that beats every other. -/
theorem foldl_best (e : Ideal .f32 × BitVec 32) (L : List (Ideal .f32 × BitVec 32)) (init : Ideal .f32 × BitVec 32)
    (hm : e = init ∨ e ∈ L) (hi : init = e ∨ (Beats e init ∧ ¬ Beats init e))
    (hL : ∀ a ∈ L, a = e ∨ (Beats e a ∧ ¬ Beats a e)) : L.foldl reducer_argmax_f32_i32 init = e := by
  classical
  induction L generalizing init with
  | nil =>
    rcases hm with h | h
    · exact h.symm
    · exact absurd h List.not_mem_nil
  | cons b L ih =>
    rw [List.foldl_cons, reducer_eq]
    have hb := hL b List.mem_cons_self
    refine ih _ ?_ ?_ fun a ha => hL a (List.mem_cons_of_mem _ ha)
    · rcases hm with h | h
      · left
        subst h
        rcases hb with hb | hb
        · rw [hb]; split_ifs <;> rfl
        · rw [if_pos hb.1]
      · rcases List.mem_cons.mp h with h | h
        · left
          subst h
          rcases hi with hi | hi
          · rw [hi]; split_ifs <;> rfl
          · rw [if_neg hi.2]
        · exact Or.inr h
    · split_ifs
      · exact hi
      · exact hb

/-- The arg-max of a lane's channels is the word of the winner. -/
theorem argmax_apply (v : FVec Ideal S4x529x32 .f32) (n : Fin 4) (r : Fin 529) (o : Fin 32) (ho : Wins (fun o => (v (ix3 n r o) : EReal)) o) :
    (Host.argReduce reducer_argmax_f32_i32 v (iotaInDim S4x529x32 32 2) (constant S_ .f32 0xFF800000#32) (constantI S_ 32 0#32)
      reducesTo_S4x529x32_S4x529_d2 h_S_ (ix2 n r)).2 = BitVec.ofNat 32 o.val := by
  have hslt : ∀ i j : Fin 32, (BitVec.ofNat 32 i.val).slt (BitVec.ofNat 32 j.val) = decide (i < j) := by decide +kernel
  have hbest : ∀ o' : Fin 32, ((v (ix3 n r o'), BitVec.ofNat 32 o'.val) : Ideal .f32 × BitVec 32) = (v (ix3 n r o), BitVec.ofNat 32 o.val)
      ∨ (Beats (v (ix3 n r o), BitVec.ofNat 32 o.val) (v (ix3 n r o'), BitVec.ofNat 32 o'.val)
        ∧ ¬ Beats (v (ix3 n r o'), BitVec.ofNat 32 o'.val) (v (ix3 n r o), BitVec.ofNat 32 o.val)) := by
    intro o'
    unfold Beats
    simp only [hslt, decide_eq_true_eq]
    rcases lt_trichotomy o' o with h | h | h
    · right
      have hv := ho.2 o' h
      exact ⟨Or.inl hv, by rintro (h' | ⟨h', -⟩); exacts [absurd hv (not_lt.mpr h'.le), absurd h' hv.ne]⟩
    · left; rw [h]
    · right
      have hv := ho.1 o'
      refine ⟨?_, by rintro (h' | ⟨-, h'⟩); exacts [absurd h' (not_lt.mpr hv), absurd h' (not_lt.mpr h.le)]⟩
      rcases hv.lt_or_eq with hv | hv
      · exact Or.inl hv
      · exact Or.inr ⟨hv.symm, h⟩
  rw [Ideal.argReduce_eq_reduce2, Host.reduce2_eq_foldl_fiber, foldl_best (v (ix3 n r o), BitVec.ofNat 32 o.val)]
  · right
    unfold Host.argReduceFiber
    rw [List.mem_map]
    refine ⟨S4x529x32.rowMajor (ix3 n r o), ?_, ?_⟩
    · rw [List.mem_filter]
      refine ⟨List.mem_finRange _, ?_⟩
      rw [Equiv.symm_apply_apply, decide_eq_true_eq]
      funext a
      fin_cases a <;> rfl
    · rw [Equiv.symm_apply_apply]
      rfl
  · show ((Ideal.ofBits .f32 0xFF800000#32, 0#32) : Ideal .f32 × BitVec 32) = _ ∨ _
    rw [Literals.bottom]
    by_cases h : (v (ix3 n r o) : EReal) = ⊥
    · left
      have h0 : o = 0 := by
        by_contra hc
        have : (v (ix3 n r 0) : EReal) < v (ix3 n r o) := ho.2 0 (Fin.pos_iff_ne_zero.mpr hc)
        rw [h] at this
        exact absurd this not_lt_bot
      subst h0
      rw [h]
      rfl
    · right
      have hb : ⊥ < (v (ix3 n r o) : EReal) := bot_lt_iff_ne_bot.mpr h
      refine ⟨Or.inl hb, ?_⟩
      rintro (h' | ⟨h', -⟩)
      · exact absurd h' (not_lt.mpr hb.le)
      · exact h h'.symm
  · intro a ha
    unfold Host.argReduceFiber at ha
    rw [List.mem_map] at ha
    obtain ⟨k, hk, rfl⟩ := ha
    rw [List.mem_filter, decide_eq_true_eq] at hk
    generalize S4x529x32.rowMajor.symm k = i at hk
    obtain ⟨n', r', o', rfl⟩ : ∃ (n' : Fin 4) (r' : Fin 529) (o' : Fin 32), i = ix3 n' r' o' :=
      ⟨i 0, i 1, i 2, by funext a; fin_cases a <;> rfl⟩
    have hn : n' = n := congrFun hk.2 0
    have hr : r' = r := congrFun hk.2 1
    subst hn hr
    exact hbest o'

end Cert.ReferenceIdeal.Argmax

end
-- ==== Proof.RefGather.lean ====
/- The reference's gathers at an index: rows, columns and times of the windows, and each lane's potential at one channel. -/
module

public import proofs.«01_k».proof.Proof.RefStep
public import Idealize.ShloMosaic.Lib.Pointwise

@[expose] public section

set_option maxRecDepth 16384

noncomputable section

namespace Cert.ReferenceIdeal.Gather

open Idealize.ShloMosaic Cert.ReferenceIdeal Cert.ReferenceIdeal.Gen

variable {α : Type}

/-- A gather reads its operand at the index whose coordinates are start, batch and offset coordinate summed. -/
theorem gather_eq {s si t : Shape} (d : GatherDims s si t) {w : ℕ} (v : s.Idx → α) (idx : IVec si w) (j : t.Idx) (z : s.Idx)
    (h : ∀ a, d.start j idx a + d.batchCoord j a + d.offCoord j a = (z a).val) : Host.gather d v idx j = v z := by
  unfold Host.gather
  exact congrArg v (funext fun a => Fin.ext (h a))

/-- The start on an axis of the start index map, when the start index is in range. -/
theorem start_eq {s si t : Shape} (d : GatherDims s si t) {w : ℕ} (idx : IVec si w) (j : t.Idx) (a : Fin s.rank)
    (ha : a ∈ d.startIndexMap) (i : si.Idx) (hi : d.siIdx j ⟨d.startIndexMap.idxOf a, List.idxOf_lt_length_iff.2 ha⟩ = i) (k : ℕ)
    (hk : (idx i).toInt = k) (hle : k ≤ s.size a - d.sliceSizes a) : d.start j idx a = k := by
  unfold GatherDims.start
  rw [dif_pos ha, hi, hk, Int.toNat_natCast, min_eq_left hle]

theorem rows_apply (v : S4x2x48x48x144.Idx → α) (idx : IVec S23x3x1 32) (n : Fin 4) (i : Fin 2) (p : Fin 23) (kx : Fin 3) (Y : Fin 48)
    (e : Fin 144) (X : Fin 48) (h : (idx (ix3 p kx 0)).toInt = X.val) :
    Host.gather gather_S4x2x48x48x144_S23x3x1_S4x2x23x3x48x144_0145_2_n_n_2_2_42148144 v idx (ix6 n i p kx Y e) = v (ix5 n i X Y e) := by
  refine gather_eq _ v idx _ _ fun a => ?_
  fin_cases a
  · exact Nat.zero_add _
  · exact Nat.zero_add _
  · exact start_eq
      gather_S4x2x48x48x144_S23x3x1_S4x2x23x3x48x144_0145_2_n_n_2_2_42148144 idx _ (2 : Fin 5) (List.mem_singleton.mpr rfl) (ix3 p kx 0) (by funext b; fin_cases b <;> rfl) X.val h (by show X.val ≤ 47; omega)
  · exact Nat.zero_add _
  · exact Nat.zero_add _

theorem cols_apply (v : S4x2x23x3x48x144.Idx → α) (idx : IVec S23x3x1 32) (n : Fin 4) (i : Fin 2) (p : Fin 23) (kx : Fin 3)
    (q : Fin 23) (ky : Fin 3) (e : Fin 144) (Y : Fin 48) (h : (idx (ix3 q ky 0)).toInt = Y.val) :
    Host.gather gather_S4x2x23x3x48x144_S23x3x1_S4x2x23x3x23x3x144_01236_4_n_n_4_2_422331144 v idx (ix7 n i p kx q ky e)
      = v (ix6 n i p kx Y e) := by
  refine gather_eq _ v idx _ _ fun a => ?_
  fin_cases a
  · exact Nat.zero_add _
  · exact Nat.zero_add _
  · exact Nat.zero_add _
  · exact Nat.zero_add _
  · exact start_eq
      gather_S4x2x23x3x48x144_S23x3x1_S4x2x23x3x23x3x144_01236_4_n_n_4_2_422331144 idx _ (4 : Fin 6) (List.mem_singleton.mpr rfl) (ix3 q ky 0) (by funext b; fin_cases b <;> rfl) Y.val h (by show Y.val ≤ 47; omega)
  · exact Nat.zero_add _

theorem times_apply (v : S4x2x23x3x23x3x144.Idx → α) (idx : IVec S97x48x1 32) (n : Fin 4) (i : Fin 2) (p : Fin 23) (kx : Fin 3)
    (q : Fin 23) (ky : Fin 3) (τ : Fin 97) (l : Fin 48) (e : Fin 144) (h : (idx (ix3 τ l 0)).toInt = e.val) :
    Host.gather gather_S4x2x23x3x23x3x144_S97x48x1_S4x2x23x3x23x3x97x48_012345_6_n_n_6_2_422332331 v idx (ix8 n i p kx q ky τ l)
      = v (ix7 n i p kx q ky e) := by
  refine gather_eq _ v idx _ _ fun a => ?_
  fin_cases a
  · exact Nat.zero_add _
  · exact Nat.zero_add _
  · exact Nat.zero_add _
  · exact Nat.zero_add _
  · exact Nat.zero_add _
  · exact Nat.zero_add _
  · exact start_eq
      gather_S4x2x23x3x23x3x144_S97x48x1_S4x2x23x3x23x3x97x48_012345_6_n_n_6_2_422332331 idx _ (6 : Fin 7) (List.mem_singleton.mpr rfl) (ix3 τ l 0) (by funext b; fin_cases b <;> rfl) e.val h (by show e.val ≤ 143; omega)

theorem channel_apply (v : S4x529x32.Idx → α) (idx : IVec S4x529x1x1 32) (n : Fin 4) (r : Fin 529) (o : Fin 32)
    (h : (idx (ix4 n r 0 0)).toInt = o.val) :
    Host.gather gather_S4x529x32_S4x529x1x1_S4x529x1_n_2_01_01_2_3_111 v idx (ix3 n r 0) = v (ix3 n r o) := by
  refine gather_eq _ v idx _ _ fun a => ?_
  fin_cases a
  · exact Nat.zero_add _
  · exact Nat.zero_add _
  · exact start_eq
      gather_S4x529x32_S4x529x1x1_S4x529x1_n_2_01_01_2_3_111 idx _ (2 : Fin 3) (List.mem_singleton.mpr rfl) (ix4 n r 0 0) (by funext b; fin_cases b <;> rfl) o.val h (by show o.val ≤ 31; omega)

end Cert.ReferenceIdeal.Gather

end
-- ==== Proof.RefLanes.lean ====
/- One trip of the reference's loop at one lane: the potentials masked, the winner, whether the lane fires, the depression handed on
   and the results written. -/
module

public import proofs.«01_k».proof.Proof.RefSlice
public import proofs.«01_k».proof.Proof.RefArgmax
public import proofs.«01_k».proof.Proof.RefGather
public import Idealize.ShloMosaic.Lib.StableHlo.Predicate
public import Idealize.ShloMosaic.Lib.ReduceAll

@[expose] public section

set_option maxRecDepth 16384

noncomputable section

namespace Cert.ReferenceIdeal.Lanes

open Idealize.ShloMosaic Cert.ReferenceIdeal Cert.ReferenceIdeal.Gen Cert.ReferenceIdeal.Step
open Cert.Spec (θ Fires Wins alive handed depressed)

variable (j : ℕ) (s : State Ideal)

/-- The potentials of time `j`. -/
def P (hj : j < 97) (n : Fin 4) (r : Fin 529) (o : Fin 32) : EReal := s.main_v57_0 (ix4 ⟨j, hj⟩ n r o)

/-- The depressions handed to the trip. -/
def D (n : Fin 4) (r : Fin 529) : BitVec 32 := s.main_v57_2 (ix2 n r)

theorem uitofp_bit (b : Bool) : (FloatOps.uitofp FTy.f32 (BitVec.ofBool b) : Ideal .f32) = if b then (1 : EReal) else 0 := by
  cases b <;> simp [FloatOps.uitofp]

theorem sitofp_bit (b : Bool) :
    (FloatOps.sitofp FTy.f32 (BitVec.setWidth 32 (BitVec.ofBool b)) : Ideal .f32) = if b then (1 : EReal) else 0 := by
  cases b <;> simp [FloatOps.sitofp]

/-- The count of one batch. -/
theorem count_eq (n : Fin 4) : (b15 j s (ix1 n)).toNat = depressed (D s n) := by
  unfold b15 b13 b14
  refine (StableHlo.Predicate.toNat_reduce_count_cols (by norm_num) (b12 j s) _ _ _ (ix1 n)).trans ?_
  unfold depressed
  congr 1
  refine Finset.filter_congr fun r _ => ?_
  have : b12 j s (ix2 n r) = BitVec.ofBool (D s n r != 0#32) := by
    pointwise [b12, b11, b10]
    rfl
  have hi : StableHlo.Predicate.ij n r = ix2 n r := by
    funext a
    fin_cases a <;> rfl
  show b12 j s (StableHlo.Predicate.ij n r) = 1#1 ↔ _
  rw [hi, this]
  by_cases h : D s n r = 0#32
  · simp [h]
  · rw [bne_iff_ne.mpr h]
    exact ⟨fun _ => h, fun _ => rfl⟩

/-- The masked potentials. -/
theorem masked_apply (hj : j < 97) (n : Fin 4) (r : Fin 529) (o : Fin 32) :
    (b24 j s (ix3 n r o) : EReal) = Spec.masked (P j s hj n) (D s n) r o := by
  have : (b24 j s (ix3 n r o) : EReal) = b4 j s (ix3 n r o)
      * (FloatOps.uitofp FTy.f32 (IntOp.cmpi .eq (s.main_v57_2 (ix2 n r)) 0#32) : Ideal .f32)
      * (FloatOps.uitofp FTy.f32 (IntOp.cmpi .slt (b15 j s (ix1 n)) 265#32) : Ideal .f32) := by
    pointwise [b24, b23, b22, b21, b20, b19, b18, b17, b16, b9, b8, b7, b6, b5]
  rw [this, read_apply j s hj]
  unfold Spec.masked
  refine congrArg₂ (· * ·) (congrArg₂ (· * ·) rfl ?_) ?_
  · refine (uitofp_bit _).trans ?_
    show (if (D s n r == 0#32) then (1 : EReal) else 0) = _
    by_cases h : D s n r = 0#32 <;> simp [h, alive]
  · have hc := count_eq j s n
    have hle : depressed (D s n) ≤ 529 := (Finset.card_le_univ _).trans (by simp)
    have hiff := StableHlo.Predicate.slt_iff_toNat (a := b15 j s (ix1 n)) (b := 265#32) (by omega) (by decide)
    rw [hc, show (265#32 : BitVec 32).toNat = 265 from rfl] at hiff
    unfold Spec.free
    by_cases h : depressed (D s n) < 265
    · rw [if_pos h, hiff.mpr h]
      exact uitofp_bit true
    · rw [if_neg h, (BitVec.eq_zero_or_eq_one _).resolve_right fun h' => h (hiff.mp h')]
      exact uitofp_bit false

/-- The winner of a lane. -/
theorem winner_apply (hj : j < 97) (n : Fin 4) (r : Fin 529) (o : Fin 32) (ho : Wins (Spec.masked (P j s hj n) (D s n) r) o) :
    b29 j s (ix2 n r) = BitVec.ofNat 32 o.val := by
  refine Argmax.argmax_apply (b24 j s) n r o ?_
  rw [show (fun o => (b24 j s (ix3 n r o) : EReal)) = Spec.masked (P j s hj n) (D s n) r from funext fun o => masked_apply j s hj n r o]
  exact ho

/-- The index at which the winner's potential is read. -/
theorem index_apply (hj : j < 97) (n : Fin 4) (r : Fin 529) (o : Fin 32) (ho : Wins (Spec.masked (P j s hj n) (D s n) r) o) :
    b38 j s (ix4 n r 0 0) = BitVec.ofNat 32 o.val := by
  have : b38 j s (ix4 n r 0 0) = Scalar.select (IntOp.cmpi .slt (b29 j s (ix2 n r)) 0#32) (IntOp.addi (b29 j s (ix2 n r)) 32#32) (b29 j s (ix2 n r)) := by
    pointwise [b38, b37, b36, b35, b34, b33, b32, b31, b30]
  rw [this, winner_apply j s hj n r o ho]
  clear ho this
  revert o
  decide +kernel

/-- The index is within the channels. -/
theorem within_apply (hj : j < 97) (i : S4x529x1x1.Idx) : b46 j s i = 1#1 := by
  obtain ⟨n, r, rfl⟩ : ∃ (n : Fin 4) (r : Fin 529), i = ix4 n r (0 : Fin 1) (0 : Fin 1) :=
    ⟨i 0, i 1, by funext a; fin_cases a; exacts [rfl, rfl, Subsingleton.elim (α := Fin 1) _ _, Subsingleton.elim (α := Fin 1) _ _]⟩
  obtain ⟨o, ho⟩ := Spec.exists_wins (Spec.masked (P j s hj n) (D s n) r)
  have : b46 j s (ix4 n r 0 0) = IntOp.andi (IntOp.cmpi .sge (b38 j s (ix4 n r 0 0)) 0#32) (IntOp.cmpi .sle (b38 j s (ix4 n r 0 0)) 31#32) := by
    pointwise [b46, b45, b44, b43, b42, b41, b40, b39]
  rw [this, index_apply j s hj n r o ho]
  clear ho this
  revert o
  decide +kernel

/-- The winner's potential. -/
theorem taken_apply (hj : j < 97) (n : Fin 4) (r : Fin 529) (o : Fin 32) (ho : Wins (Spec.masked (P j s hj n) (D s n) r) o) :
    (b52 j s (ix3 n r 0) : EReal) = Spec.masked (P j s hj n) (D s n) r o := by
  have h : b48 j s (ix3 n r 0) = 1#1 := Host.reduce_andi_one _ _ _ _ _ rfl (within_apply j s hj)
  have hs : b52 j s (ix3 n r 0) = Scalar.select (b48 j s (ix3 n r 0)) (b49 j s (ix3 n r 0)) (b51 j s (ix3 n r 0)) := rfl
  rw [hs, h]
  refine (Gather.channel_apply _ _ n r o ?_).trans (masked_apply j s hj n r o)
  rw [index_apply j s hj n r o ho]
  clear hs h ho
  revert o
  decide +kernel

theorem ofNat_inj (o o' : Fin 32) : (BitVec.ofNat 32 o'.val == BitVec.ofNat 32 o.val) = decide (o = o') := by
  revert o o'
  decide +kernel

open Classical in
/-- The words of the results: 1 at the winner of a lane that fires. -/
theorem spike_apply (hj : j < 97) (n : Fin 4) (r : Fin 529) (o o' : Fin 32) (ho : Wins (Spec.masked (P j s hj n) (D s n) r) o') :
    b64 j s (ix3 n r o) = if Fires (Spec.masked (P j s hj n) (D s n) r) ∧ o = o' then 1#32 else 0#32 := by
  have : b64 j s (ix3 n r o) = IntOp.muli (BitVec.setWidth 32 (IntOp.cmpi .eq (b29 j s (ix2 n r)) (BitVec.ofNat 32 o.val)))
      (BitVec.setWidth 32 (BitVec.ofBool (decide (Ideal.ofBits FTy.f32 1085066445#32 < (b52 j s (ix3 n r 0) : EReal))))) := by
    pointwise [b64, b63, b62, b61, b60, b59, b58, b57, b56, b55, b54, b53]
  rw [this, winner_apply j s hj n r o' ho, taken_apply j s hj n r o' ho, Spec.fires_iff ho]
  show IntOp.muli (BitVec.setWidth 32 (BitVec.ofBool (BitVec.ofNat 32 o'.val == BitVec.ofNat 32 o.val)))
    (BitVec.setWidth 32 (BitVec.ofBool (decide (θ < Spec.masked (P j s hj n) (D s n) r o')))) = _
  rw [ofNat_inj]
  by_cases h1 : o = o' <;> by_cases h2 : θ < Spec.masked (P j s hj n) (D s n) r o' <;> simp [h1, h2, IntOp.muli]

open Classical in
/-- A lane's results summed: whether it fires. -/
theorem fired_apply (hj : j < 97) (n : Fin 4) (r : Fin 529) :
    b66 j s (ix2 n r) = if Fires (Spec.masked (P j s hj n) (D s n) r) then 1#32 else 0#32 := by
  obtain ⟨o', ho⟩ := Spec.exists_wins (Spec.masked (P j s hj n) (D s n) r)
  have : b66 j s (ix2 n r) = Finset.univ.fold IntOp.addi 0#32 fun o : Fin 32 => b64 j s (ix3 n r o) := by
    pointwise [b66, b65]
  rw [this]
  simp only [spike_apply j s hj n r _ o' ho]
  have hs : (∑ o : Fin 32, (if Fires (Spec.masked (P j s hj n) (D s n) r) ∧ o = o' then 1#32 else 0#32 : BitVec 32).toNat)
      = if Fires (Spec.masked (P j s hj n) (D s n) r) then 1 else 0 := by
    rw [Finset.sum_eq_single o']
    · by_cases h : Fires (Spec.masked (P j s hj n) (D s n) r) <;> simp [h]
    · intro o _ h
      simp [h]
    · intro h
      exact absurd (Finset.mem_univ _) h
  apply BitVec.eq_of_toNat_eq
  rw [StableHlo.Predicate.toNat_fold_addi, hs]
  · split_ifs <;> rfl
  · rw [hs]
    split_ifs <;> norm_num

/-- The depression handed on. -/
theorem handed_apply (hj : j < 97) (n : Fin 4) (r : Fin 529) :
    b81 j s (ix2 n r) = handed (Spec.masked (P j s hj n) (D s n) r) (D s n r) := by
  have : b81 j s (ix2 n r) = IntOp.minsi 47#32 (IntOp.maxsi 0#32 (IntOp.subi (IntOp.addi (s.main_v57_2 (ix2 n r))
      (IntOp.muli (b66 j s (ix2 n r)) 48#32)) 1#32)) := by
    pointwise [b81, b80, b79, b78, b77, b76, b75, b74, b73, b72, b71, b70, b69, b68, b67]
  rw [this, fired_apply j s hj]
  show _ = IntOp.minsi 47#32 (IntOp.maxsi 0#32 (IntOp.subi (IntOp.addi (s.main_v57_2 (ix2 n r)) _) 1#32))
  by_cases h : Fires (Spec.masked (P j s hj n) (D s n) r)
  · rw [if_pos h, if_pos h]
    rfl
  · rw [if_neg h, if_neg h]
    rfl

open Classical in
/-- The result of a channel. -/
theorem result_apply (hj : j < 97) (n : Fin 4) (r : Fin 529) (o : Fin 32) :
    (b82 j s (ix3 n r o) : EReal)
      = if Fires (Spec.masked (P j s hj n) (D s n) r) ∧ Wins (Spec.masked (P j s hj n) (D s n) r) o then 1 else 0 := by
  obtain ⟨o', ho⟩ := Spec.exists_wins (Spec.masked (P j s hj n) (D s n) r)
  have : (b82 j s (ix3 n r o) : EReal) = (FloatOps.sitofp FTy.f32 (b64 j s (ix3 n r o)) : Ideal .f32) := by
    pointwise [b82]
  rw [this, spike_apply j s hj n r o o' ho]
  have hw : Wins (Spec.masked (P j s hj n) (D s n) r) o ↔ o = o' :=
    ⟨fun h => Spec.wins_unique h ho, fun h => h ▸ ho⟩
  rw [hw]
  split_ifs
  · exact sitofp_bit true
  · exact sitofp_bit false

end Cert.ReferenceIdeal.Lanes

end
-- ==== Proof.RefWindows.lean ====
/- The reference's windows: under tap `(i, kx, ky)` of position `(p, q)`, the padded spikes of the 48 times from `τ` on. -/
module

public import proofs.«01_k».proof.Proof.RefGather
public import Idealize.ShloMosaic.PureOps.Ideal

@[expose] public section

set_option maxRecDepth 16384

noncomputable section

namespace Cert.ReferenceIdeal.Pots

open Idealize.ShloMosaic Cert.ReferenceIdeal Cert.ReferenceIdeal.Gen Cert.ReferenceIdeal.Step

variable (x : (⟨S4x2x48x48x48, .f32⟩ : BufTy).Contents (Elt Ideal)) (w : (⟨S32x2x3x3, .f32⟩ : BufTy).Contents (Elt Ideal))
  (b : (⟨S32, .f32⟩ : BufTy).Contents (Elt Ideal))

theorem toInt_ofNat (k : ℕ) (hk : k < 864) : (BitVec.ofNat 32 k).toInt = k := by
  rw [BitVec.toInt_eq_toNat_of_lt (by rw [BitVec.toNat_ofNat]; omega), BitVec.toNat_ofNat, Nat.mod_eq_of_lt (by omega)]

theorem row_index (p : Fin 23) (kx : Fin 3) : (K_main_call2_v0 (F := Ideal) (ix3 p kx 0)).toInt = (2 * p.val + kx.val : ℕ) := by
  have : K_main_call2_v0 (F := Ideal) (ix3 p kx 0) = BitVec.ofNat 32 (2 * p.val + kx.val) := by
    pointwise [K_main_call2_v0, K_main_v28, K_main_v27, K_main_v26, K_main_v25, K_main_v24, K_main_v23, K_main_v22, K_main_v21, K_main_v20, K_main_c_3]
    rw [BitVec.ofNat_add, BitVec.ofNat_mul]
    rfl
  rw [this, toInt_ofNat _ (by omega)]

theorem col_index (p : Fin 23) (kx : Fin 3) : (K_main_call3_v0 (F := Ideal) (ix3 p kx 0)).toInt = (2 * p.val + kx.val : ℕ) := by
  have : K_main_call3_v0 (F := Ideal) (ix3 p kx 0) = BitVec.ofNat 32 (2 * p.val + kx.val) := by
    pointwise [K_main_call3_v0, K_main_v37, K_main_v36, K_main_v35, K_main_v34, K_main_v33, K_main_v32, K_main_v31, K_main_v30, K_main_v29, K_main_c_4]
    rw [BitVec.ofNat_add, BitVec.ofNat_mul]
    rfl
  rw [this, toInt_ofNat _ (by omega)]

theorem time_index (τ : Fin 97) (l : Fin 48) : (K_main_call4_v0 (F := Ideal) (ix3 τ l 0)).toInt = (τ.val + l.val : ℕ) := by
  have : K_main_call4_v0 (F := Ideal) (ix3 τ l 0) = BitVec.ofNat 32 (τ.val + l.val) := by
    pointwise [K_main_call4_v0, K_main_v44, K_main_v43, K_main_v42, K_main_v41, K_main_v40, K_main_v39, K_main_v38]
    rw [BitVec.ofNat_add]
    rfl
  rw [this, toInt_ofNat _ (by omega)]

/-- The spikes padded in time. -/
theorem padded_apply (n : Fin 4) (i : Fin 2) (X Y : Fin 48) (e : Fin 144) :
    (A_main_v19 x w b (ix5 n i X Y e) : EReal) = if h : 48 ≤ e.val ∧ e.val - 48 < 48 then x (ix5 n i X Y ⟨e.val - 48, h.2⟩) else 0 := by
  pointwise [A_main_v19]
  split_ifs
  · rfl
  · show (((0 : BitVec 32).toInt : ℝ) : EReal) = 0
    simp

theorem windows_apply (n : Fin 4) (i : Fin 2) (p : Fin 23) (kx : Fin 3) (q : Fin 23) (ky : Fin 3) (τ : Fin 97) (l : Fin 48) :
    (A_main_v47 x w b (ix8 n i p kx q ky τ l) : EReal)
      = if h : 48 ≤ τ.val + l.val ∧ τ.val + l.val - 48 < 48 then
          x (ix5 n i ⟨2 * p.val + kx.val, by omega⟩ ⟨2 * q.val + ky.val, by omega⟩ ⟨τ.val + l.val - 48, h.2⟩)
        else 0 := by
  refine (Gather.times_apply _ _ n i p kx q ky τ l ⟨τ.val + l.val, by omega⟩ (time_index τ l)).trans ?_
  refine (Gather.cols_apply _ _ n i p kx q ky _ ⟨2 * q.val + ky.val, by omega⟩ (col_index q ky)).trans ?_
  refine (Gather.rows_apply _ _ n i p kx _ _ ⟨2 * p.val + kx.val, by omega⟩ (row_index p kx)).trans ?_
  exact padded_apply x w b n i _ _ _

end Cert.ReferenceIdeal.Pots

end
-- ==== Proof.RefPots.lean ====
/- The potentials the reference computes: the convolution in time of the padded spikes with the reversed filter is the sum of the
   responses to all spikes. -/
module

public import proofs.«01_k».proof.Proof.RefWindows
public import proofs.«01_k».proof.Proof.Potentials
public import proofs.«01_k».proof.Proof.Literals

@[expose] public section

set_option maxRecDepth 16384

noncomputable section

namespace Cert.ReferenceIdeal.Pots

open Idealize.ShloMosaic Cert.ReferenceIdeal Cert.ReferenceIdeal.Gen Cert.ReferenceIdeal.Step
open Cert.Spec (resp pot)

/-! ## The filter -/

/-- A weight of at most 1 has leaked after 48 steps. -/
theorem resp_late (s : ℤ) (w : EReal) (hw : w ≤ 1) (hs : 48 ≤ s) : resp s w = 0 := by
  unfold resp
  split_ifs
  · refine max_eq_right ((min_le_right _ _).trans ?_)
    induction w with
    | bot =>
      rw [EReal.coe_mul_bot_of_pos (by norm_num), EReal.bot_sub]
      exact bot_le
    | top => exact absurd hw (not_le.mpr (by exact EReal.coe_lt_top 1))
    | coe w =>
      have h1 : w ≤ 1 := by exact_mod_cast hw
      have h2 : (48 : ℝ) ≤ s := by exact_mod_cast hs
      rw [← EReal.coe_mul, ← EReal.coe_sub, ← EReal.coe_zero, EReal.coe_le_coe_iff]
      linarith
  · rfl

theorem resp_early (s : ℤ) (w : EReal) (hs : s < 0) : resp s w = 0 := if_neg (not_le.mpr hs)

/-- The rising flank cut off by the leak. -/
theorem flank_eq (k : ℕ) (w : EReal) :
    max 0 (min (Ideal.div ((k : ℝ) : EReal) ((16 : ℝ) : EReal))
      (Ideal.div (-(((k : ℝ) : EReal) - w * ((16 : ℝ) : EReal))) ((32 : ℝ) : EReal) + w)) = resp k w := by
  unfold resp
  rw [if_pos (Int.natCast_nonneg k), max_comm, Ideal.div_coe (by norm_num), Ideal.div_coe (by norm_num), ← EReal.coe_mul]
  congr 2
  · congr 1; push_cast; ring
  · induction w with
    | bot => rw [EReal.add_bot, EReal.coe_mul_bot_of_pos (by norm_num), EReal.bot_sub]
    | top => rw [EReal.top_mul_coe_of_pos (by norm_num), sub_eq_add_neg ((k : ℝ) : EReal), EReal.neg_top, EReal.add_bot, EReal.neg_bot, EReal.top_mul_coe_of_pos (by norm_num),
        EReal.top_add_top, EReal.coe_mul_top_of_pos (by norm_num), EReal.top_sub_coe]
    | coe w =>
      rw [← EReal.coe_mul, ← EReal.coe_sub, ← EReal.coe_neg, ← EReal.coe_mul, ← EReal.coe_add, ← EReal.coe_mul, ← EReal.coe_sub]
      congr 1
      push_cast
      ring

variable (x : (⟨S4x2x48x48x48, .f32⟩ : BufTy).Contents (Elt Ideal)) (w : (⟨S32x2x3x3, .f32⟩ : BufTy).Contents (Elt Ideal))
  (b : (⟨S32, .f32⟩ : BufTy).Contents (Elt Ideal))

theorem sitofp_ofNat (k : ℕ) (hk : k < 864) : (FloatOps.sitofp FTy.f32 (BitVec.ofNat 32 k) : Ideal .f32) = ((k : ℝ) : EReal) := by
  show (((BitVec.ofNat 32 k).toInt : ℝ) : EReal) = _
  rw [toInt_ofNat k hk]
  norm_cast

theorem filter_apply (o : Fin 32) (i : Fin 2) (kx ky : Fin 3) (l : Fin 48) :
    (A_main_v18 x w b (ix5 o i kx ky l) : EReal) = resp (47 - l.val : ℕ) (w (ix4 o i kx ky)) := by
  have key : ∀ k : ℕ, k < 864 → max 0 (min (Ideal.div (FloatOps.sitofp FTy.f32 (BitVec.ofNat 32 k) : Ideal .f32) (Ideal.ofBits .f32 1098907648#32))
      (Ideal.div (-((FloatOps.sitofp FTy.f32 (BitVec.ofNat 32 k) : Ideal .f32) - w (ix4 o i kx ky) * Ideal.ofBits .f32 1098907648#32))
        (Ideal.ofBits .f32 1107296256#32) + w (ix4 o i kx ky))) = resp k (w (ix4 o i kx ky)) := by
    intro k hk
    rw [sitofp_ofNat k hk, Literals.sixteen, Literals.thirtytwo]
    exact flank_eq k _
  have hr : (Fin.rev l).val = 47 - l.val := by rw [Fin.val_rev]; omega
  rw [← key _ (by omega), ← hr]
  pointwise [A_main_v18, A_main_v17, A_main_v15, A_main_v14, A_main_v13, A_main_v12, A_main_v11, A_main_v9, A_main_v8, A_main_v7, A_main_v6, A_main_v4, K_main_v16, K_main_cst_2, K_main_v3, K_main_v2, K_main_v1, K_main_v0, K_main_cst, K_main_v5, K_main_cst_0, K_main_v10, K_main_cst_1]
  rfl

/-! ## The convolution in time -/

/-- The filter reversed and run over the padded spikes: each spike answers once, at its age. -/
theorem sum_times (τ : ℕ) (X : Fin 48 → EReal) (v : EReal) (hv : v ≤ 1) :
    (∑ l : Fin 48, (if h : 48 ≤ τ + l.val ∧ τ + l.val - 48 < 48 then X ⟨τ + l.val - 48, h.2⟩ else 0) * resp (47 - l.val : ℕ) v)
      = ∑ t : Fin 48, resp (τ - 1 - t.val) v * X t := by
  rw [← Finset.sum_filter_of_ne (s := Finset.univ) (p := fun l : Fin 48 => 48 ≤ τ + l.val ∧ τ + l.val - 48 < 48),
    ← Finset.sum_filter_of_ne (s := Finset.univ) (p := fun t : Fin 48 => t.val < τ ∧ τ ≤ t.val + 48)]
  · refine Finset.sum_bij' (fun l hl => ⟨τ + l.val - 48, ((Finset.mem_filter.mp hl).2).2⟩)
      (fun t ht => ⟨t.val + 48 - τ, by have := (Finset.mem_filter.mp ht).2; omega⟩) ?_ ?_ ?_ ?_ ?_
    · intro l hl
      have := (Finset.mem_filter.mp hl).2
      refine Finset.mem_filter.mpr ⟨Finset.mem_univ _, ?_⟩
      dsimp only; omega
    · intro t ht
      have := (Finset.mem_filter.mp ht).2
      refine Finset.mem_filter.mpr ⟨Finset.mem_univ _, ?_⟩
      dsimp only; omega
    · intro l hl
      have := (Finset.mem_filter.mp hl).2
      apply Fin.ext; dsimp only; omega
    · intro t ht
      have := (Finset.mem_filter.mp ht).2
      apply Fin.ext; dsimp only; omega
    · intro l hl
      have h := (Finset.mem_filter.mp hl).2
      rw [dif_pos h, mul_comm]
      congr 2
      dsimp only
      omega
  · intro t _ ht
    by_contra hc
    refine ht ?_
    by_cases h : t.val < τ
    · rw [resp_late _ v hv (by omega), zero_mul]
    · rw [resp_early _ v (by omega), zero_mul]
  · intro l _ hl
    by_contra hc
    exact hl (by rw [dif_neg hc, zero_mul])

/-! ## The contraction over taps and times -/

/-- The contraction's dimension numbers. -/
abbrev D : DotDims S4x2x23x3x23x3x97x48 S32x2x3x3x48 S4x23x23x97x32 :=
  dot_S4x2x23x3x23x3x97x48_S32x2x3x3x48_S4x23x23x97x32_1357_1234_0246_0_n_n

/-- The contracted index of a tap and a time. -/
def contracted (i : Fin 2) (kx ky : Fin 3) (l : Fin 48) : D.contr.Idx := fun a => match a with
  | ⟨0, _⟩ => i
  | ⟨1, _⟩ => kx
  | ⟨2, _⟩ => ky
  | ⟨3, _⟩ => l

def contractedEquiv : ((Fin 2 × Fin 3) × Fin 3) × Fin 48 ≃ D.contr.Idx where
  toFun p := contracted p.1.1.1 p.1.1.2 p.1.2 p.2
  invFun k := (((k ⟨0, by decide⟩, k ⟨1, by decide⟩), k ⟨2, by decide⟩), k ⟨3, by decide⟩)
  left_inv _ := rfl
  right_inv k := by
    funext a
    match a with
    | ⟨0, _⟩ => rfl
    | ⟨1, _⟩ => rfl
    | ⟨2, _⟩ => rfl
    | ⟨3, _⟩ => rfl

theorem dot_apply (n : Fin 4) (p q : Fin 23) (τ : Fin 97) (o : Fin 32) :
    (A_main_v48 x w b (ix5 n p q τ o) : EReal) = ∑ i : Fin 2, ∑ kx : Fin 3, ∑ ky : Fin 3, ∑ l : Fin 48,
      (A_main_v47 x w b (ix8 n i p kx q ky τ l) : EReal) * A_main_v18 x w b (ix5 o i kx ky l) := by
  unfold A_main_v48
  simp only [Host.dotGeneral]
  refine (Ideal.dotGeneral_apply D _ _ _ _ _).trans ?_
  rw [← Fintype.sum_prod_type', ← Fintype.sum_prod_type', ← Fintype.sum_prod_type']
  refine (Fintype.sum_equiv contractedEquiv _ _ fun k => ?_).symm
  obtain ⟨⟨⟨i, kx⟩, ky⟩, l⟩ := k
  congr 2
  · funext a
    fin_cases a <;> rfl
  · funext a
    fin_cases a <;> rfl

/-- The reference's potentials. -/
theorem pots_apply (hw : ∀ o i kx ky, (w (ix4 o i kx ky) : EReal) ≤ 1) (τ : Fin 97) (n : Fin 4) (r : Fin 529) (o : Fin 32) :
    (A_main_v54 x w b (ix4 τ n r o) : EReal)
      = pot (fun n i X Y t => x (ix5 n i X Y t)) (fun o i kx ky => w (ix4 o i kx ky)) (fun o => b (ix1 o)) n τ.val r o := by
  have : (A_main_v54 x w b (ix4 τ n r o) : EReal)
      = A_main_v48 x w b (ix5 n ⟨r.val / 23, by omega⟩ ⟨r.val % 23, by omega⟩ τ o) + b (ix1 o) := by
    pointwise [A_main_v54, A_main_v53, A_main_v52, A_main_v51, A_main_v50, A_main_v49]
  rw [this, dot_apply]
  unfold pot
  refine congrArg₂ (· + ·) (Finset.sum_congr rfl fun i _ => Finset.sum_congr rfl fun kx _ => Finset.sum_congr rfl fun ky _ => ?_) rfl
  simp only [windows_apply, filter_apply]
  exact sum_times τ.val (fun t => x (ix5 n i ⟨2 * (r.val / 23) + kx.val, by omega⟩ ⟨2 * (r.val % 23) + ky.val, by omega⟩ t)) _ (hw o i kx ky)

end Cert.ReferenceIdeal.Pots

end
-- ==== Proof.RefOut.lean ====
/- The array the reference leaves: 1 at each time a channel of a position wins and its potential is above the threshold, else 0. -/
module

public import proofs.«01_k».proof.Proof.RefLanes
public import proofs.«01_k».proof.Proof.RefPots
public import proofs.«01_k».proof.Proof.RefStepRun

@[expose] public section

set_option maxRecDepth 16384

noncomputable section

namespace Cert.ReferenceIdeal.Out

open Idealize.ShloMosaic Cert.ReferenceIdeal Cert.ReferenceIdeal.Gen Cert.ReferenceIdeal.Step Idealize.SL.Sem
open Cert.Spec (θ pot)

variable (x : (⟨S4x2x48x48x48, .f32⟩ : BufTy).Contents (Elt Ideal)) (w : (⟨S32x2x3x3, .f32⟩ : BufTy).Contents (Elt Ideal))
  (b : (⟨S32, .f32⟩ : BufTy).Contents (Elt Ideal))

/-- The states the loop goes through. -/
def it (k : ℕ) : State Ideal := Nat.rec (motive := fun _ => State Ideal) (init x w b) (fun n s => step n s) k

theorem it_succ (k : ℕ) : it x w b (k + 1) = step k (it x w b k) := rfl

/-- The potentials of a batch. -/
abbrev pots (n : Fin 4) (τ : ℕ) (r : Fin 529) (o : Fin 32) : EReal :=
  pot (fun n i X Y t => x (ix5 n i X Y t)) (fun o i kx ky => w (ix4 o i kx ky)) (fun o => b (ix1 o)) n τ r o

theorem it_pots (k : ℕ) : (it x w b k).main_v57_0 = A_main_v54 x w b := by
  induction k with
  | zero => rfl
  | succ k ih => rw [it_succ, StepRun.step_pots]; exact ih

variable (hw : ∀ o i kx ky, (w (ix4 o i kx ky) : EReal) ≤ 1)

include hw in
theorem potentials_eq (k : ℕ) (hk : k < 97) (n : Fin 4) : Lanes.P k (it x w b k) hk n = pots x w b n k := by
  funext r o
  unfold Lanes.P
  rw [it_pots]
  exact Pots.pots_apply x w b hw ⟨k, hk⟩ n r o

include hw in
/-- The depressions before trip `k`. -/
theorem depressions_eq (k : ℕ) (hk : k ≤ 97) (n : Fin 4) : Lanes.D (it x w b k) n = Spec.dep (pots x w b n) k := by
  induction k with
  | zero => funext r; rfl
  | succ k ih =>
    funext r
    have hs : Lanes.D (it x w b (k + 1)) n r = b81 k (it x w b k) (ix2 n r) := by
      unfold Lanes.D
      rw [it_succ, StepRun.step_dep]
    rw [hs, Lanes.handed_apply k (it x w b k) (by omega) n r]
    rw [potentials_eq x w b hw, ih (by omega)]
    rfl

include hw in
/-- The results of the times before `k`, once trip `k` is reached. -/
theorem results_eq (k : ℕ) (hk : k ≤ 97) (n : Fin 4) (τ : Fin 97) (hτ : τ.val < k) (r : Fin 529) (o : Fin 32) :
    ((it x w b k).main_v57_3 (ix4 τ n r o) : EReal) = Spec.out (pots x w b n) τ.val r o := by
  induction k with
  | zero => exact absurd hτ (Nat.not_lt_zero _)
  | succ k ih =>
    rw [it_succ, StepRun.step_out, Lanes.write_apply k (it x w b k) (by omega) τ n r o]
    by_cases h : τ.val = k
    · rw [if_pos h, Lanes.result_apply k (it x w b k) (by omega), potentials_eq x w b hw, depressions_eq x w b hw k (by omega), h]
      rfl
    · rw [if_neg h]
      exact ih (by omega) (by omega)

/-- The result in plain terms. -/
def result : S4x32x23x23x97.Idx → EReal := fun y =>
  Spec.out (pots x w b (y 0)) (y 4).val ⟨23 * (y 2).val + (y 3).val, by
    have := (y 2).isLt; have := (y 3).isLt
    change (y 2).val < 23 at *; change (y 3).val < 23 at *; omega⟩ (y 1)

include hw in
theorem final : R_main_v59 (it x w b 97) = result x w b := by
  funext y
  obtain ⟨n, o, p, q, τ, rfl⟩ : ∃ (n : Fin 4) (o : Fin 32) (p q : Fin 23) (τ : Fin 97), y = ix5 n o p q τ :=
    ⟨y 0, y 1, y 2, y 3, y 4, by funext a; fin_cases a <;> rfl⟩
  have : R_main_v59 (it x w b 97) (ix5 n o p q τ) = (it x w b 97).main_v57_3 (ix4 τ n ⟨23 * p.val + q.val, by omega⟩ o) := by
    have hr : (⟨23 * p.val + q.val, by omega⟩ : Fin 529) = ⟨p.val * 23 + q.val, by omega⟩ := Fin.ext (by dsimp only; omega)
    rw [hr]
    pointwise [R_main_v59]
  rw [this]
  exact results_eq x w b hw 97 le_rfl n τ τ.isLt _ o

end Cert.ReferenceIdeal.Out

end
-- ==== Proof.Equality.lean ====
/- The equation: under the precondition, the kernel and the reference leave the same array. -/
module

public import proofs.«01_k».proof.Defs
public import proofs.«01_k».proof.Proof.Drawn
public import proofs.«01_k».proof.Proof.KernelOut
public import proofs.«01_k».proof.Proof.RefOut

@[expose] public section

noncomputable section

namespace Cert.Equality

open Idealize.ShloMosaic Idealize.SL.Sem

/-- Both results are `Spec.out` of the same potentials. -/
theorem results (m : (l : Loc KernelIdeal.nD KernelIdeal.τ KernelIdeal.sig) → Buf (Elt Ideal) l) (c : Dev KernelIdeal.nD) :
    ReferenceIdeal.Out.result (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2)) = KernelIdeal.Out.result m c := rfl

theorem algebraic : Cert.algebraic_KernelIdeal_ReferenceIdeal_pre_drawn (hKernelIdeal := KernelIdeal.Gen.facts)
    (hReferenceIdeal := ReferenceIdeal.Gen.facts) (hPre_drawn := Drawn.facts) := by
  intro m ρ m' ρ' hpre hagree
  refine ⟨KernelIdeal.Out.result m, ?_, ?_⟩
  · refine (θ_run _ _ _).mono (fun _ h c => ⟨(h c).1.trans ?_, (h c).2⟩) (KernelIdeal.Value.run_blocks (F := Ideal) m ρ)
    exact KernelIdeal.Out.final m c fun o => Drawn.biases (hpre c) o
  · refine (θ_run _ _ _).mono (fun _ h c => ⟨(h c).1.trans ?_, (h c).2⟩)
      (ReferenceIdeal.StepRun.run_iter (F := Ideal) m' ρ' (fun c => ReferenceIdeal.Out.it _ _ _) (fun _ => rfl) (fun _ _ => rfl))
    rw [(hagree c).1, (hagree c).2.1, (hagree c).2.2]
    exact (ReferenceIdeal.Out.final _ _ _ (Drawn.weights (hpre c))).trans (results m c)

end Cert.Equality

end
-- ==== Proof.lean ====
/- The claims: the two kernels and the reference run to the end with their arguments unchanged and every semaphore at zero,
   the idealised kernel differs from the kernel by nothing but the reading of the floats, and, given the precondition,
   the idealised kernel and the reference leave equal arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.RefFrame
public import proofs.«01_k».proof.Proof.Equality
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Drawn.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Frame.frame m ρ,
  fun m ρ _ => Cert.ReferenceIdeal.Frame.frame m ρ,
  trivial,
  Cert.Equality.algebraic⟩

end Cert.Proof

end
